-- ==== Defs.lean ====
def Pre_Expert [hPre_listed : Cert.Pre_listed.Facts] (m : (ℓ : Loc Cert.Expert.nD Cert.Expert.τ Cert.Expert.sig) → Buf (Elt Bits) ℓ) : Prop :=
  ∀ c : Dev Cert.Expert.nD,
    (Cert.Pre_listed.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4)) (m ((c.tc : Thread Cert.Expert.nD Cert.Expert.τ).loc Cert.Expert.main_arg5)) (m ((c.tc : Thread Cert.Expert.nD Cert.Expert.τ).loc Cert.Expert.main_arg6)) (m ((c.tc : Thread Cert.Expert.nD Cert.Expert.τ).loc Cert.Expert.main_arg7)) (m ((c.tc : Thread Cert.Expert.nD Cert.Expert.τ).loc Cert.Expert.main_arg8))) = (fun _ => 1#1)

def Pre_ExpertIdeal [hPre_listed : Cert.Pre_listed.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_listed.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6)) (m ((c.tc : Thread Cert.ExpertIdeal.nD Cert.ExpertIdeal.τ).loc Cert.ExpertIdeal.main_arg7)) (m ((c.tc : Thread Cert.ExpertIdeal.nD Cert.ExpertIdeal.τ).loc Cert.ExpertIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_listed [hPre_listed : Cert.Pre_listed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_listed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Probs (m : (ℓ : Loc Cert.Probs.nD Cert.Probs.τ Cert.Probs.sig) → Buf (Elt Bits) ℓ) : Prop :=
  True

def Pre_ProbsIdeal (m : (ℓ : Loc Cert.ProbsIdeal.nD Cert.ProbsIdeal.τ Cert.ProbsIdeal.sig) → Buf (Elt Ideal) ℓ) : Prop :=
  True

def Pre_ProbsReferenceIdeal (m : (ℓ : Loc Cert.ProbsReferenceIdeal.nD Cert.ProbsReferenceIdeal.τ Cert.ProbsReferenceIdeal.sig) → Buf (Elt Ideal) ℓ) : Prop :=
  True

def Pre_LayerIdeal (m : (ℓ : Loc Cert.LayerIdeal.nD Cert.LayerIdeal.τ Cert.LayerIdeal.sig) → Buf (Elt Ideal) ℓ) : Prop :=
  True

def Pre_LayerIdeal_finite [hPre_finite : Cert.Pre_finite.Facts] (m : (ℓ : Loc Cert.LayerIdeal.nD Cert.LayerIdeal.τ Cert.LayerIdeal.sig) → Buf (Elt Ideal) ℓ) : Prop :=
  ∀ c : Dev Cert.LayerIdeal.nD,
    (Cert.Pre_finite.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8))) = (fun _ => 1#1)

def Pre_LayerReferenceIdeal (m : (ℓ : Loc Cert.LayerReferenceIdeal.nD Cert.LayerReferenceIdeal.τ Cert.LayerReferenceIdeal.sig) → Buf (Elt Ideal) ℓ) : Prop :=
  True

def Pre_LayerReferenceIdeal_finite [hPre_finite : Cert.Pre_finite.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_finite.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6)) (m ((c.tc : Thread Cert.LayerReferenceIdeal.nD Cert.LayerReferenceIdeal.τ).loc Cert.LayerReferenceIdeal.main_arg7)) (m ((c.tc : Thread Cert.LayerReferenceIdeal.nD Cert.LayerReferenceIdeal.τ).loc Cert.LayerReferenceIdeal.main_arg8))) = (fun _ => 1#1)

def quiescent_Expert [hExpert : Cert.Expert.Facts] [hPre_listed : Cert.Pre_listed.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5)
      ∧ r.2.mem ((c.tc : Thread Cert.Expert.nD Cert.Expert.τ).loc Cert.Expert.main_arg6) = m ((c.tc : Thread Cert.Expert.nD Cert.Expert.τ).loc Cert.Expert.main_arg6)
      ∧ r.2.mem ((c.tc : Thread Cert.Expert.nD Cert.Expert.τ).loc Cert.Expert.main_arg7) = m ((c.tc : Thread Cert.Expert.nD Cert.Expert.τ).loc Cert.Expert.main_arg7)
      ∧ r.2.mem ((c.tc : Thread Cert.Expert.nD Cert.Expert.τ).loc Cert.Expert.main_arg8) = m ((c.tc : Thread Cert.Expert.nD Cert.Expert.τ).loc Cert.Expert.main_arg8))
      ∧ r.2.sem = fun _ => 0)

def quiescent_ExpertIdeal [hExpertIdeal : Cert.ExpertIdeal.Facts] [hPre_listed : Cert.Pre_listed.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
      ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6)
      ∧ r.2.mem ((c.tc : Thread Cert.ExpertIdeal.nD Cert.ExpertIdeal.τ).loc Cert.ExpertIdeal.main_arg7) = m ((c.tc : Thread Cert.ExpertIdeal.nD Cert.ExpertIdeal.τ).loc Cert.ExpertIdeal.main_arg7)
      ∧ r.2.mem ((c.tc : Thread Cert.ExpertIdeal.nD Cert.ExpertIdeal.τ).loc Cert.ExpertIdeal.main_arg8) = m ((c.tc : Thread Cert.ExpertIdeal.nD Cert.ExpertIdeal.τ).loc Cert.ExpertIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_listed [hReferenceIdeal : Cert.ReferenceIdeal.Facts] [hPre_listed : Cert.Pre_listed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_listed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Probs [hProbs : Cert.Probs.Facts] : Prop :=
  ∀ (m : (ℓ : Loc Cert.Probs.nD Cert.Probs.τ Cert.Probs.sig) → Buf (Elt Bits) ℓ) (g : Dev Cert.Probs.nD → PrngReg), Pre_Probs m →
    θ_run (Cert.Probs.defs (F := Bits)) (Cert.Probs.threads (F := Bits)) ⟨m, fun _ => 0, g⟩ (fun r => (∀ c : Dev Cert.Probs.nD,
      r.2.mem ((c.tc : Thread Cert.Probs.nD Cert.Probs.τ).loc Cert.Probs.main_arg0) = m ((c.tc : Thread Cert.Probs.nD Cert.Probs.τ).loc Cert.Probs.main_arg0)
      ∧ r.2.mem ((c.tc : Thread Cert.Probs.nD Cert.Probs.τ).loc Cert.Probs.main_arg1) = m ((c.tc : Thread Cert.Probs.nD Cert.Probs.τ).loc Cert.Probs.main_arg1)
      ∧ r.2.mem ((c.tc : Thread Cert.Probs.nD Cert.Probs.τ).loc Cert.Probs.main_arg2) = m ((c.tc : Thread Cert.Probs.nD Cert.Probs.τ).loc Cert.Probs.main_arg2))
      ∧ r.2.sem = fun _ => 0)

def quiescent_ProbsIdeal [hProbsIdeal : Cert.ProbsIdeal.Facts] : Prop :=
  ∀ (m : (ℓ : Loc Cert.ProbsIdeal.nD Cert.ProbsIdeal.τ Cert.ProbsIdeal.sig) → Buf (Elt Ideal) ℓ) (g : Dev Cert.ProbsIdeal.nD → PrngReg), Pre_ProbsIdeal m →
    θ_run (Cert.ProbsIdeal.defs (F := Ideal)) (Cert.ProbsIdeal.threads (F := Ideal)) ⟨m, fun _ => 0, g⟩ (fun r => (∀ c : Dev Cert.ProbsIdeal.nD,
      r.2.mem ((c.tc : Thread Cert.ProbsIdeal.nD Cert.ProbsIdeal.τ).loc Cert.ProbsIdeal.main_arg0) = m ((c.tc : Thread Cert.ProbsIdeal.nD Cert.ProbsIdeal.τ).loc Cert.ProbsIdeal.main_arg0)
      ∧ r.2.mem ((c.tc : Thread Cert.ProbsIdeal.nD Cert.ProbsIdeal.τ).loc Cert.ProbsIdeal.main_arg1) = m ((c.tc : Thread Cert.ProbsIdeal.nD Cert.ProbsIdeal.τ).loc Cert.ProbsIdeal.main_arg1)
      ∧ r.2.mem ((c.tc : Thread Cert.ProbsIdeal.nD Cert.ProbsIdeal.τ).loc Cert.ProbsIdeal.main_arg2) = m ((c.tc : Thread Cert.ProbsIdeal.nD Cert.ProbsIdeal.τ).loc Cert.ProbsIdeal.main_arg2))
      ∧ r.2.sem = fun _ => 0)

def quiescent_ProbsReferenceIdeal [hProbsReferenceIdeal : Cert.ProbsReferenceIdeal.Facts] : Prop :=
  ∀ (m : (ℓ : Loc Cert.ProbsReferenceIdeal.nD Cert.ProbsReferenceIdeal.τ Cert.ProbsReferenceIdeal.sig) → Buf (Elt Ideal) ℓ) (g : Dev Cert.ProbsReferenceIdeal.nD → PrngReg), Pre_ProbsReferenceIdeal m →
    θ_run (Cert.ProbsReferenceIdeal.defs (F := Ideal)) (onTc (τ := Cert.ProbsReferenceIdeal.τ) (Cert.ProbsReferenceIdeal.main (F := Ideal))) ⟨m, fun _ => 0, g⟩ (fun r => (∀ c : Dev Cert.ProbsReferenceIdeal.nD,
      r.2.mem ((c.tc : Thread Cert.ProbsReferenceIdeal.nD Cert.ProbsReferenceIdeal.τ).loc Cert.ProbsReferenceIdeal.main_arg0) = m ((c.tc : Thread Cert.ProbsReferenceIdeal.nD Cert.ProbsReferenceIdeal.τ).loc Cert.ProbsReferenceIdeal.main_arg0)
      ∧ r.2.mem ((c.tc : Thread Cert.ProbsReferenceIdeal.nD Cert.ProbsReferenceIdeal.τ).loc Cert.ProbsReferenceIdeal.main_arg1) = m ((c.tc : Thread Cert.ProbsReferenceIdeal.nD Cert.ProbsReferenceIdeal.τ).loc Cert.ProbsReferenceIdeal.main_arg1)
      ∧ r.2.mem ((c.tc : Thread Cert.ProbsReferenceIdeal.nD Cert.ProbsReferenceIdeal.τ).loc Cert.ProbsReferenceIdeal.main_arg2) = m ((c.tc : Thread Cert.ProbsReferenceIdeal.nD Cert.ProbsReferenceIdeal.τ).loc Cert.ProbsReferenceIdeal.main_arg2))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (Cert.LayerIdeal.threads (F := Ideal)) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8))
      ∧ r.2.sem = fun _ => 0)

def quiescent_LayerIdeal_pre_finite [hLayerIdeal : Cert.LayerIdeal.Facts] [hPre_finite : Cert.Pre_finite.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_finite m →
    θ_run (Cert.LayerIdeal.defs (F := Ideal)) (Cert.LayerIdeal.threads (F := Ideal)) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8))
      ∧ r.2.sem = fun _ => 0)

def quiescent_LayerReferenceIdeal_pre_finite [hLayerReferenceIdeal : Cert.LayerReferenceIdeal.Facts] [hPre_finite : Cert.Pre_finite.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal_finite m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8))
      ∧ r.2.sem = fun _ => 0)

def preserves_Expert_ExpertIdeal : Prop :=
  True

def algebraic_ExpertIdeal_ReferenceIdeal [hExpertIdeal : Cert.ExpertIdeal.Facts] [hReferenceIdeal : Cert.ReferenceIdeal.Facts] [hPre_listed : Cert.Pre_listed.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExpertIdeal m →
    (∀ c : Dev Cert.ExpertIdeal.nD,
      m' ((c.tc : Thread Cert.ReferenceIdeal.nD Cert.ReferenceIdeal.τ).loc Cert.ReferenceIdeal.main_arg0) = m ((c.tc : Thread Cert.ExpertIdeal.nD Cert.ExpertIdeal.τ).loc Cert.ExpertIdeal.main_arg0)
      ∧ m' ((c.tc : Thread Cert.ReferenceIdeal.nD Cert.ReferenceIdeal.τ).loc Cert.ReferenceIdeal.main_arg1) = m ((c.tc : Thread Cert.ExpertIdeal.nD Cert.ExpertIdeal.τ).loc Cert.ExpertIdeal.main_arg1)
      ∧ m' ((c.tc : Thread Cert.ReferenceIdeal.nD Cert.ReferenceIdeal.τ).loc Cert.ReferenceIdeal.main_arg2) = m ((c.tc : Thread Cert.ExpertIdeal.nD Cert.ExpertIdeal.τ).loc Cert.ExpertIdeal.main_arg2)
      ∧ m' ((c.tc : Thread Cert.ReferenceIdeal.nD Cert.ReferenceIdeal.τ).loc Cert.ReferenceIdeal.main_arg3) = m ((c.tc : Thread Cert.ExpertIdeal.nD Cert.ExpertIdeal.τ).loc Cert.ExpertIdeal.main_arg3)
      ∧ m' ((c.tc : Thread Cert.ReferenceIdeal.nD Cert.ReferenceIdeal.τ).loc Cert.ReferenceIdeal.main_arg4) = m ((c.tc : Thread Cert.ExpertIdeal.nD Cert.ExpertIdeal.τ).loc Cert.ExpertIdeal.main_arg4)
      ∧ m' ((c.tc : Thread Cert.ReferenceIdeal.nD Cert.ReferenceIdeal.τ).loc Cert.ReferenceIdeal.main_arg5) = m ((c.tc : Thread Cert.ExpertIdeal.nD Cert.ExpertIdeal.τ).loc Cert.ExpertIdeal.main_arg5)
      ∧ m' ((c.tc : Thread Cert.ReferenceIdeal.nD Cert.ReferenceIdeal.τ).loc Cert.ReferenceIdeal.main_arg6) = m ((c.tc : Thread Cert.ExpertIdeal.nD Cert.ExpertIdeal.τ).loc Cert.ExpertIdeal.main_arg6)
      ∧ m' ((c.tc : Thread Cert.ReferenceIdeal.nD Cert.ReferenceIdeal.τ).loc Cert.ReferenceIdeal.main_arg7) = m ((c.tc : Thread Cert.ExpertIdeal.nD Cert.ExpertIdeal.τ).loc Cert.ExpertIdeal.main_arg7)
      ∧ m' ((c.tc : Thread Cert.ReferenceIdeal.nD Cert.ReferenceIdeal.τ).loc Cert.ReferenceIdeal.main_arg8) = m ((c.tc : Thread Cert.ExpertIdeal.nD Cert.ExpertIdeal.τ).loc Cert.ExpertIdeal.main_arg8)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
          ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6)
          ∧ r.2.mem ((c.tc : Thread Cert.ExpertIdeal.nD Cert.ExpertIdeal.τ).loc Cert.ExpertIdeal.main_arg7) = m ((c.tc : Thread Cert.ExpertIdeal.nD Cert.ExpertIdeal.τ).loc Cert.ExpertIdeal.main_arg7)
          ∧ r.2.mem ((c.tc : Thread Cert.ExpertIdeal.nD Cert.ExpertIdeal.τ).loc Cert.ExpertIdeal.main_arg8) = m ((c.tc : Thread Cert.ExpertIdeal.nD Cert.ExpertIdeal.τ).loc Cert.ExpertIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Probs_ProbsIdeal : Prop :=
  True

def algebraic_ProbsIdeal_ProbsReferenceIdeal [hProbsIdeal : Cert.ProbsIdeal.Facts] [hProbsReferenceIdeal : Cert.ProbsReferenceIdeal.Facts] : Prop :=
  ∀ (m : (ℓ : Loc Cert.ProbsIdeal.nD Cert.ProbsIdeal.τ Cert.ProbsIdeal.sig) → Buf (Elt Ideal) ℓ) (g : Dev Cert.ProbsIdeal.nD → PrngReg)
    (m' : (ℓ : Loc Cert.ProbsReferenceIdeal.nD Cert.ProbsReferenceIdeal.τ Cert.ProbsReferenceIdeal.sig) → Buf (Elt Ideal) ℓ) (g' : Dev Cert.ProbsReferenceIdeal.nD → PrngReg), Pre_ProbsIdeal m →
    (∀ c : Dev Cert.ProbsIdeal.nD,
      m' ((c.tc : Thread Cert.ProbsReferenceIdeal.nD Cert.ProbsReferenceIdeal.τ).loc Cert.ProbsReferenceIdeal.main_arg0) = m ((c.tc : Thread Cert.ProbsIdeal.nD Cert.ProbsIdeal.τ).loc Cert.ProbsIdeal.main_arg0)
      ∧ m' ((c.tc : Thread Cert.ProbsReferenceIdeal.nD Cert.ProbsReferenceIdeal.τ).loc Cert.ProbsReferenceIdeal.main_arg1) = m ((c.tc : Thread Cert.ProbsIdeal.nD Cert.ProbsIdeal.τ).loc Cert.ProbsIdeal.main_arg1)
      ∧ m' ((c.tc : Thread Cert.ProbsReferenceIdeal.nD Cert.ProbsReferenceIdeal.τ).loc Cert.ProbsReferenceIdeal.main_arg2) = m ((c.tc : Thread Cert.ProbsIdeal.nD Cert.ProbsIdeal.τ).loc Cert.ProbsIdeal.main_arg2)) →
    ∃ (v0 : (c : Dev Cert.ProbsIdeal.nD) → Buf (Elt Ideal) ((c.tc : Thread Cert.ProbsIdeal.nD Cert.ProbsIdeal.τ).loc Cert.ProbsIdeal.main_v2)),
      θ_run (Cert.ProbsIdeal.defs (F := Ideal)) (Cert.ProbsIdeal.threads (F := Ideal)) ⟨m, fun _ => 0, g⟩ (fun r => ∀ c : Dev Cert.ProbsIdeal.nD,
          r.2.mem ((c.tc : Thread Cert.ProbsIdeal.nD Cert.ProbsIdeal.τ).loc Cert.ProbsIdeal.main_v2) = v0 c
          ∧ r.2.mem ((c.tc : Thread Cert.ProbsIdeal.nD Cert.ProbsIdeal.τ).loc Cert.ProbsIdeal.main_arg0) = m ((c.tc : Thread Cert.ProbsIdeal.nD Cert.ProbsIdeal.τ).loc Cert.ProbsIdeal.main_arg0)
          ∧ r.2.mem ((c.tc : Thread Cert.ProbsIdeal.nD Cert.ProbsIdeal.τ).loc Cert.ProbsIdeal.main_arg1) = m ((c.tc : Thread Cert.ProbsIdeal.nD Cert.ProbsIdeal.τ).loc Cert.ProbsIdeal.main_arg1)
          ∧ r.2.mem ((c.tc : Thread Cert.ProbsIdeal.nD Cert.ProbsIdeal.τ).loc Cert.ProbsIdeal.main_arg2) = m ((c.tc : Thread Cert.ProbsIdeal.nD Cert.ProbsIdeal.τ).loc Cert.ProbsIdeal.main_arg2))
      ∧ θ_run (Cert.ProbsReferenceIdeal.defs (F := Ideal)) (onTc (τ := Cert.ProbsReferenceIdeal.τ) (Cert.ProbsReferenceIdeal.main (F := Ideal))) ⟨m', fun _ => 0, g'⟩ (fun r => ∀ c : Dev Cert.ProbsReferenceIdeal.nD,
          r.2.mem ((c.tc : Thread Cert.ProbsReferenceIdeal.nD Cert.ProbsReferenceIdeal.τ).loc Cert.ProbsReferenceIdeal.main_v15) = v0 c
          ∧ r.2.mem ((c.tc : Thread Cert.ProbsReferenceIdeal.nD Cert.ProbsReferenceIdeal.τ).loc Cert.ProbsReferenceIdeal.main_arg0) = m' ((c.tc : Thread Cert.ProbsReferenceIdeal.nD Cert.ProbsReferenceIdeal.τ).loc Cert.ProbsReferenceIdeal.main_arg0)
          ∧ r.2.mem ((c.tc : Thread Cert.ProbsReferenceIdeal.nD Cert.ProbsReferenceIdeal.τ).loc Cert.ProbsReferenceIdeal.main_arg1) = m' ((c.tc : Thread Cert.ProbsReferenceIdeal.nD Cert.ProbsReferenceIdeal.τ).loc Cert.ProbsReferenceIdeal.main_arg1)
          ∧ r.2.mem ((c.tc : Thread Cert.ProbsReferenceIdeal.nD Cert.ProbsReferenceIdeal.τ).loc Cert.ProbsReferenceIdeal.main_arg2) = m' ((c.tc : Thread Cert.ProbsReferenceIdeal.nD Cert.ProbsReferenceIdeal.τ).loc Cert.ProbsReferenceIdeal.main_arg2))

def algebraic_LayerIdeal_LayerReferenceIdeal_pre_finite [hLayerIdeal : Cert.LayerIdeal.Facts] [hLayerReferenceIdeal : Cert.LayerReferenceIdeal.Facts] [hPre_finite : Cert.Pre_finite.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal_finite m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)
      ∧ m' ((c.tc : Thread Cert.LayerReferenceIdeal.nD Cert.LayerReferenceIdeal.τ).loc Cert.LayerReferenceIdeal.main_arg5) = m ((c.tc : Thread Cert.LayerIdeal.nD Cert.LayerIdeal.τ).loc Cert.LayerIdeal.main_arg5)
      ∧ m' ((c.tc : Thread Cert.LayerReferenceIdeal.nD Cert.LayerReferenceIdeal.τ).loc Cert.LayerReferenceIdeal.main_arg6) = m ((c.tc : Thread Cert.LayerIdeal.nD Cert.LayerIdeal.τ).loc Cert.LayerIdeal.main_arg6)
      ∧ m' ((c.tc : Thread Cert.LayerReferenceIdeal.nD Cert.LayerReferenceIdeal.τ).loc Cert.LayerReferenceIdeal.main_arg7) = m ((c.tc : Thread Cert.LayerIdeal.nD Cert.LayerIdeal.τ).loc Cert.LayerIdeal.main_arg7)
      ∧ m' ((c.tc : Thread Cert.LayerReferenceIdeal.nD Cert.LayerReferenceIdeal.τ).loc Cert.LayerReferenceIdeal.main_arg8) = m ((c.tc : Thread Cert.LayerIdeal.nD Cert.LayerIdeal.τ).loc Cert.LayerIdeal.main_arg8)) →
    ∃ (v0 : (c : Dev Cert.LayerIdeal.nD) → Buf (Elt Ideal) ((c.tc : Thread Cert.LayerIdeal.nD Cert.LayerIdeal.τ).loc Cert.LayerIdeal.main_v5)) (v1 : (c : Dev Cert.LayerIdeal.nD) → Buf (Elt Ideal) ((c.tc : Thread Cert.LayerIdeal.nD Cert.LayerIdeal.τ).loc Cert.LayerIdeal.main_v6)),
      θ_run (Cert.LayerIdeal.defs (F := Ideal)) (Cert.LayerIdeal.threads (F := Ideal)) ⟨m, fun _ => 0, g⟩ (fun r => ∀ c : Dev Cert.LayerIdeal.nD,
          r.2.mem ((c.tc : Thread Cert.LayerIdeal.nD Cert.LayerIdeal.τ).loc Cert.LayerIdeal.main_v5) = v0 c
          ∧ r.2.mem ((c.tc : Thread Cert.LayerIdeal.nD Cert.LayerIdeal.τ).loc Cert.LayerIdeal.main_v6) = v1 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v50) = v0 c
          ∧ r.2.mem ((c.tc : Thread Cert.LayerReferenceIdeal.nD Cert.LayerReferenceIdeal.τ).loc Cert.LayerReferenceIdeal.main_v51) = v1 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6)
          ∧ r.2.mem ((c.tc : Thread Cert.LayerReferenceIdeal.nD Cert.LayerReferenceIdeal.τ).loc Cert.LayerReferenceIdeal.main_arg7) = m' ((c.tc : Thread Cert.LayerReferenceIdeal.nD Cert.LayerReferenceIdeal.τ).loc Cert.LayerReferenceIdeal.main_arg7)
          ∧ r.2.mem ((c.tc : Thread Cert.LayerReferenceIdeal.nD Cert.LayerReferenceIdeal.τ).loc Cert.LayerReferenceIdeal.main_arg8) = m' ((c.tc : Thread Cert.LayerReferenceIdeal.nD Cert.LayerReferenceIdeal.τ).loc Cert.LayerReferenceIdeal.main_arg8))

def Claim : Prop :=
  ∃ (hExpert : Cert.Expert.Facts) (hExpertIdeal : Cert.ExpertIdeal.Facts) (hReferenceIdeal : Cert.ReferenceIdeal.Facts) (hProbs : Cert.Probs.Facts) (hProbsIdeal : Cert.ProbsIdeal.Facts) (hProbsReferenceIdeal : Cert.ProbsReferenceIdeal.Facts) (hLayerIdeal : Cert.LayerIdeal.Facts) (hLayerReferenceIdeal : Cert.LayerReferenceIdeal.Facts) (hPre_listed : Cert.Pre_listed.Facts) (hPre_finite : Cert.Pre_finite.Facts),
    quiescent_Expert (hExpert := hExpert) (hPre_listed := hPre_listed)
    ∧ quiescent_ExpertIdeal (hExpertIdeal := hExpertIdeal) (hPre_listed := hPre_listed)
    ∧ quiescent_ReferenceIdeal (hReferenceIdeal := hReferenceIdeal)
    ∧ quiescent_ReferenceIdeal_pre_listed (hReferenceIdeal := hReferenceIdeal) (hPre_listed := hPre_listed)
    ∧ quiescent_Probs (hProbs := hProbs)
    ∧ quiescent_ProbsIdeal (hProbsIdeal := hProbsIdeal)
    ∧ quiescent_ProbsReferenceIdeal (hProbsReferenceIdeal := hProbsReferenceIdeal)
    ∧ quiescent_LayerIdeal (hLayerIdeal := hLayerIdeal)
    ∧ quiescent_LayerIdeal_pre_finite (hLayerIdeal := hLayerIdeal) (hPre_finite := hPre_finite)
    ∧ quiescent_LayerReferenceIdeal (hLayerReferenceIdeal := hLayerReferenceIdeal)
    ∧ quiescent_LayerReferenceIdeal_pre_finite (hLayerReferenceIdeal := hLayerReferenceIdeal) (hPre_finite := hPre_finite)
    ∧ preserves_Expert_ExpertIdeal
    ∧ algebraic_ExpertIdeal_ReferenceIdeal (hExpertIdeal := hExpertIdeal) (hReferenceIdeal := hReferenceIdeal) (hPre_listed := hPre_listed)
    ∧ preserves_Probs_ProbsIdeal
    ∧ algebraic_ProbsIdeal_ProbsReferenceIdeal (hProbsIdeal := hProbsIdeal) (hProbsReferenceIdeal := hProbsReferenceIdeal)
    ∧ algebraic_LayerIdeal_LayerReferenceIdeal_pre_finite (hLayerIdeal := hLayerIdeal) (hLayerReferenceIdeal := hLayerReferenceIdeal) (hPre_finite := hPre_finite)
-- ==== Pre_finite.lean ====
abbrev S1x64x1024 : Shape := ⟨3, ![1, 64, 1024]⟩
abbrev S1024x64 : Shape := ⟨2, ![1024, 64]⟩
abbrev S64 : Shape := ⟨1, ![64]⟩
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S_ : Shape := ⟨0, ![]⟩

class Facts : Prop where
  bcast_S_S1x64x1024 : S_.BroadcastsInDim S1x64x1024 (![] : Fin 0 → Fin S1x64x1024.rank)
  reducesTo_S1x64x1024_S_d0_1_2 : S1x64x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1x64x1024 .f32) (main_arg1 : FVec F S1024x64 .f32) (main_arg2 : FVec F S64 .f32) (main_arg3 : FVec F S64x1024x1024 .f32) (main_arg4 : FVec F S64x1024 .f32) (main_arg5 : FVec F S64x1024x1024 .f32) (main_arg6 : FVec F S64x1024 .f32) (main_arg7 : FVec F S1024x1024 .f32) (main_arg8 : FVec F S1024 .f32) : IVec S_ 1 :=
  let main_v0 : FVec F S1x64x1024 .f32 := Host.absf main_arg0
  let main_cst : FVec F S_ .f32 := constant S_ .f32 0x7F800000#32
  let main_v1 : FVec F S1x64x1024 .f32 := broadcastInDim S1x64x1024 ![] bcast_S_S1x64x1024 main_cst
  let main_v2 : IVec S1x64x1024 1 := cmpf .olt main_v0 main_v1
  let main_c : IVec S_ 1 := constantI S_ 1 1#1
  let main_v3 : IVec S_ 1 := (fun x v => Host.reduce IntOp.andi x v reducesTo_S1x64x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Pre_listed.lean ====
abbrev S64x1 : Shape := ⟨2, ![64, 1]⟩
abbrev S64x1024 : Shape := ⟨2, ![64, 1024]⟩
abbrev S64x64 : Shape := ⟨2, ![64, 64]⟩
abbrev S64x1024x1024 : Shape := ⟨3, ![64, 1024, 1024]⟩
abbrev S1024x1024 : Shape := ⟨2, ![1024, 1024]⟩
abbrev S1024 : Shape := ⟨1, ![1024]⟩
abbrev S64 : Shape := ⟨1, ![64]⟩
abbrev S_ : Shape := ⟨0, ![]⟩
abbrev S63 : Shape := ⟨1, ![63]⟩
abbrev S1x64 : Shape := ⟨2, ![1, 64]⟩

class Facts : Prop where
  shapeCasts_S64x1_S64 : S64x1.ShapeCasts S64
  bcast_S_S64 : S_.BroadcastsInDim S64 (![] : Fin 0 → Fin S64.rank)
  reducesTo_S64_S_d0 : S64.ReducesTo [0] S_
  h_S_ : 0 < S_.numel
  slices_S64_S63_0 : S64.Slices ![0] S63
  slices_S64_S63_1 : S64.Slices ![1] S63
  reducesTo_S63_S_d0 : S63.ReducesTo [0] S_
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S64_d0 : S64x64.ReducesTo [0] S64
  bcast_S_S64x64 : S_.BroadcastsInDim S64x64 (![] : Fin 0 → Fin S64x64.rank)

variable [Facts]

def fn_part1 {F : FTy → Type} [FloatOps F] (main_arg2 : FVec F S64x64 .f32) (main_v6 : IVec S_ 1) (main_v10 : IVec S_ 1) (main_v16 : IVec S64 1) (main_v17 : FVec F S64x64 .f32) : IVec S_ 1 :=
  let main_v18 : IVec S64x64 1 := cmpf .oeq main_arg2 main_v17
  let main_c_4 : IVec S_ 1 := constantI S_ 1 1#1
  let main_v19 : IVec S64 1 := (fun x v => Host.reduce IntOp.andi x v reducesTo_S64x64_S64_d0 h_S_) main_v18 main_c_4
  let main_v20 : IVec S64 1 := ori main_v16 main_v19
  let main_c_5 : IVec S_ 1 := constantI S_ 1 1#1
  let main_v21 : IVec S_ 1 := (fun x v => Host.reduce IntOp.andi x v reducesTo_S64_S_d0 h_S_) main_v20 main_c_5
  let main_v22 : IVec S_ 1 := andi main_v6 main_v10
  let main_v23 : IVec S_ 1 := andi main_v22 main_v21
  main_v23

def fn {F : FTy → Type} [FloatOps F] (main_arg0 : IVec S64x1 32) (main_arg1 : FVec F S64x1024 .f32) (main_arg2 : FVec F S64x64 .f32) (main_arg3 : FVec F S64x1024x1024 .f32) (main_arg4 : FVec F S64x1024 .f32) (main_arg5 : FVec F S64x1024x1024 .f32) (main_arg6 : FVec F S64x1024 .f32) (main_arg7 : FVec F S1024x1024 .f32) (main_arg8 : FVec F S1024 .f32) : IVec S_ 1 :=
  let main_v0 : IVec S64 32 := shapeCast S64 main_arg0 shapeCasts_S64x1_S64
  let main_c : IVec S_ 32 := constantI S_ 32 0#32
  let main_v1 : IVec S64 32 := broadcastInDim S64 ![] bcast_S_S64 main_c
  let main_v2 : IVec S64 1 := cmpi .sge main_v0 main_v1
  let main_c_0 : IVec S_ 32 := constantI S_ 32 64#32
  let main_v3 : IVec S64 32 := broadcastInDim S64 ![] bcast_S_S64 main_c_0
  let main_v4 : IVec S64 1 := cmpi .slt main_v0 main_v3
  let main_v5 : IVec S64 1 := andi main_v2 main_v4
  let main_c_1 : IVec S_ 1 := constantI S_ 1 1#1
  let main_v6 : IVec S_ 1 := (fun x v => Host.reduce IntOp.andi x v reducesTo_S64_S_d0 h_S_) main_v5 main_c_1
  let main_v7 : IVec S63 32 := (extractStridedSlice S63 ![0] · slices_S64_S63_0) main_v0
  let main_v8 : IVec S63 32 := (extractStridedSlice S63 ![1] · slices_S64_S63_1) main_v0
  let main_v9 : IVec S63 1 := cmpi .sle main_v7 main_v8
  let main_c_2 : IVec S_ 1 := constantI S_ 1 1#1
  let main_v10 : IVec S_ 1 := (fun x v => Host.reduce IntOp.andi x v reducesTo_S63_S_d0 h_S_) main_v9 main_c_2
  let main_v11 : IVec S64 32 := iotaInDim S64 32 0
  let main_v12 : IVec S1x64 32 := broadcastInDim S1x64 ![1] bcast_S64_S1x64_1 main_v11
  let main_v13 : IVec S64x64 32 := broadcastInDim S64x64 ![0, 1] bcast_S64x1_S64x64_0_1 main_arg0
  let main_v14 : IVec S64x64 32 := broadcastInDim S64x64 ![0, 1] bcast_S1x64_S64x64_0_1 main_v12
  let main_v15 : IVec S64x64 1 := cmpi .eq main_v13 main_v14
  let main_c_3 : IVec S_ 1 := constantI S_ 1 0#1
  let main_v16 : IVec S64 1 := (fun x v => Host.reduce IntOp.ori x v reducesTo_S64x64_S64_d0 h_S_) main_v15 main_c_3
  let main_cst : FVec F S_ .f32 := constant S_ .f32 0x00000000#32
  let main_v17 : FVec F S64x64 .f32 := broadcastInDim S64x64 ![] bcast_S_S64x64 main_cst
  fn_part1 (F := F) main_arg2 main_v6 main_v10 main_v16 main_v17
-- ==== Expert.lean ====
abbrev S64x1 : Shape := ⟨2, ![64, 1]⟩
abbrev S64x1024 : Shape := ⟨2, ![64, 1024]⟩
abbrev S64x64 : Shape := ⟨2, ![64, 64]⟩
abbrev S64x1024x1024 : Shape := ⟨3, ![64, 1024, 1024]⟩
abbrev S1024x1024 : Shape := ⟨2, ![1024, 1024]⟩
abbrev S1024 : Shape := ⟨1, ![1024]⟩
abbrev S1x1024x1024 : Shape := ⟨3, ![1, 1024, 1024]⟩
abbrev S1x1 : Shape := ⟨2, ![1, 1]⟩
abbrev S1x1024 : Shape := ⟨2, ![1, 1024]⟩
abbrev S64 : Shape := ⟨1, ![64]⟩

abbrev nBuf : Space → Nat
  | .hbm => 9
  | .vmem => 13
  | .smem => 1
  | _ => 0

abbrev bufTy : (tb : Table) → Fin (tcTables nBuf tb) → BufTy
  | .hbm, ⟨0, _⟩ => ⟨S64x1024, .f32⟩
  | .hbm, ⟨1, _⟩ => ⟨S64x64, .f32⟩
  | .hbm, ⟨2, _⟩ => ⟨S64x1024x1024, .f32⟩
  | .hbm, ⟨3, _⟩ => ⟨S64x1024, .f32⟩
  | .hbm, ⟨4, _⟩ => ⟨S64x1024x1024, .f32⟩
  | .hbm, ⟨5, _⟩ => ⟨S64x1024, .f32⟩
  | .hbm, ⟨6, _⟩ => ⟨S1024x1024, .f32⟩
  | .hbm, ⟨7, _⟩ => ⟨S1024, .f32⟩
  | .hbm, ⟨8, _⟩ => ⟨S64x1024, .f32⟩
  | .local _ .vmem, ⟨0, _⟩ => ⟨S64x1024, .f32⟩
  | .local _ .vmem, ⟨1, _⟩ => ⟨S64x64, .f32⟩
  | .local _ .vmem, ⟨2, _⟩ => ⟨S1x1024x1024, .f32⟩
  | .local _ .vmem, ⟨3, _⟩ => ⟨S1x1024x1024, .f32⟩
  | .local _ .vmem, ⟨4, _⟩ => ⟨S64x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S64x1024, .f32⟩
  | .local _ .vmem, ⟨8, _⟩ => ⟨S1024x1024, .f32⟩
  | .local _ .vmem, ⟨9, _⟩ => ⟨S1024, .f32⟩
  | .local _ .vmem, ⟨10, _⟩ => ⟨S64x1024, .f32⟩
  | .local _ .vmem, ⟨11, _⟩ => ⟨S64x1024, .f32⟩
  | .local _ .vmem, ⟨12, _⟩ => ⟨S64x1024, .bf16⟩
  | .local _ .smem, ⟨0, _⟩ => ⟨S64x1, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  let c0_0 : Index := 0#32
  ![v4.toNat, 0]
def k0_off3 (v1 : BitVec 32) : Fin 2 → Nat :=
  let v22 : Index := Scalar.indexCast v1
  let c0_11 : Index := 0#32
  ![v22.toNat, 0]
def k0_cond2 (i : grid0.Coords) (v1 : BitVec 32) (v5 : BitVec 32) : BitVec 1 :=
  let arg0 : BitVec 32 := BitVec.ofNat 32 (i 0).val
  let c0_i32_1 : BitVec 32 := 0#32
  let v6 : BitVec 1 := Scalar.cmpi .eq arg0 c0_i32_1
  let v7 : BitVec 1 := Scalar.cmpi .ne v1 v5
  let v8 : BitVec 1 := Scalar.ori v6 v7
  let v12 : BitVec 32 := Scalar.extui v8
  let c0_i32_4 : BitVec 32 := 0#32
  let v13 : BitVec 1 := Scalar.cmpi .ne v12 c0_i32_4
  v13

def k0_chk1 (i : grid0.Coords) (v1 : BitVec 32) (v5 : BitVec 32) : Prop :=
  (∀ (k0_h2 : k0_cond2 i v1 v5 = 1#1), ∀ a, (k0_off3 v1) a + S1x1024.size a ≤ S64x1024.size a)
theorem k0_off3_inb : ∀ (i : grid0.Coords) (v1 : BitVec 32) (v5 : BitVec 32) (k0_hw1 : k0_chk1 i v1 v5), ∀ (k0_h2 : k0_cond2 i v1 v5 = 1#1), ∀ a, (k0_off3 v1) a + S1x1024.size a ≤ S64x1024.size a := fun i v1 v5 k0_hw1 k0_h2 => k0_hw1 k0_h2

def k0_cond3 (i : grid0.Coords) : BitVec 1 :=
  let arg0 : BitVec 32 := BitVec.ofNat 32 (i 0).val
  let c63_i32 : BitVec 32 := 63#32
  let v14 : BitVec 1 := Scalar.cmpi .eq arg0 c63_i32
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1x1.size a ≤ S64x1.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S64x1) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1x1.size a ≤ S64x1.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S64x1) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S64x1 : Shape := ⟨2, ![64, 1]⟩
abbrev S64x1024 : Shape := ⟨2, ![64, 1024]⟩
abbrev S64x64 : Shape := ⟨2, ![64, 64]⟩
abbrev S64x1024x1024 : Shape := ⟨3, ![64, 1024, 1024]⟩
abbrev S1024x1024 : Shape := ⟨2, ![1024, 1024]⟩
abbrev S1024 : Shape := ⟨1, ![1024]⟩
abbrev S64x64x1024 : Shape := ⟨3, ![64, 64, 1024]⟩
abbrev S1x64x1024 : Shape := ⟨3, ![1, 64, 1024]⟩
abbrev S_ : Shape := ⟨0, ![]⟩
abbrev S64x1024x64 : Shape := ⟨3, ![64, 1024, 64]⟩
abbrev S64x64x1 : Shape := ⟨3, ![64, 64, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S64x1, .i32⟩
  | .hbm, ⟨1, _⟩ => ⟨S64x1024, .f32⟩
  | .hbm, ⟨2, _⟩ => ⟨S64x64, .f32⟩
  | .hbm, ⟨3, _⟩ => ⟨S64x1024x1024, .f32⟩
  | .hbm, ⟨4, _⟩ => ⟨S64x1024, .f32⟩
  | .hbm, ⟨5, _⟩ => ⟨S64x1024x1024, .f32⟩
  | .hbm, ⟨6, _⟩ => ⟨S64x1024, .f32⟩
  | .hbm, ⟨7, _⟩ => ⟨S1024x1024, .f32⟩
  | .hbm, ⟨8, _⟩ => ⟨S1024, .f32⟩
  | .hbm, ⟨9, _⟩ => ⟨S64x64x1024, .f32⟩
  | .hbm, ⟨10, _⟩ => ⟨S1x64x1024, .f32⟩
  | .hbm, ⟨11, _⟩ => ⟨S64x64x1024, .f32⟩
  | .hbm, ⟨12, _⟩ => ⟨S64x64x1024, .f32⟩
  | .hbm, ⟨13, _⟩ => ⟨S_, .f32⟩
  | .hbm, ⟨14, _⟩ => ⟨S64x64x1024, .f32⟩
  | .hbm, ⟨15, _⟩ => ⟨S64x64x1024, .f32⟩
  | .hbm, ⟨16, _⟩ => ⟨S64x1024x64, .f32⟩
  | .hbm, ⟨17, _⟩ => ⟨S64x64x1024, .f32⟩
  | .hbm, ⟨18, _⟩ => ⟨S1x64x1024, .f32⟩
  | .hbm, ⟨19, _⟩ => ⟨S64x64x1024, .f32⟩
  | .hbm, ⟨20, _⟩ => ⟨S64x64x1024, .f32⟩
  | .hbm, ⟨21, _⟩ => ⟨S64x64x1, .f32⟩
  | .hbm, ⟨22, _⟩ => ⟨S64x64x1024, .f32⟩
  | .hbm, ⟨23, _⟩ => ⟨S64x64x1024, .f32⟩
  | .hbm, ⟨24, _⟩ => ⟨S_, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S1x1024, .f32⟩
  | .hbm, ⟨31, _⟩ => ⟨S64x1024, .f32⟩
  | .hbm, ⟨32, _⟩ => ⟨S64x1024, .f32⟩
  | _, _ => ⟨S64x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Probs.lean ====
abbrev S1x64x1024 : Shape := ⟨3, ![1, 64, 1024]⟩
abbrev S1024x64 : Shape := ⟨2, ![1024, 64]⟩
abbrev S64 : Shape := ⟨1, ![64]⟩
abbrev S64x1024 : Shape := ⟨2, ![64, 1024]⟩
abbrev S64x64 : Shape := ⟨2, ![64, 64]⟩
abbrev S64x1 : Shape := ⟨2, ![64, 1]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S4x64 : Shape := ⟨2, ![4, 64]⟩
abbrev S_ : Shape := ⟨0, ![]⟩
abbrev S16 : Shape := ⟨1, ![16]⟩
abbrev S1x16 : Shape := ⟨2, ![1, 16]⟩

abbrev nBuf : Table → Nat
  | .hbm => 8
  | .local .tc .vmem => 6
  | .local .scVector .vmem => 2
  | _ => 0

abbrev bufTy : (tb : Table) → Fin (nBuf tb) → BufTy
  | .hbm, ⟨0, _⟩ => ⟨S1x64x1024, .f32⟩
  | .hbm, ⟨1, _⟩ => ⟨S1024x64, .f32⟩
  | .hbm, ⟨2, _⟩ => ⟨S64, .f32⟩
  | .hbm, ⟨3, _⟩ => ⟨S64x1024, .f32⟩
  | .hbm, ⟨4, _⟩ => ⟨S64x64, .f32⟩
  | .hbm, ⟨5, _⟩ => ⟨S64x64, .f32⟩
  | .hbm, ⟨6, _⟩ => ⟨S64x1, .i32⟩
  | .hbm, ⟨7, _⟩ => ⟨S64x64, .f32⟩
  | .local .tc .vmem, ⟨0, _⟩ => ⟨S64x1024, .f32⟩
  | .local .tc .vmem, ⟨1, _⟩ => ⟨S1024x64, .f32⟩
  | .local .tc .vmem, ⟨2, _⟩ => ⟨S64, .f32⟩
  | .local .tc .vmem, ⟨3, _⟩ => ⟨S64x64, .f32⟩
  | .local .tc .vmem, ⟨4, _⟩ => ⟨S64x64, .f32⟩
  | .local .tc .vmem, ⟨5, _⟩ => ⟨S64x1, .i32⟩
  | .local .scVector .vmem, ⟨0, _⟩ => ⟨S4x64, .f32⟩
  | .local .scVector .vmem, ⟨1, _⟩ => ⟨S4x64, .f32⟩
  | _, _ => ⟨S1x64x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v1_0_scv : Ref sig .scVector := ⟨.hbm, 4, rfl⟩
abbrev main_v2_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![1, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c4_i32 : BitVec 32 := 4#32
  let v3 : BitVec 32 := Scalar.muli arg1 c4_i32
  let c0_i32_61_r0 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ProbsReferenceIdeal.lean ====
abbrev S1x64x1024 : Shape := ⟨3, ![1, 64, 1024]⟩
abbrev S1024x64 : Shape := ⟨2, ![1024, 64]⟩
abbrev S64 : Shape := ⟨1, ![64]⟩
abbrev S64x1024 : Shape := ⟨2, ![64, 1024]⟩
abbrev S64x64 : Shape := ⟨2, ![64, 64]⟩
abbrev S1x64 : Shape := ⟨2, ![1, 64]⟩
abbrev S_ : Shape := ⟨0, ![]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S1x64x1024, .f32⟩
  | .hbm, ⟨1, _⟩ => ⟨S1024x64, .f32⟩
  | .hbm, ⟨2, _⟩ => ⟨S64, .f32⟩
  | .hbm, ⟨3, _⟩ => ⟨S64x1024, .f32⟩
  | .hbm, ⟨4, _⟩ => ⟨S64x64, .f32⟩
  | .hbm, ⟨5, _⟩ => ⟨S1x64, .f32⟩
  | .hbm, ⟨6, _⟩ => ⟨S64x64, .f32⟩
  | .hbm, ⟨7, _⟩ => ⟨S64x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x64, .f32⟩
  | .hbm, ⟨21, _⟩ => ⟨S64x64, .f32⟩
  | _, _ => ⟨S1x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== LayerIdeal.lean ====
abbrev S1x64x1024 : Shape := ⟨3, ![1, 64, 1024]⟩
abbrev S1024x64 : Shape := ⟨2, ![1024, 64]⟩
abbrev S64 : Shape := ⟨1, ![64]⟩
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S64x64 : Shape := ⟨2, ![64, 64]⟩
abbrev S64x1 : Shape := ⟨2, ![64, 1]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S4x64 : Shape := ⟨2, ![4, 64]⟩
abbrev S_ : Shape := ⟨0, ![]⟩
abbrev S16 : Shape := ⟨1, ![16]⟩
abbrev S1x16 : Shape := ⟨2, ![1, 16]⟩
abbrev S1x1024x1024 : Shape := ⟨3, ![1, 1024, 1024]⟩
abbrev S1x1 : Shape := ⟨2, ![1, 1]⟩
abbrev S1x1024 : Shape := ⟨2, ![1, 1024]⟩
abbrev S1x64x64 : Shape := ⟨3, ![1, 64, 64]⟩

abbrev nBuf : Table → Nat
  | .hbm => 17
  | .local .tc .vmem => 19
  | .local .tc .smem => 1
  | .local .scVector .vmem => 2
  | _ => 0

abbrev bufTy : (tb : Table) → Fin (nBuf tb) → BufTy
  | .hbm, ⟨0, _⟩ => ⟨S1x64x1024, .f32⟩
  | .hbm, ⟨1, _⟩ => ⟨S1024x64, .f32⟩
  | .hbm, ⟨2, _⟩ => ⟨S64, .f32⟩
  | .hbm, ⟨3, _⟩ => ⟨S64x1024x1024, .f32⟩
  | .hbm, ⟨4, _⟩ => ⟨S64x1024, .f32⟩
  | .hbm, ⟨5, _⟩ => ⟨S64x1024x1024, .f32⟩
  | .hbm, ⟨6, _⟩ => ⟨S64x1024, .f32⟩
  | .hbm, ⟨7, _⟩ => ⟨S1024x1024, .f32⟩
  | .hbm, ⟨8, _⟩ => ⟨S1024, .f32⟩
  | .hbm, ⟨9, _⟩ => ⟨S64x1024, .f32⟩
  | .hbm, ⟨10, _⟩ => ⟨S64x64, .f32⟩
  | .hbm, ⟨11, _⟩ => ⟨S64x64, .f32⟩
  | .hbm, ⟨12, _⟩ => ⟨S64x1, .i32⟩
  | .hbm, ⟨13, _⟩ => ⟨S64x64, .f32⟩
  | .hbm, ⟨14, _⟩ => ⟨S64, .i32⟩
  | .hbm, ⟨15, _⟩ => ⟨S64x1024, .f32⟩
  | .hbm, ⟨16, _⟩ => ⟨S1x64x64, .f32⟩
  | .local .tc .vmem, ⟨0, _⟩ => ⟨S64x1024, .f32⟩
  | .local .tc .vmem, ⟨1, _⟩ => ⟨S1024x64, .f32⟩
  | .local .tc .vmem, ⟨2, _⟩ => ⟨S64, .f32⟩
  | .local .tc .vmem, ⟨3, _⟩ => ⟨S64x64, .f32⟩
  | .local .tc .vmem, ⟨4, _⟩ => ⟨S64x64, .f32⟩
  | .local .tc .vmem, ⟨5, _⟩ => ⟨S64x1, .i32⟩
  | .local .tc .vmem, ⟨6, _⟩ => ⟨S64x1024, .f32⟩
  | .local .tc .vmem, ⟨7, _⟩ => ⟨S64x64, .f32⟩
  | .local .tc .vmem, ⟨8, _⟩ => ⟨S1x1024x1024, .f32⟩
  | .local .tc .vmem, ⟨9, _⟩ => ⟨S1x1024x1024, .f32⟩
  | .local .tc .vmem, ⟨10, _⟩ => ⟨S64x1024, .f32⟩
  | .local .tc .vmem, ⟨11, _⟩ => ⟨S1x1024x1024, .f32⟩
  | .local .tc .vmem, ⟨12, _⟩ => ⟨S1x1024x1024, .f32⟩
  | .local .tc .vmem, ⟨13, _⟩ => ⟨S64x1024, .f32⟩
  | .local .tc .vmem, ⟨14, _⟩ => ⟨S1024x1024, .f32⟩
  | .local .tc .vmem, ⟨15, _⟩ => ⟨S1024, .f32⟩
  | .local .tc .vmem, ⟨16, _⟩ => ⟨S64x1024, .f32⟩
  | .local .tc .vmem, ⟨17, _⟩ => ⟨S64x1024, .f32⟩
  | .local .tc .vmem, ⟨18, _⟩ => ⟨S64x1024, .bf16⟩
  | .local .tc .smem, ⟨0, _⟩ => ⟨S64x1, .i32⟩
  | .local .scVector .vmem, ⟨0, _⟩ => ⟨S4x64, .f32⟩
  | .local .scVector .vmem, ⟨1, _⟩ => ⟨S4x64, .f32⟩
  | _, _ => ⟨S1x64x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v5 : Ref sig .tc := ⟨.hbm, 15, rfl⟩
abbrev main_v6 : Ref sig .tc := ⟨.hbm, 16, rfl⟩
abbrev main_v4 : Ref sig .tc := ⟨.smem, 0, rfl⟩
abbrev main_v1_0_scv : Ref sig .scVector := ⟨.hbm, 10, rfl⟩
abbrev main_v2_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg4_1 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_scratch0 : Ref sig .tc := ⟨.vmem, 17, rfl⟩
abbrev cc2_scratch1 : Ref sig .tc := ⟨.vmem, 18, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc2_sem0_0 : DmaSem sig := 8
abbrev cc2_sem1_0 : DmaSem sig := 9
abbrev cc2_sem2_0 : DmaSem sig := 10
abbrev cc2_sem2_1 : DmaSem sig := 11
abbrev cc2_sem3_0 : DmaSem sig := 12
abbrev cc2_sem4_0 : DmaSem sig := 13
abbrev cc2_sem4_1 : DmaSem sig := 14
abbrev cc2_sem5_0 : DmaSem sig := 15
abbrev cc2_sem6_0 : DmaSem sig := 16
abbrev cc2_sem7_0 : DmaSem sig := 17
abbrev cc2_sem8_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![1, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c4_i32 : BitVec 32 := 4#32
  let v3 : BitVec 32 := Scalar.muli arg1 c4_i32
  let c0_i32_61_r0 : BitVec 32 := 0#32
  ![v3.toNat, 0]
abbrev grid2 : Pipeline.Grid := ⟨1, ![64], ![false]⟩

abbrev pre2 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (i : grid2.Coords) : Fin 2 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  let c0_0 : Index := 0#32
  ![v4.toNat, 0]
def k2_off3 (v1 : BitVec 32) : Fin 2 → Nat :=
  let v22 : Index := Scalar.indexCast v1
  let c0_11 : Index := 0#32
  ![v22.toNat, 0]
def k2_cond2 (i : grid2.Coords) (v1 : BitVec 32) (v5 : BitVec 32) : BitVec 1 :=
  let arg0 : BitVec 32 := BitVec.ofNat 32 (i 0).val
  let c0_i32_1 : BitVec 32 := 0#32
  let v6 : BitVec 1 := Scalar.cmpi .eq arg0 c0_i32_1
  let v7 : BitVec 1 := Scalar.cmpi .ne v1 v5
  let v8 : BitVec 1 := Scalar.ori v6 v7
  let v12 : BitVec 32 := Scalar.extui v8
  let c0_i32_4 : BitVec 32 := 0#32
  let v13 : BitVec 1 := Scalar.cmpi .ne v12 c0_i32_4
  v13

def k2_chk1 (i : grid2.Coords) (v1 : BitVec 32) (v5 : BitVec 32) : Prop :=
  (∀ (k2_h2 : k2_cond2 i v1 v5 = 1#1), ∀ a, (k2_off3 v1) a + S1x1024.size a ≤ S64x1024.size a)
theorem k2_off3_inb : ∀ (i : grid2.Coords) (v1 : BitVec 32) (v5 : BitVec 32) (k2_hw1 : k2_chk1 i v1 v5), ∀ (k2_h2 : k2_cond2 i v1 v5 = 1#1), ∀ a, (k2_off3 v1) a + S1x1024.size a ≤ S64x1024.size a := fun i v1 v5 k2_hw1 k2_h2 => k2_hw1 k2_h2

def k2_cond3 (i : grid2.Coords) : BitVec 1 :=
  let arg0 : BitVec 32 := BitVec.ofNat 32 (i 0).val
  let c63_i32 : BitVec 32 := 63#32
  let v14 : BitVec 1 := Scalar.cmpi .eq arg0 c63_i32
  let v15 : BitVec 32 := Scalar.extui v14
  let c0_i32_5 : BitVec 32 := 0#32
  let v16 : BitVec 1 := Scalar.cmpi .ne v15 c0_i32_5
  v16

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (k2_off1_inb : ∀ i : grid2.Coords, ∀ a, (k2_off1 i) a + S1x1.size a ≤ S64x1.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c0 : Index := 0#32
  let v1 : BitVec 32 := pf.at 0 (Rect.unit (s := S64x1) ![v0.toNat, 0] S1x1.size (k2_off1_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (k2_off1_inb : ∀ i : grid2.Coords, ∀ a, (k2_off1 i) a + S1x1.size a ≤ S64x1.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c0 : Index := 0#32
  let v1 : BitVec 32 := pf.at 0 (Rect.unit (s := S64x1) ![v0.toNat, 0] S1x1.size (k2_off1_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LayerReferenceIdeal.lean ====
abbrev S1x64x1024 : Shape := ⟨3, ![1, 64, 1024]⟩
abbrev S1024x64 : Shape := ⟨2, ![1024, 64]⟩
abbrev S64 : Shape := ⟨1, ![64]⟩
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S64x64 : Shape := ⟨2, ![64, 64]⟩
abbrev S1x64 : Shape := ⟨2, ![1, 64]⟩
abbrev S_ : Shape := ⟨0, ![]⟩
abbrev S64x1 : Shape := ⟨2, ![64, 1]⟩
abbrev S64x2 : Shape := ⟨2, ![64, 2]⟩
abbrev S64x64x1024 : Shape := ⟨3, ![64, 64, 1024]⟩
abbrev S64x1024x64 : Shape := ⟨3, ![64, 1024, 64]⟩
abbrev S64x64x1 : Shape := ⟨3, ![64, 64, 1]⟩
abbrev S1x1024 : Shape := ⟨2, ![1, 1024]⟩
abbrev S1x64x64 : Shape := ⟨3, ![1, 64, 64]⟩

abbrev nBuf : Space → Nat
  | .hbm => 76
  | .vmem => 0
  | .smem => 0
  | _ => 0

abbrev bufTy : (tb : Table) → Fin (tcTables nBuf tb) → BufTy
  | .hbm, ⟨0, _⟩ => ⟨S1x64x1024, .f32⟩
  | .hbm, ⟨1, _⟩ => ⟨S1024x64, .f32⟩
  | .hbm, ⟨2, _⟩ => ⟨S64, .f32⟩
  | .hbm, ⟨3, _⟩ => ⟨S64x1024x1024, .f32⟩
  | .hbm, ⟨4, _⟩ => ⟨S64x1024, .f32⟩
  | .hbm, ⟨5, _⟩ => ⟨S64x1024x1024, .f32⟩
  | .hbm, ⟨6, _⟩ => ⟨S64x1024, .f32⟩
  | .hbm, ⟨7, _⟩ => ⟨S1024x1024, .f32⟩
  | .hbm, ⟨8, _⟩ => ⟨S1024, .f32⟩
  | .hbm, ⟨9, _⟩ => ⟨S64x1024, .f32⟩
  | .hbm, ⟨10, _⟩ => ⟨S64x64, .f32⟩
  | .hbm, ⟨11, _⟩ => ⟨S1x64, .f32⟩
  | .hbm, ⟨12, _⟩ => ⟨S64x64, .f32⟩
  | .hbm, ⟨13, _⟩ => ⟨S64x64, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x64, .f32⟩
  | .hbm, ⟨27, _⟩ => ⟨S64x64, .f32⟩
  | .hbm, ⟨28, _⟩ => ⟨S64x2, .f32⟩
  | .hbm, ⟨29, _⟩ => ⟨S64x2, .i32⟩
  | .hbm, ⟨30, _⟩ => ⟨S64x1, .f32⟩
  | .hbm, ⟨31, _⟩ => ⟨S64x64, .f32⟩
  | .hbm, ⟨32, _⟩ => ⟨S64x64, .i1⟩
  | .hbm, ⟨33, _⟩ => ⟨S_, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64x1, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S_, .f32⟩
  | .hbm, ⟨47, _⟩ => ⟨S64, .f32⟩
  | .hbm, ⟨48, _⟩ => ⟨S64x1, .f32⟩
  | .hbm, ⟨49, _⟩ => ⟨S64x64, .f32⟩
  | .hbm, ⟨50, _⟩ => ⟨S64x64, .f32⟩
  | .hbm, ⟨51, _⟩ => ⟨S64x64x1024, .f32⟩
  | .hbm, ⟨52, _⟩ => ⟨S1x64x1024, .f32⟩
  | .hbm, ⟨53, _⟩ => ⟨S64x64x1024, .f32⟩
  | .hbm, ⟨54, _⟩ => ⟨S64x64x1024, .f32⟩
  | .hbm, ⟨55, _⟩ => ⟨S_, .f32⟩
  | .hbm, ⟨56, _⟩ => ⟨S64x64x1024, .f32⟩
  | .hbm, ⟨57, _⟩ => ⟨S64x64x1024, .f32⟩
  | .hbm, ⟨58, _⟩ => ⟨S64x1024x64, .f32⟩
  | .hbm, ⟨59, _⟩ => ⟨S64x64x1024, .f32⟩
  | .hbm, ⟨60, _⟩ => ⟨S1x64x1024, .f32⟩
  | .hbm, ⟨61, _⟩ => ⟨S64x64x1024, .f32⟩
  | .hbm, ⟨62, _⟩ => ⟨S64x64x1024, .f32⟩
  | .hbm, ⟨63, _⟩ => ⟨S64x64x1, .f32⟩
  | .hbm, ⟨64, _⟩ => ⟨S64x64x1024, .f32⟩
  | .hbm, ⟨65, _⟩ => ⟨S64x64x1024, .f32⟩
  | .hbm, ⟨66, _⟩ => ⟨S_, .f32⟩
  | .hbm, ⟨67, _⟩ => ⟨S64x1024, .f32⟩
  | .hbm, ⟨68, _⟩ => ⟨S_, .f32⟩
  | .hbm, ⟨69, _⟩ => ⟨S64x1024, .f32⟩
  | .hbm, ⟨70, _⟩ => ⟨S64x1024, .f32⟩
  | .hbm, ⟨71, _⟩ => ⟨S64x1024, .f32⟩
  | .hbm, ⟨72, _⟩ => ⟨S1x1024, .f32⟩
  | .hbm, ⟨73, _⟩ => ⟨S64x1024, .f32⟩
  | .hbm, ⟨74, _⟩ => ⟨S64x1024, .f32⟩
  | .hbm, ⟨75, _⟩ => ⟨S1x64x64, .f32⟩
  | _, _ => ⟨S1x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_values : Ref sig .tc := ⟨.hbm, 28, rfl⟩
abbrev main_indices : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Proof.Expert.Cases.lean ====
/-
  What the expert kernel's body leaves, case by case (hand-written, untrusted).

  The generated frame runs the body once per case of its conditionals and finds the pieces each case stores. Here those
  pieces are read back as values: a point that reads a new expert leaves `k0_pay3` of the accumulator in it, a point
  that repeats the expert before it leaves the accumulator as it found it, the first point clears the accumulator and
  narrows `x`, and the last point leaves `k0_pay4` of the accumulator in the output block.
-/
module

public import proofs.«01_k».proof.Proof.Gen.ExpertIdeal.Frame
public import Idealize.ShloMosaic.Lib.Pipeline.Value
public import Idealize.ShloMosaic.Lib.Tactic

@[expose] public section

noncomputable section

namespace Cert.ExpertIdeal.Value

open Cert.ExpertIdeal Cert.ExpertIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The table's word at the point, and the word before it. -/
abbrev word (c : Dev nD) (i : grid0.Coords) (xt : TbBuf0 (F := F) c tbM0_0) : BitVec 32 :=
  tbM0_0.view.readAt (Elt F) (Rect.unit (s := S64x1) (k0_off1 i) S1x1.size (k0_off1_inb i)).toLoadRect xt
    (Shape.Idx.first (numel1_S1x1.symm ▸ Nat.one_pos))
abbrev wordBefore (c : Dev nD) (i : grid0.Coords) (xt : TbBuf0 (F := F) c tbM0_0) : BitVec 32 :=
  tbM0_0.view.readAt (Elt F) (Rect.unit (s := S64x1) (k0_off2 i) S1x1.size (k0_off2_inb i)).toLoadRect xt
    (Shape.Idx.first (numel1_S1x1.symm ▸ Nat.one_pos))

/-- Row `v` of a `[64, 1024]` block, as the body's loads of one row read it. -/
abbrev row (x : Vec F S64x1024 .f32) (v : BitVec 32) (h : ∀ a, (k0_off3 v) a + S1x1024.size a ≤ S64x1024.size a) :
    Vec F S1x1024 .f32 := View.ld x (Rect.unit (s := S64x1024) (k0_off3 v) S1x1024.size h)

section
variable (c : Dev nD) (i : grid0.Coords) (a2 : Memref sig .tc .vmem S64x1024 .f32) (h2 : a2.IsWhole)
  (a3 : Memref sig .tc .vmem S64x64 .f32) (h3 : a3.IsWhole) (a4 : Memref sig .tc .vmem S1x1024x1024 .f32) (h4 : a4.IsWhole)
  (a5 : Memref sig .tc .vmem S64x1024 .f32) (h5 : a5.IsWhole) (a6 : Memref sig .tc .vmem S1x1024x1024 .f32) (h6 : a6.IsWhole)
  (a7 : Memref sig .tc .vmem S64x1024 .f32) (h7 : a7.IsWhole) (a8 : Memref sig .tc .vmem S1024x1024 .f32) (h8 : a8.IsWhole)
  (a9 : Memref sig .tc .vmem S1024 .f32) (h9 : a9.IsWhole) (a10 : Memref sig .tc .vmem S64x1024 .f32) (h10 : a10.IsWhole)
  (a11 : Memref sig .tc .vmem S64x1024 .f32) (h11 : a11.IsWhole) (a12 : Memref sig .tc .vmem S64x1024 .bf16) (h12 : a12.IsWhole)
  (x0 : Vec F S64x1024 .f32) (x1 : Vec F S64x64 .f32) (x2 : Vec F S1x1024x1024 .f32) (x3 : Vec F S64x1024 .f32)
  (x4 : Vec F S1x1024x1024 .f32) (x5 : Vec F S64x1024 .f32) (x6 : Vec F S1024x1024 .f32) (x7 : Vec F S1024 .f32)
  (xt : TbBuf0 (F := F) c tbM0_0) (xs0 : Vec F S64x1024 .f32) (xs1 : Vec F S64x1024 .bf16)
  (hw : k0_chk1 i (word c i xt) (wordBefore c i xt))

/-- The first point's accumulator: the first listed expert added to zero. -/
theorem acc_A (hc0 : cond0_0 i) (hc2 : ¬cond0_2 i) (hc1 : cond0_1 i (word c i xt) (wordBefore c i xt)) :
    sout0_A_0 c i a2 h2 a3 h3 a4 h4 a5 h5 a6 h6 a7 h7 a8 h8 a9 h9 a10 h10 a11 h11 a12 h12 hc0 hc2 x0 x1 x2 x3 x4 x5 x6 x7 xt hc1 hw
      = k0_pay3 (word c i xt) x2 (k0_pay2 x0) (row x3 (word c i xt) (hw hc1)) x4 (row x5 (word c i xt) (hw hc1)) x1 (k0_pay1 (F := F)) := by
  unfold sout0_A_0
  rw [View.read_writes_eq_canon _ _ _ (scover0_A_0 c i a2 h2 a3 h3 a4 h4 a5 h5 a6 h6 a7 h7 a8 h8 a9 h9 a10 h10 a11 h11 a12 h12 hc0 hc2 x0 x1 x2 x3 x4 x5 x6 x7 xt hc1 hw)]
  unfold kernelRun0_A
  dsimp only
  sl_unfold_words
  rw [View.canon_cons_unit_zero (S := S64x1024) hz2]
  simp only [View.readCov_unit_zero (S := S64x1024) _ hz2, View.readAt_eq_ld, h2.read_unread, h3.read_unread,
    h4.read_unread, h5.read_unread, h6.read_unread, h7.read_unread, View.ld_unit_zero (S := S64x1024) hz2,
    View.ld_unit_zero (S := S64x64) hz2, View.ld_unit_zero (S := S1x1024x1024) hz3]
  rfl

/-- The first point narrows `x`. -/
theorem xb_A (hc0 : cond0_0 i) (hc2 : ¬cond0_2 i) (hc1 : cond0_1 i (word c i xt) (wordBefore c i xt)) :
    sout0_A_1 c i a2 h2 a3 h3 a4 h4 a5 h5 a6 h6 a7 h7 a8 h8 a9 h9 a10 h10 a11 h11 a12 h12 hc0 hc2 x0 x1 x2 x3 x4 x5 x6 x7 xt hc1 hw
      = k0_pay2 x0 := by
  unfold sout0_A_1
  rw [View.read_writes_eq_canon _ _ _ (scover0_A_1 c i a2 h2 a3 h3 a4 h4 a5 h5 a6 h6 a7 h7 a8 h8 a9 h9 a10 h10 a11 h11 a12 h12 hc0 hc2 x0 x1 x2 x3 x4 x5 x6 x7 xt hc1 hw)]
  unfold kernelRun0_A
  dsimp only
  sl_unfold_words
  rw [View.canon_cons_unit_zero (S := S64x1024) hz2]
  simp only [View.readAt_eq_ld, h2.read_unread, View.ld_unit_zero (S := S64x1024) hz2]

/-- A point that reads a new expert adds it. -/
theorem acc_C (hc0 : ¬cond0_0 i) (hc2 : ¬cond0_2 i) (hc1 : cond0_1 i (word c i xt) (wordBefore c i xt)) :
    sout0_C_0 c i a2 h2 a3 h3 a4 h4 a5 h5 a6 h6 a7 h7 a8 h8 a9 h9 a10 h10 a11 h11 a12 h12 hc0 hc2 x0 x1 x2 x3 x4 x5 x6 x7 xt xs0 xs1 hc1 hw
      = k0_pay3 (word c i xt) x2 xs1 (row x3 (word c i xt) (hw hc1)) x4 (row x5 (word c i xt) (hw hc1)) x1 xs0 := by
  unfold sout0_C_0
  rw [View.read_writes_eq_canon _ _ _ (scover0_C_0 c i a2 h2 a3 h3 a4 h4 a5 h5 a6 h6 a7 h7 a8 h8 a9 h9 a10 h10 a11 h11 a12 h12 hc0 hc2 x0 x1 x2 x3 x4 x5 x6 x7 xt xs0 xs1 hc1 hw)]
  unfold kernelRun0_C
  dsimp only
  sl_unfold_words
  rw [View.canon_cons_unit_zero (S := S64x1024) hz2]
  simp only [View.readAt_eq_ld, h3.read_unread, h4.read_unread, h5.read_unread, h6.read_unread, h7.read_unread,
    h11.read_unread, h12.read_unread, View.ld_unit_zero (S := S64x1024) hz2,
    View.ld_unit_zero (S := S64x64) hz2, View.ld_unit_zero (S := S1x1024x1024) hz3]
  rfl

theorem acc_E (hc0 : ¬cond0_0 i) (hc2 : cond0_2 i) (hc1 : cond0_1 i (word c i xt) (wordBefore c i xt)) :
    sout0_E_0 c i a2 h2 a3 h3 a4 h4 a5 h5 a6 h6 a7 h7 a8 h8 a9 h9 a10 h10 a11 h11 a12 h12 hc0 hc2 x0 x1 x2 x3 x4 x5 x6 x7 xt xs0 xs1 hc1 hw
      = k0_pay3 (word c i xt) x2 xs1 (row x3 (word c i xt) (hw hc1)) x4 (row x5 (word c i xt) (hw hc1)) x1 xs0 := by
  unfold sout0_E_0
  rw [View.read_writes_eq_canon _ _ _ (scover0_E_0 c i a2 h2 a3 h3 a4 h4 a5 h5 a6 h6 a7 h7 a8 h8 a9 h9 a10 h10 a11 h11 a12 h12 hc0 hc2 x0 x1 x2 x3 x4 x5 x6 x7 xt xs0 xs1 hc1 hw)]
  unfold kernelRun0_E
  dsimp only
  sl_unfold_words
  rw [View.canon_cons_unit_zero (S := S64x1024) hz2]
  simp only [View.readAt_eq_ld, h3.read_unread, h4.read_unread, h5.read_unread, h6.read_unread, h7.read_unread,
    h11.read_unread, h12.read_unread, View.ld_unit_zero (S := S64x1024) hz2,
    View.ld_unit_zero (S := S64x64) hz2, View.ld_unit_zero (S := S1x1024x1024) hz3]
  rfl

/-- The last point, reading a new expert: the output block of the accumulator it leaves. -/
theorem out_E (hc0 : ¬cond0_0 i) (hc2 : cond0_2 i) (hc1 : cond0_1 i (word c i xt) (wordBefore c i xt)) :
    out0_E_8 c i a2 h2 a3 h3 a4 h4 a5 h5 a6 h6 a7 h7 a8 h8 a9 h9 a10 h10 a11 h11 a12 h12 hc0 hc2 x0 x1 x2 x3 x4 x5 x6 x7 xt xs0 xs1 hc1 hw
      = k0_pay4 (k0_pay3 (word c i xt) x2 xs1 (row x3 (word c i xt) (hw hc1)) x4 (row x5 (word c i xt) (hw hc1)) x1 xs0) x6 x7 := by
  unfold out0_E_8
  rw [View.read_writes_eq_canon _ _ _ (cover0_E_8 c i a2 h2 a3 h3 a4 h4 a5 h5 a6 h6 a7 h7 a8 h8 a9 h9 a10 h10 a11 h11 a12 h12 hc0 hc2 x0 x1 x2 x3 x4 x5 x6 x7 xt xs0 xs1 hc1 hw)]
  unfold kernelRun0_E
  dsimp only
  sl_unfold_words
  rw [View.canon_cons_unit_zero (S := S64x1024) hz2]
  simp only [View.readCov_unit_zero (S := S64x1024) _ hz2, View.readAt_eq_ld, h3.read_unread, h4.read_unread, h5.read_unread, h6.read_unread, h7.read_unread,
    h8.read_unread, h9.read_unread, h11.read_unread, h12.read_unread, View.ld_unit_zero (S := S64x1024) hz2,
    View.ld_unit_zero (S := S64x64) hz2, View.ld_unit_zero (S := S1x1024x1024) hz3, View.ld_unit_zero (S := S1024x1024) hz2,
    View.ld_unit_zero (S := S1024) hz1]
  rfl

/-- The last point, repeating an expert: the output block of the accumulator it found. -/
theorem out_F (hc0 : ¬cond0_0 i) (hc2 : cond0_2 i) (hc1 : ¬cond0_1 i (word c i xt) (wordBefore c i xt)) :
    out0_F_8 c i a2 h2 a3 h3 a4 h4 a5 h5 a6 h6 a7 h7 a8 h8 a9 h9 a10 h10 a11 h11 a12 h12 hc0 hc2 x0 x1 x2 x3 x4 x5 x6 x7 xt xs0 xs1 hc1 hw
      = k0_pay4 xs0 x6 x7 := by
  unfold out0_F_8
  rw [View.read_writes_eq_canon _ _ _ (cover0_F_8 c i a2 h2 a3 h3 a4 h4 a5 h5 a6 h6 a7 h7 a8 h8 a9 h9 a10 h10 a11 h11 a12 h12 hc0 hc2 x0 x1 x2 x3 x4 x5 x6 x7 xt xs0 xs1 hc1 hw)]
  unfold kernelRun0_F
  dsimp only
  sl_unfold_words
  rw [View.canon_cons_unit_zero (S := S64x1024) hz2]
  simp only [View.readAt_eq_ld, h8.read_unread, h9.read_unread, h11.read_unread, View.ld_unit_zero (S := S64x1024) hz2,
    View.ld_unit_zero (S := S1024x1024) hz2, View.ld_unit_zero (S := S1024) hz1]

end

end Cert.ExpertIdeal.Value

end
-- ==== Proof.Expert.Words.lean ====
/-
  The expert kernel's table words (hand-written, untrusted): the point's word and the word before it as entries of the
  list, and the frame's side conditions from every entry being an expert.
-/
module

public import proofs.«01_k».proof.Proof.Expert.Cases
public import Idealize.ShloMosaic.Lib.Pointwise

@[expose] public section

noncomputable section

namespace Cert.ExpertIdeal.Value

open Cert.ExpertIdeal Cert.ExpertIdeal.Gen Idealize.ShloMosaic Idealize.ShloMosaic.TcCoe Idealize.SL.Sem

variable {F : FTy → Type} [FloatOps F]

/-- The expert list, an entry per point. -/
abbrev entry (T : IVec S64x1 32) (n : Fin 64) : BitVec 32 := T (ix2 n 0)

theorem off1_val (i : grid0.Coords) : k0_off1 i 0 = (i 0).val := by
  have h : (i 0).val < 64 := (i 0).isLt
  show ((BitVec.ofNat 32 (i 0).val).setWidth _).toNat = _
  simp [BitVec.toNat_setWidth]
  omega

theorem off2_val (i : grid0.Coords) : k0_off2 i 0 = (i 0).val - 1 := by
  have h : (i 0).val < 64 := (i 0).isLt
  generalize hv : (i 0).val = v at h
  show (Scalar.indexCast (Scalar.maxsi (Scalar.subi (BitVec.ofNat 32 (i 0).val) 1#32) 0#32)).toNat = _
  rw [hv]
  interval_cases v <;> decide

theorem word_eq (c : Dev nD) (i : grid0.Coords) (xt : TbBuf0 (F := F) c tbM0_0) : word c i xt = entry xt (i 0) := by
  show xt _ = xt _
  congr 1
  funext a
  apply Fin.ext
  fin_cases a
  · show k0_off1 i 0 + 0 * 1 = _
    rw [off1_val]; rfl
  · rfl

theorem wordBefore_eq (c : Dev nD) (i : grid0.Coords) (xt : TbBuf0 (F := F) c tbM0_0) :
    wordBefore c i xt = entry xt ⟨(i 0).val - 1, lt_of_le_of_lt (Nat.sub_le _ _) (i 0).isLt⟩ := by
  show xt _ = xt _
  congr 1
  funext a
  apply Fin.ext
  fin_cases a
  · show k0_off2 i 0 + 0 * 1 = _
    rw [off2_val]; rfl
  · rfl

/-- A point computes exactly when it is the first or its word is not the word before it. -/
theorem cond1_iff (i : grid0.Coords) (v w : BitVec 32) : cond0_1 i v w ↔ (i 0).val = 0 ∨ v ≠ w := by
  have h : (i 0).val < 64 := (i 0).isLt
  have e : (BitVec.ofNat 32 (i 0).val == 0#32) = decide ((i 0).val = 0) := by
    generalize (i 0).val = n at h
    interval_cases n <;> decide
  show Scalar.cmpi .ne (Scalar.extui (Scalar.ori (BitVec.ofBool (BitVec.ofNat 32 (i 0).val == 0#32)) (BitVec.ofBool (v != w)))) 0#32 = 1#1 ↔ _
  rw [e]
  have e' : (v != w) = decide (v ≠ w) := by by_cases hv : v = w <;> simp [hv]
  rw [e']
  by_cases hi : (i 0).val = 0 <;> by_cases hv : v = w <;> simp only [hi, hv, ne_eq, not_true, not_false_iff, decide_true, decide_false] <;> decide

variable (m : (ℓ : Loc nD τ sig) → Buf (Elt F) ℓ)

/-- The list in the launch memory. -/
abbrev list : IVec S64x1 32 := m (((0 : Dev nD) : Thread nD τ).loc main_arg0)

theorem ok_of (h : ∀ n, (entry (list m) n).toNat < 64) : Ok m := by
  have hw : ∀ i : grid0.Coords, ∀ a, (cc0_transform_2 k0_off1_inb numel1_S1x1 (tbl m) i a + 1) * S1x1024x1024.size a ≤ S64x1024x1024.size a := by
    intro i a
    fin_cases a
    · have e : cc0_transform_2 k0_off1_inb numel1_S1x1 (tbl m) i 0 = (entry (list m) (i 0)).toNat :=
        congrArg BitVec.toNat (word_eq (F := F) 0 i (list m))
      have := h (i 0)
      show (cc0_transform_2 k0_off1_inb numel1_S1x1 (tbl m) i 0 + 1) * 1 ≤ 64
      omega
    · show (0 + 1) * 1024 ≤ 1024; omega
    · show (0 + 1) * 1024 ≤ 1024; omega
  exact ⟨fun i => ⟨hw i, Or.inl rfl⟩, fun i => ⟨hw i, Or.inl rfl⟩⟩

section hyps
attribute [local irreducible] k0_chk1

theorem chk_of (i : grid0.Coords) (v w : BitVec 32) (h : v.toNat < 64) : k0_chk1 i v w := by
  unfold k0_chk1
  intro _ a
  fin_cases a
  · show (v.setWidth _).toNat + 1 ≤ 64
    simp [BitVec.toNat_setWidth]
    omega
  · show 0 + 1024 ≤ 1024; omega

theorem hyps_of (hO : Ok m) (h : ∀ n, (entry (list m) n).toNat < 64) : Hyps m hO := Hyps.of fun c t => by
  unfold Hyps.p0
  refine chk_of _ _ _ ?_
  have e : word (F := F) c (grid0.coords t) (list m) = entry (list m) (grid0.coords t 0) := word_eq (F := F) c (grid0.coords t) (list m)
  show (word (F := F) c (grid0.coords t) (list m)).toNat < 64
  exact e ▸ h _

end hyps

end Cert.ExpertIdeal.Value

end
-- ==== Proof.Moe.lean ====
/-
  The mixture of experts over the extended reals, free of any program (hand-written, untrusted).

  `expertOut` is one expert's two-layer network at one row and one column, `combined` its gated sum over the experts,
  `output` the final layer. `runningSum` is what a walk over a list of experts accumulates when it skips an entry equal
  to the entry before it; over an ascending list that holds every expert of nonzero gate it is the gated sum
  (`runningSum_eq_sum`).
-/
module

public import Idealize.ShloMosaic.Lib.Pointwise

@[expose] public section

noncomputable section

namespace Cert.Moe

open Idealize.ShloMosaic

abbrev Rows : Type := FVec Ideal ⟨2, ![64, 1024]⟩ .f32
abbrev Gates : Type := FVec Ideal ⟨2, ![64, 64]⟩ .f32
abbrev Stack : Type := FVec Ideal ⟨3, ![64, 1024, 1024]⟩ .f32
abbrev Square : Type := FVec Ideal ⟨2, ![1024, 1024]⟩ .f32
abbrev Column : Type := FVec Ideal ⟨1, ![1024]⟩ .f32

/-- Expert `e`'s two-layer network at row `b`, column `k`. -/
def expertOut (x : Rows) (W1 : Stack) (b1 : Rows) (W2 : Stack) (b2 : Rows) (b e : Fin 64) (k : Fin 1024) : EReal :=
  (∑ h : Fin 1024, max ((∑ d : Fin 1024, x (ix2 b d) * W1 (ix3 e d h)) + b1 (ix2 e h)) 0 * W2 (ix3 e h k)) + b2 (ix2 e k)

/-- The experts' outputs, gated and summed. -/
def combined (x : Rows) (G : Gates) (W1 : Stack) (b1 : Rows) (W2 : Stack) (b2 : Rows) (b : Fin 64) (k : Fin 1024) : EReal :=
  ∑ e : Fin 64, G (ix2 b e) * expertOut x W1 b1 W2 b2 b e k

/-- The final layer of the gated sum. -/
def output (x : Rows) (G : Gates) (W1 : Stack) (b1 : Rows) (W2 : Stack) (b2 : Rows) (Wf : Square) (bf : Column) : Rows :=
  fun j => (∑ h : Fin 1024, combined x G W1 b1 W2 b2 (j 0) h * Wf (ix2 h (j 1))) + bf (ix1 (j 1))

/-- What a walk along the list `w` accumulates of `f`, an entry equal to the one before it skipped. -/
def runningSum (w : ℕ → Fin 64) (f : Fin 64 → EReal) : ℕ → EReal
  | 0 => 0 + f (w 0)
  | n + 1 => if w (n + 1) = w n then runningSum w f n else runningSum w f n + f (w (n + 1))

theorem le_of_steps (w : ℕ → Fin 64) (N : ℕ) (hw : ∀ n, n < N → w n ≤ w (n + 1)) (n : ℕ) (hn : n ≤ N) (j : ℕ) (hj : j ≤ n) :
    w j ≤ w n := by
  induction n, hj using Nat.le_induction with
  | base => exact le_rfl
  | succ k hk IH => exact (IH (by omega)).trans (hw k (by omega))

/-- Along an ascending list it is the sum over the entries met. -/
theorem runningSum_eq_image (w : ℕ → Fin 64) (f : Fin 64 → EReal) (N : ℕ) (hw : ∀ n, n < N → w n ≤ w (n + 1)) :
    ∀ n, n ≤ N → runningSum w f n = ∑ e ∈ (Finset.range (n + 1)).image w, f e
  | 0, _ => by simp [runningSum]
  | n + 1, h => by
    have ih := runningSum_eq_image w f N hw n (by omega)
    have hle : ∀ j, j ≤ n → w j ≤ w n := fun j hj => le_of_steps w N hw n (by omega) j hj
    rw [runningSum, Finset.range_add_one (n := n + 1), Finset.image_insert]
    split_ifs with he
    · rw [Finset.insert_eq_self.mpr (by rw [he]; exact Finset.mem_image_of_mem w (by simp)), ih]
    · rw [Finset.sum_insert, ih, add_comm]
      intro hmem
      obtain ⟨j, hj, hjw⟩ := Finset.mem_image.mp hmem
      have h1 := hle j (by simpa [Nat.lt_succ_iff] using hj)
      have h2 := hw n (by omega)
      exact he (le_antisymm (hjw ▸ h1) h2)

/-- Over the whole list, where an expert it does not hold contributes nothing: the sum over every expert. -/
theorem runningSum_eq_sum (w : ℕ → Fin 64) (f : Fin 64 → EReal) (hw : ∀ n, n < 63 → w n ≤ w (n + 1))
    (hf : ∀ e, (∀ n, n < 64 → w n ≠ e) → f e = 0) : runningSum w f 63 = ∑ e, f e := by
  rw [runningSum_eq_image w f 63 hw 63 le_rfl]
  refine Finset.sum_subset (Finset.subset_univ _) fun e _ he => hf e fun n hn h => he ?_
  exact Finset.mem_image.mpr ⟨n, by simpa using hn, h⟩

/-- One point's gate: the gate matrix's column at the expert's word, taken out by a sum of one nonzero term. -/
theorem sum_select (v : BitVec 32) (e : Fin 64) (h : v = BitVec.ofNat 32 e.val) (g : Fin 64 → EReal) :
    (∑ j : Fin 64, Scalar.select (IntOp.cmpi CmpIPredicate.eq (BitVec.ofNat 32 j.val) v) (g j) 0) = g e := by
  rw [Finset.sum_eq_single e]
  · subst h; simp [Scalar.select, IntOp.cmpi]
  · intro j _ hj
    have : BitVec.ofNat 32 j.val ≠ v := by
      rw [h]; intro hc
      have := congrArg BitVec.toNat hc
      simp only [BitVec.toNat_ofNat] at this
      rw [Nat.mod_eq_of_lt (by omega), Nat.mod_eq_of_lt (by omega)] at this
      exact hj (Fin.ext this)
    have hb : (BitVec.ofNat 32 j.val == v) = false := by simpa using this
    simp [Scalar.select, IntOp.cmpi, hb]
  · simp

end Cert.Moe

end
-- ==== Proof.Expert.Pay.lean ====
/-
  The expert kernel's stored values read at an index, over the extended reals, and the reference's result
  (hand-written, untrusted): both are the sums of Moe.lean.
-/
module

public import proofs.«01_k».proof.Proof.Gen.ExpertIdeal.Skeleton
public import proofs.«01_k».proof.Proof.Gen.ReferenceIdeal.Run
public import proofs.«01_k».proof.Proof.Moe

@[expose] public section

set_option maxRecDepth 16384

noncomputable section

namespace Cert.ExpertIdeal.Value

open Cert.ExpertIdeal Cert.ExpertIdeal.Gen Idealize.ShloMosaic

theorem pay1_apply (b : Fin 64) (k : Fin 1024) : k0_pay1 (F := Ideal) (ix2 b k) = 0 := by
  pointwise [k0_pay1]

theorem pay2_apply (x : Vec Ideal S64x1024 .f32) (b : Fin 64) (k : Fin 1024) :
    k0_pay2 (F := Ideal) x (ix2 b k) = x (ix2 b k) := by
  pointwise [k0_pay2]

theorem pay4_apply (a : Vec Ideal S64x1024 .f32) (Wf : Vec Ideal S1024x1024 .f32) (bf : Vec Ideal S1024 .f32) (b : Fin 64)
    (k : Fin 1024) : k0_pay4 (F := Ideal) a Wf bf (ix2 b k) = (∑ h : Fin 1024, a (ix2 b h) * Wf (ix2 h k)) + bf (ix1 k) := by
  pointwise [k0_pay4]

/-- A point's step: the accumulator plus the expert's gate times its output. -/
theorem pay3_apply (v : BitVec 32) (e : Fin 64) (hv : v = BitVec.ofNat 32 e.val) (w1 : Vec Ideal S1x1024x1024 .f32)
    (xb : Vec Ideal S64x1024 .bf16) (r1 : Vec Ideal S1x1024 .f32) (w2 : Vec Ideal S1x1024x1024 .f32)
    (r2 : Vec Ideal S1x1024 .f32) (g : Vec Ideal S64x64 .f32) (a : Vec Ideal S64x1024 .f32) (b : Fin 64) (k : Fin 1024) :
    k0_pay3 (F := Ideal) v w1 xb r1 w2 r2 g a (ix2 b k) = a (ix2 b k) + g (ix2 b e) *
      ((∑ h : Fin 1024, max ((∑ d : Fin 1024, xb (ix2 b d) * w1 (ix3 0 d h)) + r1 (ix2 0 h)) 0 * w2 (ix3 0 h k)) + r2 (ix2 0 k)) := by
  pointwise [k0_pay3]
  rw [Cert.Moe.sum_select v e hv fun j => g (ix2 b j)]

end Cert.ExpertIdeal.Value

namespace Cert.ReferenceIdeal.Value

open Cert.ReferenceIdeal Cert.ReferenceIdeal.Gen Idealize.ShloMosaic Idealize.ShloMosaic.TcCoe Idealize.SL.Sem

/-- The reference's composed term is the final layer of the gated sum. -/
theorem ref_eq (x : Cert.Moe.Rows) (G : Cert.Moe.Gates) (W1 : Cert.Moe.Stack) (b1 : Cert.Moe.Rows) (W2 : Cert.Moe.Stack)
    (b2 : Cert.Moe.Rows) (Wf : Cert.Moe.Square) (bf : Cert.Moe.Column) :
    addf (Host.dotGeneral dot_S64x1024_S1024x1024_S64x1024_1_0_0_1_n_n none (Host.divf (Host.reduceAdd (mulf (broadcastInDim S64x64x1024 ![0, 1, 2] bcast_S64x64x1_S64x64x1024_0_1_2 (broadcastInDim S64x64x1 ![0, 1] bcast_S64x64_S64x64x1_0_1 G)) (addf (transpose S64x64x1024 [2, 0, 1] (Host.dotGeneral dot_S64x1024x1024_S64x64x1024_S64x1024x64_1_2_2_0_0_1 none W2 (maximumf (addf (Host.dotGeneral dot_S64x1024_S64x1024x1024_S64x64x1024_1_1_0_02_n_n none x W1) (broadcastInDim S64x64x1024 ![0, 1, 2] bcast_S1x64x1024_S64x64x1024_0_1_2 (broadcastInDim S1x64x1024 ![1, 2] bcast_S64x1024_S1x64x1024_1_2 b1))) (broadcastInDim S64x64x1024 ![] bcast_S_S64x64x1024 (constant S_ .f32 0x00000000#32)))) transposes_S64x1024x64_S64x64x1024_2_0_1) (broadcastInDim S64x64x1024 ![0, 1, 2] bcast_S1x64x1024_S64x64x1024_0_1_2 (broadcastInDim S1x64x1024 ![1, 2] bcast_S64x1024_S1x64x1024_1_2 b2)))) (constant S_ .f32 0x00000000#32) reducesTo_S64x64x1024_S64x1024_d1 h_S_) (broadcastInDim S64x1024 ![] bcast_S_S64x1024 (constant S_ .f32 0x3F800000#32))) Wf) (broadcastInDim S64x1024 ![0, 1] bcast_S1x1024_S64x1024_0_1 (broadcastInDim S1x1024 ![1] bcast_S1024_S1x1024_1 bf))
      = Cert.Moe.output x G W1 b1 W2 b2 Wf bf := by
  funext j
  idx_vars j
  unfold Cert.Moe.output Cert.Moe.combined Cert.Moe.expertOut
  pointwise
  simp only [Ideal.div, inv_one, mul_one, one_ne_zero, if_false, mul_comm (W2 _)]

end Cert.ReferenceIdeal.Value

end
-- ==== Proof.Expert.Chain.lean ====
/-
  What the expert kernel's accumulator holds after each point, over the extended reals (hand-written, untrusted): the
  running sum of Moe.lean along the list; and the output block of the last point.
-/
module

public import proofs.«01_k».proof.Proof.Expert.Words
public import proofs.«01_k».proof.Proof.Expert.Pay

@[expose] public section

noncomputable section

namespace Cert.ExpertIdeal.Value

open Cert.ExpertIdeal Cert.ExpertIdeal.Gen Idealize.ShloMosaic Idealize.ShloMosaic.TcCoe Idealize.SL.Sem

variable (m : (ℓ : Loc nD τ sig) → Buf (Elt Ideal) ℓ)

/-- The arguments in the launch memory. -/
abbrev aX (c : Dev nD) : Moe.Rows := m ((c : Thread nD τ).loc main_arg1)
abbrev aG (c : Dev nD) : Moe.Gates := m ((c : Thread nD τ).loc main_arg2)
abbrev aW1 (c : Dev nD) : Moe.Stack := m ((c : Thread nD τ).loc main_arg3)
abbrev aB1 (c : Dev nD) : Moe.Rows := m ((c : Thread nD τ).loc main_arg4)
abbrev aW2 (c : Dev nD) : Moe.Stack := m ((c : Thread nD τ).loc main_arg5)
abbrev aB2 (c : Dev nD) : Moe.Rows := m ((c : Thread nD τ).loc main_arg6)
abbrev aWf (c : Dev nD) : Moe.Square := m ((c : Thread nD τ).loc main_arg7)
abbrev aBf (c : Dev nD) : Moe.Column := m ((c : Thread nD τ).loc main_arg8)

/-- The list's experts in the order of the points. -/
def walk (T : IVec S64x1 32) (n : ℕ) : Fin 64 := Fin.ofNat 64 (entry T (Fin.ofNat 64 n)).toNat

/-- An expert's gated output, at row `b` and column `k`. -/
abbrev term (c : Dev nD) (b : Fin 64) (k : Fin 1024) (e : Fin 64) : EReal :=
  aG m c (ix2 b e) * Moe.expertOut (aX m c) (aW1 m c) (aB1 m c) (aW2 m c) (aB2 m c) b e k

variable (hO : Ok m) (hH : Hyps m hO) (h : ∀ n, (entry (list m) n).toNat < 64)

theorem lt64 (t : Fin (cfgM m hO).N) : t.val < 64 := Nat.lt_of_lt_of_eq t.isLt N_0

theorem coord (t : Fin grid0.N) : (grid0.coords t 0).val = t.val := by
  have e : (grid0.coords t 0).val = t.val / 1 % 64 := Pipeline.Grid.coords_val t 0 (by decide) rfl
  have := Nat.lt_of_lt_of_eq t.isLt N_0
  omega

theorem iblk0 (c : Dev nD) (t : Fin (cfgM m hO).N) : iblk m hO c 0 t = aX m c := by
  refine funext fun (j : S64x1024.Idx) => ?_
  show aX m c _ = aX m c _
  congr 1; funext a; apply Fin.ext; fin_cases a
  · show 0 * 64 + 1 * (j 0).val = (j 0).val; omega
  · show 0 * 1024 + 1 * (j 1).val = (j 1).val; omega

theorem iblk1 (c : Dev nD) (t : Fin (cfgM m hO).N) : iblk m hO c 1 t = aG m c := by
  refine funext fun (j : S64x64.Idx) => ?_
  show aG m c _ = aG m c _
  congr 1; funext a; apply Fin.ext; fin_cases a
  · show 0 * 64 + 1 * (j 0).val = (j 0).val; omega
  · show 0 * 64 + 1 * (j 1).val = (j 1).val; omega

theorem iblk3 (c : Dev nD) (t : Fin (cfgM m hO).N) : iblk m hO c 3 t = aB1 m c := by
  refine funext fun (j : S64x1024.Idx) => ?_
  show aB1 m c _ = aB1 m c _
  congr 1; funext a; apply Fin.ext; fin_cases a
  · show 0 * 64 + 1 * (j 0).val = (j 0).val; omega
  · show 0 * 1024 + 1 * (j 1).val = (j 1).val; omega

theorem iblk5 (c : Dev nD) (t : Fin (cfgM m hO).N) : iblk m hO c 5 t = aB2 m c := by
  refine funext fun (j : S64x1024.Idx) => ?_
  show aB2 m c _ = aB2 m c _
  congr 1; funext a; apply Fin.ext; fin_cases a
  · show 0 * 64 + 1 * (j 0).val = (j 0).val; omega
  · show 0 * 1024 + 1 * (j 1).val = (j 1).val; omega

theorem iblk6 (c : Dev nD) (t : Fin (cfgM m hO).N) : iblk m hO c 6 t = aWf m c := by
  refine funext fun (j : S1024x1024.Idx) => ?_
  show aWf m c _ = aWf m c _
  congr 1; funext a; apply Fin.ext; fin_cases a
  · show 0 * 1024 + 1 * (j 0).val = (j 0).val; omega
  · show 0 * 1024 + 1 * (j 1).val = (j 1).val; omega

theorem iblk7 (c : Dev nD) (t : Fin (cfgM m hO).N) : iblk m hO c 7 t = aBf m c := by
  refine funext fun (j : S1024.Idx) => ?_
  show aBf m c _ = aBf m c _
  congr 1; funext a; apply Fin.ext; fin_cases a
  show 0 * 1024 + 1 * (j 0).val = (j 0).val; omega

/-- The point's expert. -/
abbrev expertAt (t : Fin (cfgM m hO).N) : Fin 64 := walk (list m) t.val

include h in
theorem word_at (c : Dev nD) (t : Fin (cfgM m hO).N) :
    word (F := Ideal) c (grid0.coords t) (list m) = BitVec.ofNat 32 (expertAt m hO t).val := by
  rw [word_eq (F := Ideal) c (grid0.coords t) (list m)]
  have e : grid0.coords t 0 = Fin.ofNat 64 t.val := Fin.ext (by
    rw [coord]; exact (Nat.mod_eq_of_lt (lt64 m hO t)).symm)
  rw [e]
  apply BitVec.eq_of_toNat_eq
  have := h (Fin.ofNat 64 t.val)
  show _ = (BitVec.ofNat 32 ((entry (list m) (Fin.ofNat 64 t.val)).toNat % 64)).toNat
  rw [BitVec.toNat_ofNat]
  omega

include h in
theorem iblk2 (c : Dev nD) (t : Fin (cfgM m hO).N) (d k : Fin 1024) :
    iblk m hO c 2 t (ix3 0 d k) = aW1 m c (ix3 (expertAt m hO t) d k) := by
  show aW1 m c _ = aW1 m c _
  congr 1; funext a; apply Fin.ext; fin_cases a
  · show (word (F := Ideal) c (grid0.coords t) (list m)).toNat * 1 + 0 * 1 = (expertAt m hO t).val
    rw [word_at m hO h, BitVec.toNat_ofNat]
    omega
  · show 0 * 1024 + 1 * d.val = d.val; omega
  · show 0 * 1024 + 1 * k.val = k.val; omega

include h in
theorem iblk4 (c : Dev nD) (t : Fin (cfgM m hO).N) (d k : Fin 1024) :
    iblk m hO c 4 t (ix3 0 d k) = aW2 m c (ix3 (expertAt m hO t) d k) := by
  show aW2 m c _ = aW2 m c _
  congr 1; funext a; apply Fin.ext; fin_cases a
  · show (word (F := Ideal) c (grid0.coords t) (list m)).toNat * 1 + 0 * 1 = (expertAt m hO t).val
    rw [word_at m hO h, BitVec.toNat_ofNat]
    omega
  · show 0 * 1024 + 1 * d.val = d.val; omega
  · show 0 * 1024 + 1 * k.val = k.val; omega

theorem row_apply (x : Vec Ideal S64x1024 .f32) (v : BitVec 32) (hv) (e : Fin 64) (he : v = BitVec.ofNat 32 e.val) (k : Fin 1024) :
    row x v hv (ix2 0 k) = x (ix2 e k) := by
  show x _ = x _
  congr 1; funext a; apply Fin.ext; fin_cases a
  · show (v.setWidth _).toNat + 0 * 1 = e.val
    subst he
    simp [BitVec.toNat_setWidth]
    omega
  · show 0 + 1 * k.val = k.val; omega

/-- A computing point adds its expert's gated output. -/
theorem step (c : Dev nD) (e : Fin 64) (v : BitVec 32) (hw : v = BitVec.ofNat 32 e.val) (x1 : Vec Ideal S64x64 .f32)
    (x2 x4 : Vec Ideal S1x1024x1024 .f32) (x3 x5 : Vec Ideal S64x1024 .f32) (xb : Vec Ideal S64x1024 .bf16)
    (a : Vec Ideal S64x1024 .f32) (hv hv') (h1 : x1 = aG m c) (h2 : ∀ d k, x2 (ix3 0 d k) = aW1 m c (ix3 e d k)) (h3 : x3 = aB1 m c)
    (h4 : ∀ d k, x4 (ix3 0 d k) = aW2 m c (ix3 e d k)) (h5 : x5 = aB2 m c) (hb : xb = k0_pay2 (F := Ideal) (aX m c))
    (b : Fin 64) (k : Fin 1024) (s : EReal) (ha : a (ix2 b k) = s) :
    k0_pay3 (F := Ideal) v x2 xb (row x3 v hv) x4 (row x5 v hv') x1 a (ix2 b k) = s + term m c b k e := by
  subst h1 h3 h5 hb
  have r1 := row_apply (aB1 m c) v hv e hw
  have r2 := row_apply (aB2 m c) v hv' e hw
  generalize row (F := Ideal) (aB1 m c) v hv = q1 at r1 ⊢
  generalize row (F := Ideal) (aB2 m c) v hv' = q2 at r2 ⊢
  rw [pay3_apply v e hw, ha]
  simp only [h2, h4, r1, r2, pay2_apply]
  rfl

/-- The running sum after the points up to `n`. -/
abbrev sumTo (c : Dev nD) (b : Fin 64) (k : Fin 1024) (n : ℕ) : EReal := Moe.runningSum (walk (list m)) (term m c b k) n

include h in
/-- Whether a point computes, along the list. -/
theorem cond1_at (c : Dev nD) (n : ℕ) (hn : n + 1 < (cfgM m hO).N) :
    cond0_1 (grid0.coords (⟨n + 1, hn⟩ : Fin grid0.N)) (word (F := Ideal) c (grid0.coords (⟨n + 1, hn⟩ : Fin grid0.N)) (list m))
      (wordBefore (F := Ideal) c (grid0.coords (⟨n + 1, hn⟩ : Fin grid0.N)) (list m)) ↔ walk (list m) (n + 1) ≠ walk (list m) n := by
  have hN : n + 1 < 64 := Nat.lt_of_lt_of_eq hn N_0
  rw [cond1_iff, coord]
  have e0 : word (F := Ideal) c (grid0.coords (⟨n + 1, hn⟩ : Fin grid0.N)) (list m) = BitVec.ofNat 32 (walk (list m) (n + 1)).val :=
    word_at m hO h c ⟨n + 1, hn⟩
  have e1 : wordBefore (F := Ideal) c (grid0.coords (⟨n + 1, hn⟩ : Fin grid0.N)) (list m) = BitVec.ofNat 32 (walk (list m) n).val := by
    refine (wordBefore_eq (F := Ideal) c (grid0.coords (⟨n + 1, hn⟩ : Fin grid0.N)) (list m)).trans ?_
    refine Eq.trans ?_ (word_at m hO h c ⟨n, Nat.lt_of_succ_lt hn⟩)
    refine Eq.trans ?_ (word_eq (F := Ideal) c (grid0.coords (⟨n, Nat.lt_of_succ_lt hn⟩ : Fin grid0.N)) (list m)).symm
    refine congrArg (entry (list m)) (Fin.ext ?_)
    show (grid0.coords (⟨n + 1, hn⟩ : Fin grid0.N) 0).val - 1 = (grid0.coords (⟨n, Nat.lt_of_succ_lt hn⟩ : Fin grid0.N) 0).val
    rw [coord, coord]
    rfl
  rw [e0, e1]
  constructor
  · rintro (hz | hne) he
    · exact absurd hz (Nat.succ_ne_zero n)
    · exact hne (by rw [he])
  · intro hne
    refine Or.inr fun hc => hne (Fin.ext ?_)
    have := congrArg BitVec.toNat hc
    simp only [BitVec.toNat_ofNat] at this
    omega

include h in
/-- The step at a point, over the point's blocks. -/
theorem stepAt (c : Dev nD) (t : Fin (cfgM m hO).N) (xb : Vec Ideal S64x1024 .bf16) (a : Vec Ideal S64x1024 .f32) (hv hv')
    (hb : xb = k0_pay2 (F := Ideal) (aX m c)) (b : Fin 64) (k : Fin 1024) (s : EReal) (ha : a (ix2 b k) = s) :
    k0_pay3 (F := Ideal) (word (F := Ideal) c (grid0.coords t) (tbl m 0)) (iblk m hO c 2 t) xb
      (row (iblk m hO c 3 t) (word (F := Ideal) c (grid0.coords t) (tbl m 0)) hv) (iblk m hO c 4 t)
      (row (iblk m hO c 5 t) (word (F := Ideal) c (grid0.coords t) (tbl m 0)) hv') (iblk m hO c 1 t) a (ix2 b k)
      = s + term m c b k (expertAt m hO t) :=
  step m c (expertAt m hO t) _ (word_at m hO h c t) _ _ _ _ _ _ _ _ _ (iblk1 m hO c t) (iblk2 m hO h c t) (iblk3 m hO c t)
    (iblk4 m hO h c t) (iblk5 m hO c t) hb b k s ha

/-- What the point before left. -/
abbrev prev (c : Dev nD) (t : Fin (cfgM m hO).N) :=
  outsAt0 m hO hH c (t.val - 1) (Nat.lt_of_le_of_lt (Nat.sub_le _ _) t.isLt)

/-- The computing condition at a point. -/
abbrev computes (c : Dev nD) (t : Fin (cfgM m hO).N) : Prop :=
  cond0_1 (grid0.coords t) (word (F := Ideal) c (grid0.coords t) (tbl m 0)) (wordBefore (F := Ideal) c (grid0.coords t) (tbl m 0))

theorem first_acc (c : Dev nD) (t : Fin (cfgM m hO).N) (ht : t.val = 0) (hc : computes m hO c t) :
    (outsAt0 m hO hH c t.val t.isLt).2.1 = k0_pay3 (F := Ideal) (word (F := Ideal) c (grid0.coords t) (tbl m 0)) (iblk m hO c 2 t) (k0_pay2 (F := Ideal) (iblk m hO c 0 t))
      (row (iblk m hO c 3 t) (word (F := Ideal) c (grid0.coords t) (tbl m 0)) (hH c t hc)) (iblk m hO c 4 t)
      (row (iblk m hO c 5 t) (word (F := Ideal) c (grid0.coords t) (tbl m 0)) (hH c t hc)) (iblk m hO c 1 t) (k0_pay1 (F := Ideal)) := by
  have e' := congrArg (fun q => q.2.1) (outsAt0_A m hO hH c t (by omega) hc (by omega))
  dsimp only at e'
  exact e'.trans (acc_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (hH c t) ((hcond0_0 t).mpr (by omega)) (fun h => absurd ((hcond0_2 t).mp h) (by omega)) hc)

theorem first_xb (c : Dev nD) (t : Fin (cfgM m hO).N) (ht : t.val = 0) (hc : computes m hO c t) :
    (outsAt0 m hO hH c t.val t.isLt).2.2 = k0_pay2 (F := Ideal) (iblk m hO c 0 t) := by
  have e' := congrArg (fun q => q.2.2) (outsAt0_A m hO hH c t (by omega) hc (by omega))
  dsimp only at e'
  exact e'.trans (xb_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (hH c t) ((hcond0_0 t).mpr (by omega)) (fun h => absurd ((hcond0_2 t).mp h) (by omega)) hc)

theorem adds_acc (c : Dev nD) (t : Fin (cfgM m hO).N) (ht : t.val ≠ 0) (hc : computes m hO c t) :
    (outsAt0 m hO hH c t.val t.isLt).2.1 = k0_pay3 (F := Ideal) (word (F := Ideal) c (grid0.coords t) (tbl m 0)) (iblk m hO c 2 t) (prev m hO hH c t).2.2
      (row (iblk m hO c 3 t) (word (F := Ideal) c (grid0.coords t) (tbl m 0)) (hH c t hc)) (iblk m hO c 4 t)
      (row (iblk m hO c 5 t) (word (F := Ideal) c (grid0.coords t) (tbl m 0)) (hH c t hc)) (iblk m hO c 1 t) (prev m hO hH c t).2.1 := by
  have hN := lt64 m hO t
  by_cases h2 : t.val % 64 = 63
  · have e' := congrArg (fun q => q.2.1) (outsAt0_E m hO hH c t (by omega) hc h2)
    dsimp only at e'
    exact e'.trans (acc_E (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (prev m hO hH c t).2.1 (prev m hO hH c t).2.2 (hH c t) (fun h => absurd ((hcond0_0 t).mp h) (by omega)) ((hcond0_2 t).mpr (by omega)) hc)
  · have e' := congrArg (fun q => q.2.1) (outsAt0_C m hO hH c t (by omega) hc h2)
    dsimp only at e'
    exact e'.trans (acc_C (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (prev m hO hH c t).2.1 (prev m hO hH c t).2.2 (hH c t) (fun h => absurd ((hcond0_0 t).mp h) (by omega)) (fun h => absurd ((hcond0_2 t).mp h) (by omega)) hc)

theorem adds_xb (c : Dev nD) (t : Fin (cfgM m hO).N) (ht : t.val ≠ 0) (hc : computes m hO c t) :
    (outsAt0 m hO hH c t.val t.isLt).2.2 = (prev m hO hH c t).2.2 := by
  have hN := lt64 m hO t
  by_cases h2 : t.val % 64 = 63
  · rw [outsAt0_E m hO hH c t (by omega) hc h2]; rfl
  · rw [outsAt0_C m hO hH c t (by omega) hc h2]; rfl

/-- The last point stores the final layer of what its accumulator ends at. -/
theorem last_out (c : Dev nD) (t : Fin (cfgM m hO).N) (ht : t.val = 63) :
    (outsAt0 m hO hH c t.val t.isLt).1 = k0_pay4 (F := Ideal) (outsAt0 m hO hH c t.val t.isLt).2.1 (iblk m hO c 6 t) (iblk m hO c 7 t) := by
  by_cases hc : computes m hO c t
  · refine Eq.trans ?_ (congrArg (fun a => k0_pay4 (F := Ideal) a (iblk m hO c 6 t) (iblk m hO c 7 t)) (adds_acc m hO hH c t (by omega) hc).symm)
    have e' := congrArg (fun q => q.1) (outsAt0_E m hO hH c t (by omega) hc (by omega))
    dsimp only at e'
    exact e'.trans (out_E (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (prev m hO hH c t).2.1 (prev m hO hH c t).2.2 (hH c t) (fun h => absurd ((hcond0_0 t).mp h) (by omega)) ((hcond0_2 t).mpr (by omega)) hc)
  · have e2 := congrArg (fun q => q.2.1) (outsAt0_F m hO hH c t (by omega) hc (by omega))
    dsimp only at e2
    refine Eq.trans ?_ (congrArg (fun a => k0_pay4 (F := Ideal) a (iblk m hO c 6 t) (iblk m hO c 7 t)) e2.symm)
    have e' := congrArg (fun q => q.1) (outsAt0_F m hO hH c t (by omega) hc (by omega))
    dsimp only at e'
    exact e'.trans (out_F (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (prev m hO hH c t).2.1 (prev m hO hH c t).2.2 (hH c t) (fun h => absurd ((hcond0_0 t).mp h) (by omega)) ((hcond0_2 t).mpr (by omega)) hc)

include h in
theorem chain_first (c : Dev nD) (t : Fin (cfgM m hO).N) (ht : t.val = 0) :
    (∀ b k, (outsAt0 m hO hH c t.val t.isLt).2.1 (ix2 b k) = 0 + term m c b k (expertAt m hO t))
      ∧ (outsAt0 m hO hH c t.val t.isLt).2.2 = k0_pay2 (F := Ideal) (aX m c) := by
  have hc : computes m hO c t := (cond1_iff _ _ _).mpr (Or.inl ((coord t).trans ht))
  have hb := congrArg (k0_pay2 (F := Ideal)) (iblk0 m hO c t)
  exact ⟨fun b k => (congrFun (first_acc m hO hH c t ht hc) (ix2 b k)).trans (stepAt m hO h c t _ _ _ _ hb b k 0 (pay1_apply b k)),
    (first_xb m hO hH c t ht hc).trans hb⟩

include h in
theorem chain_adds (c : Dev nD) (t : Fin (cfgM m hO).N) (ht : t.val ≠ 0) (hc : computes m hO c t)
    (hb : (prev m hO hH c t).2.2 = k0_pay2 (F := Ideal) (aX m c)) :
    (∀ b k, (outsAt0 m hO hH c t.val t.isLt).2.1 (ix2 b k) = (prev m hO hH c t).2.1 (ix2 b k) + term m c b k (expertAt m hO t))
      ∧ (outsAt0 m hO hH c t.val t.isLt).2.2 = k0_pay2 (F := Ideal) (aX m c) :=
  ⟨fun b k => (congrFun (adds_acc m hO hH c t ht hc) (ix2 b k)).trans (stepAt m hO h c t _ _ _ _ hb b k _ rfl),
    (adds_xb m hO hH c t ht hc).trans hb⟩

theorem chain_keeps (c : Dev nD) (t : Fin (cfgM m hO).N) (ht : t.val ≠ 0) (hc : ¬computes m hO c t) :
    (outsAt0 m hO hH c t.val t.isLt).2 = (prev m hO hH c t).2 := by
  have hN := lt64 m hO t
  by_cases h2 : t.val % 64 = 63
  · rw [outsAt0_F m hO hH c t (by omega) hc h2]; rfl
  · rw [outsAt0_D m hO hH c t (by omega) hc h2]; rfl

include h in
/-- After each point the accumulator holds the running sum, and the narrowed `x` its narrowing. -/
theorem chain (c : Dev nD) : ∀ (n : ℕ) (hn : n < (cfgM m hO).N),
    (∀ b k, (outsAt0 m hO hH c n hn).2.1 (ix2 b k) = sumTo m c b k n)
      ∧ (outsAt0 m hO hH c n hn).2.2 = k0_pay2 (F := Ideal) (aX m c)
  | 0, hn => chain_first m hO hH h c ⟨0, hn⟩ rfl
  | n + 1, hn => by
    obtain ⟨i1, i2⟩ := chain c n (Nat.lt_of_succ_lt hn)
    by_cases h1 : walk (list m) (n + 1) = walk (list m) n
    · have e := chain_keeps m hO hH c ⟨n + 1, hn⟩ (Nat.succ_ne_zero n) fun hc => (cond1_at m hO h c n hn).mp hc h1
      exact ⟨fun b k => (congrFun (congrArg Prod.fst e) _).trans ((i1 b k).trans (if_pos h1).symm), (congrArg Prod.snd e).trans i2⟩
    · obtain ⟨e1, e2⟩ := chain_adds m hO hH h c ⟨n + 1, hn⟩ (Nat.succ_ne_zero n) ((cond1_at m hO h c n hn).mpr h1) i2
      refine ⟨fun b k => (e1 b k).trans (Eq.trans ?_ (if_neg h1).symm), e2⟩
      exact congrArg (· + term m c b k (walk (list m) (n + 1))) (i1 b k)

include h in
/-- What the last point stores in the output block. -/
theorem out_last (c : Dev nD) (t : Fin (cfgM m hO).N) (ht : t.val = 63) (b : Fin 64) (k : Fin 1024) :
    (outsAt0 m hO hH c t.val t.isLt).1 (ix2 b k) = (∑ j : Fin 1024, sumTo m c b j 63 * aWf m c (ix2 j k)) + aBf m c (ix1 k) := by
  have hs := fun b k => ((chain m hO hH h c t.val t.isLt).1 b k).trans (congrArg (sumTo m c b k) ht)
  have key : ∀ a : Vec Ideal S64x1024 .f32, (∀ b k, a (ix2 b k) = sumTo m c b k 63) → ∀ x6 x7, x6 = aWf m c → x7 = aBf m c →
      k0_pay4 (F := Ideal) a x6 x7 (ix2 b k) = (∑ j : Fin 1024, sumTo m c b j 63 * aWf m c (ix2 j k)) + aBf m c (ix1 k) := by
    intro a ha x6 x7 h6 h7
    subst h6 h7
    rw [pay4_apply]
    simp only [ha]
  exact (congrFun (last_out m hO hH c t ht) (ix2 b k)).trans (key _ hs _ _ (iblk6 m hO c t) (iblk7 m hO c t))

end Cert.ExpertIdeal.Value

end
-- ==== Proof.Expert.Listed.lean ====
/-
  What the precondition `listed` says of its arguments, read off the printed predicate (hand-written, untrusted):
  every entry of the list is an expert, the list ascends, and an expert the list does not hold has a zero gate column.
-/
module

public import proofs.«01_k».proof.Proof.Gen.Pre_listed
public import Idealize.ShloMosaic.Lib.ReduceAll
public import Idealize.ShloMosaic.Lib.Pointwise
public import Idealize.ShloMosaic.Lib.Routing.OpsOrder

@[expose] public section

set_option maxRecDepth 16384

noncomputable section

namespace Cert.Pre_listed.Hand

open Cert.Pre_listed Cert.Pre_listed.Gen Idealize.ShloMosaic

variable {F : FTy → Type} [FloatOps F]

theorem bit (p : Bool) : (BitVec.ofBool p = 1#1) ↔ p = true := by cases p <;> decide
theorem andi_bit (a b : BitVec 1) : IntOp.andi a b = 1#1 ↔ a = 1#1 ∧ b = 1#1 := IntOp.andi_eq_one
theorem ori_bit (a b : BitVec 1) : IntOp.ori a b = 1#1 ↔ a = 1#1 ∨ b = 1#1 := by revert a b; decide

instance : Subsingleton S_.Idx := ⟨fun a b => funext fun i => i.elim0⟩

/-- A word of signed value in [0, 64) has that unsigned value. -/
theorem toNat_lt (v : BitVec 32) (h0 : (0#32).sle v = true) (h1 : v.slt 64#32 = true) : v.toNat < 64 := by
  rw [BitVec.sle_eq_decide, decide_eq_true_eq] at h0
  rw [BitVec.slt_eq_decide, decide_eq_true_eq] at h1
  have e := BitVec.toInt_eq_toNat_cond v
  have : (0#32 : BitVec 32).toInt = 0 := by decide
  have : (64#32 : BitVec 32).toInt = 64 := by decide
  split at e <;> omega

theorem toNat_le (v w : BitVec 32) (hv : v.toNat < 64) (hw : w.toNat < 64) (h : v.sle w = true) : v.toNat ≤ w.toNat := by
  rw [BitVec.sle_eq_decide, decide_eq_true_eq] at h
  rw [BitVec.toInt_eq_toNat_of_lt (by omega), BitVec.toInt_eq_toNat_of_lt (by omega)] at h
  omega

section
variable {a0 : IVec S64x1 32} {a1 : FVec F S64x1024 .f32} {a2 : FVec F S64x64 .f32} {a3 : FVec F S64x1024x1024 .f32}
  {a4 : FVec F S64x1024 .f32} {a5 : FVec F S64x1024x1024 .f32} {a6 : FVec F S64x1024 .f32} {a7 : FVec F S1024x1024 .f32}
  {a8 : FVec F S1024 .f32}

/-- Every entry is an expert. -/
theorem in_range (h : fn (F := F) a0 a1 a2 a3 a4 a5 a6 a7 a8 = fun _ => 1#1) (n : Fin 64) : (a0 (ix2 n 0)).toNat < 64 := by
  have e := congrFun h (fun i => i.elim0)
  unfold fn fn_part1 at e
  dsimp only at e
  have e1 := Host.reduce_andi_all _ _ _ _ _ ((andi_bit _ _).1 ((andi_bit _ _).1 e).1).1 (ix1 n)
  obtain ⟨g0, g1⟩ := (andi_bit _ _).1 e1
  have c : shapeCast S64 a0 shapeCasts_S64x1_S64 (ix1 n) = a0 (ix2 n 0) := by pointwise
  exact toNat_lt _ (c ▸ (bit _).1 g0) (c ▸ (bit _).1 g1)

/-- The list ascends. -/
theorem ascends (h : fn (F := F) a0 a1 a2 a3 a4 a5 a6 a7 a8 = fun _ => 1#1) (n : Fin 63) :
    (a0 (ix2 n.castSucc 0)).toNat ≤ (a0 (ix2 n.succ 0)).toNat := by
  have e := congrFun h (fun i => i.elim0)
  unfold fn fn_part1 at e
  dsimp only at e
  have e1 := Host.reduce_andi_all _ _ _ _ _ ((andi_bit _ _).1 ((andi_bit _ _).1 e).1).2 (ix1 n)
  have c0 : extractStridedSlice S63 ![0] (shapeCast S64 a0 shapeCasts_S64x1_S64) slices_S64_S63_0 (ix1 n) = a0 (ix2 n.castSucc 0) := by
    pointwise; rfl
  have c1 : extractStridedSlice S63 ![1] (shapeCast S64 a0 shapeCasts_S64x1_S64) slices_S64_S63_1 (ix1 n) = a0 (ix2 n.succ 0) := by
    pointwise
    exact congrArg (fun k => a0 (ix2 k 0)) (Fin.ext (Nat.add_comm 1 n.val))
  have g := (bit _).1 e1
  rw [c0, c1] at g
  exact toNat_le _ _ (in_range h _) (in_range h _) g

end

/-- Over the extended reals: an expert the list does not hold has a zero gate column. -/
theorem complete {a0 : IVec S64x1 32} {a1 : FVec Ideal S64x1024 .f32} {a2 : FVec Ideal S64x64 .f32} {a3 : FVec Ideal S64x1024x1024 .f32}
    {a4 : FVec Ideal S64x1024 .f32} {a5 : FVec Ideal S64x1024x1024 .f32} {a6 : FVec Ideal S64x1024 .f32}
    {a7 : FVec Ideal S1024x1024 .f32} {a8 : FVec Ideal S1024 .f32} (h : fn (F := Ideal) a0 a1 a2 a3 a4 a5 a6 a7 a8 = fun _ => 1#1)
    (x : Fin 64) (hx : ∀ n : Fin 64, (a0 (ix2 n 0)).toNat ≠ x.val) (b : Fin 64) : a2 (ix2 b x) = 0 := by
  have e := congrFun h (fun i => i.elim0)
  unfold fn fn_part1 at e
  dsimp only at e
  have e1 := Host.reduce_andi_all _ _ _ _ _ ((andi_bit _ _).1 e).2 (ix1 x)
  rcases (ori_bit _ _).1 e1 with g | g
  · exfalso
    have c : Host.reduce IntOp.ori (cmpi CmpIPredicate.eq (broadcastInDim S64x64 ![0, 1] bcast_S64x1_S64x64_0_1 a0)
        (broadcastInDim S64x64 ![0, 1] bcast_S1x64_S64x64_0_1 (broadcastInDim S1x64 ![1] bcast_S64_S1x64_1 (iotaInDim S64 32 0))))
        (constantI S_ 1 0#1) reducesTo_S64x64_S64_d0 h_S_ (ix1 x)
        = Finset.univ.fold IntOp.ori (0#1) (fun n : Fin 64 => IntOp.cmpi .eq (a0 (ix2 n 0)) (BitVec.ofNat 32 x.val)) := by
      pointwise
    rw [c] at g
    obtain ⟨n, -, hn⟩ := (Idealize.ShloMosaic.Routing.fold_ori _ _).1 g
    have hn' : (a0 (ix2 n 0) == BitVec.ofNat 32 x.val) = true := (bit _).1 hn
    refine hx n ?_
    rw [eq_of_beq hn', BitVec.toNat_ofNat, Nat.mod_eq_of_lt (by omega)]
  · have g1 := Host.reduce_andi_eq_one _ _ _ _ _ g (ix2 b x) (by funext a; fin_cases a; rfl)
    have c : cmpf CmpFPredicate.oeq a2 (broadcastInDim S64x64 ![] bcast_S_S64x64 (constant S_ .f32 0x00000000#32)) (ix2 b x)
        = Ideal.cmp .oeq (a2 (ix2 b x)) 0 := by pointwise
    rw [c] at g1
    exact of_decide_eq_true ((bit _).1 g1)

end Cert.Pre_listed.Hand

end
-- ==== Proof.Expert.Value.lean ====
/-
  The expert call's claims (hand-written, untrusted): its run leaves the mixture of experts of Moe.lean in the result,
  whatever the numbers, under the precondition `listed`; and so does the reference's.
-/
module

public import proofs.«01_k».proof.Defs
public import proofs.«01_k».proof.Proof.Gen.Expert
public import proofs.«01_k».proof.Proof.Gen.ReferenceIdeal.Run
public import proofs.«01_k».proof.Proof.Expert.Chain
public import proofs.«01_k».proof.Proof.Expert.Listed
public import Idealize.ShloMosaic.Lib.Pipeline.ValueKit

@[expose] public section

noncomputable section

namespace Cert.ExpertIdeal.Value

open Cert.ExpertIdeal Cert.ExpertIdeal.Gen Idealize.ShloMosaic Idealize.ShloMosaic.TcCoe Idealize.SL.Sem

/-- What `listed` says of a list and gates, over the extended reals. -/
structure Listed (T : IVec S64x1 32) (G : Moe.Gates) : Prop where
  range : ∀ n, (entry T n).toNat < 64
  ascends : ∀ n : Fin 63, (entry T n.castSucc).toNat ≤ (entry T n.succ).toNat
  complete : ∀ x : Fin 64, (∀ n, (entry T n).toNat ≠ x.val) → ∀ b, G (ix2 b x) = 0

theorem walk_val (T : IVec S64x1 32) (hT : ∀ n, (entry T n).toNat < 64) (n : Fin 64) : (walk T n.val).val = (entry T n).toNat := by
  unfold walk
  have e : Fin.ofNat 64 n.val = n := Fin.ext (Nat.mod_eq_of_lt n.isLt)
  rw [e]
  exact Nat.mod_eq_of_lt (hT n)

/-- Along a listing, the running sum of the gated outputs ends at the sum over every expert. -/
theorem listed_sum (T : IVec S64x1 32) (G : Moe.Gates) (hL : Listed T G) (g : Fin 64 → EReal) (b : Fin 64) :
    Moe.runningSum (walk T) (fun e => G (ix2 b e) * g e) 63 = ∑ e, G (ix2 b e) * g e := by
  refine Moe.runningSum_eq_sum _ _ (fun n hn => ?_) (fun e he => ?_)
  · have h1 := walk_val T hL.range (Fin.castSucc ⟨n, hn⟩)
    have h2 := walk_val T hL.range (Fin.succ ⟨n, hn⟩)
    have h3 := hL.ascends ⟨n, hn⟩
    rw [Fin.le_def]
    exact (h1.le.trans h3).trans h2.ge
  · have h0 : G (ix2 b e) = 0 := hL.complete e (fun n hne => he n.val n.isLt (Fin.ext ((walk_val T hL.range n).trans hne))) b
    show G (ix2 b e) * g e = 0
    rw [h0, zero_mul]

variable (m : (ℓ : Loc nD τ sig) → Buf (Elt Ideal) ℓ) (ρ : Dev nD → PrngReg)

/-- What the result array is shown to hold. -/
abbrev val (c : Dev nD) : Moe.Rows := Moe.output (aX m c) (aG m c) (aW1 m c) (aB1 m c) (aW2 m c) (aB2 m c) (aWf m c) (aBf m c)

variable (hO : Ok m) (hH : Hyps m hO) (hL : ∀ c : Dev nD, Listed (list m) (aG m c))

include hL in
theorem out_val (c : Dev nD) (t : Fin (cfgM m hO).N) (ht : t.val = 63) : (outsAt0 m hO hH c t.val t.isLt).1 = val m c := by
  refine funext fun (j : S64x1024.Idx) => ?_
  idx_vars j
  refine (out_last m hO hH (hL c).range c t ht _ _).trans ?_
  refine congrArg (· + _) (Finset.sum_congr rfl fun j _ => congrArg (· * _) ?_)
  exact listed_sum (list m) (aG m c) (hL c) _ _

include hL in
theorem flushed_eq (c : Dev nD) (t : Fin (cfgM m hO).N) (ht : t.val = 63) :
    (dats m hO hH 0 c).flushed 8 t = (((cfgM m hO).win 8).blk t).view.read (Elt Ideal) (val m c) := by
  show ((cfgM m hO).win 8).cut (grid0.coords t) ((dats m hO hH 0 c).after 8 t) = _
  rw [after0_8, out_val m hO hH hL c t ht]
  refine funext fun (j : S64x1024.Idx) => ?_
  show val m c _ = val m c _
  congr 1; funext a; apply Fin.ext; fin_cases a
  · show (j 0).val = 0 * 64 + 1 * (j 0).val; omega
  · show (j 1).val = 0 * 1024 + 1 * (j 1).val; omega

/-- The last point: the one at which the output block is written back. -/
abbrev tLast : Fin grid0.N := ⟨63, by rw [N_0]; decide⟩

/-- That block is the whole array. -/
theorem cover (i : S64x1024.Idx) :
    ∃ t : Fin (cfgM m hO).N, ((cfgM m hO).win 8).flush t = true ∧ i ∈ (((cfgM m hO).win 8).blk t).view.set := by
  refine ⟨tLast, (flush0_8 _ tLast).mpr rfl, ?_⟩
  show i ∈ ((View.whole main_v0).slice (((cfgM m hO).win 8).rect tLast)).set
  erw [View.set_slice_whole]
  refine (Pipeline.Window.mem_rect_iff ((cfgM m hO).win 8) tLast i (by rfl)).mpr fun a => ?_
  have e : ((cfgM m hO).win 8).index tLast a * ((cfgM m hO).win 8).size a = 0
      ∧ ((cfgM m hO).win 8).xsize (grid0.coords tLast) a = S64x1024.size a := by
    fin_cases a <;> exact ⟨rfl, rfl⟩
  rw [e.1, e.2, Nat.zero_add]
  exact ⟨Nat.zero_le _, (i a).isLt⟩

include hL in
theorem final_o (c : Dev nD) : (dats m hO hH 0 c).arrAt 8 (cfgM m hO).N = val m c :=
  (dats m hO hH 0 c).arrAt_eq_of_cover 8 (val m c)
    (fun t ht => flushed_eq m hO hH hL c t (by
      have h1 := (flush0_8 _ t).mp ht
      have h2 := lt64 m hO t
      omega))
    (cover m hO)

/-- The run, read: the result at the mixture of experts, the arguments unchanged. -/
theorem run (hO : Ok m) (hH : Hyps m hO) (hL : ∀ c : Dev nD, Listed (list m) (aG m c)) :
    θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ hr c => ⟨((hr c).1 8).trans (final_o m hO hH hL c),
      (hr c).2 main_arg0 (by decide : main_arg0 ∈ Pipeline.restRefs sig spec0),
      ((hr c).1 0).trans ((dats m hO hH 0 c).arrAt_in 0 rfl _),
      ((hr c).1 1).trans ((dats m hO hH 0 c).arrAt_in 1 rfl _),
      ((hr c).1 2).trans ((dats m hO hH 0 c).arrAt_in 2 rfl _),
      ((hr c).1 3).trans ((dats m hO hH 0 c).arrAt_in 3 rfl _),
      ((hr c).1 4).trans ((dats m hO hH 0 c).arrAt_in 4 rfl _),
      ((hr c).1 5).trans ((dats m hO hH 0 c).arrAt_in 5 rfl _),
      ((hr c).1 6).trans ((dats m hO hH 0 c).arrAt_in 6 rfl _),
      ((hr c).1 7).trans ((dats m hO hH 0 c).arrAt_in 7 rfl _)⟩)
    (run_main m ρ hO hH)

/-! ## The claims -/

theorem listed_of (h : Cert.Pre_ExpertIdeal m) (c : Dev nD) : Listed (list m) (aG m c) := by
  obtain rfl : c = 0 := Subsingleton.elim _ _
  exact ⟨fun n => Cert.Pre_listed.Hand.in_range (h 0) n, fun n => Cert.Pre_listed.Hand.ascends (h 0) n,
    fun x hx b => Cert.Pre_listed.Hand.complete (h 0) x hx b⟩

theorem frame_expertIdeal : Cert.quiescent_ExpertIdeal := fun m ρ h =>
  Gen.frame m ρ (ok_of m fun n => Cert.Pre_listed.Hand.in_range (h 0) n) (hyps_of m _ fun n => Cert.Pre_listed.Hand.in_range (h 0) n)

/-- The two programs' body tables are one text under two names. -/
theorem defs_eq {F : FTy → Type} [FloatOps F] : Cert.Expert.defs (F := F) = defs := by
  refine congrArg (Pipeline.defs pcfgs) ?_
  unfold Cert.Expert.defs₀ defs₀
  refine congrArg Defs.onTc ?_
  funext l a
  match l, a with
  | 0, (t, s) => rfl
  | ⟨n + 1, h⟩, _ => exact absurd h (Nat.not_lt.2 (Nat.le_add_left _ _))

theorem frame_expert : Cert.quiescent_Expert := by
  intro m ρ h
  rw [defs_eq]
  exact Gen.frame (F := Bits) m ρ (ok_of m fun n => Cert.Pre_listed.Hand.in_range (h 0) n)
    (hyps_of m _ fun n => Cert.Pre_listed.Hand.in_range (h 0) n)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem frame_reference_listed : Cert.quiescent_ReferenceIdeal_pre_listed := fun m ρ _ => frame_reference m ρ trivial

theorem algebraic : Cert.algebraic_ExpertIdeal_ReferenceIdeal := by
  intro m ρ m' ρ' hpre hagree
  have hL := listed_of m hpre
  refine ⟨fun c => val m c, run m ρ (ok_of m (hL 0).range) (hyps_of m _ (hL 0).range) hL, ?_⟩
  refine (θ_run Cert.ReferenceIdeal.defs _ _).mono (fun _ h c => ⟨(h c).1.trans ?_, (h c).2⟩) (Cert.ReferenceIdeal.Value.run m' ρ')
  obtain ⟨-, h1, h2, h3, h4, h5, h6, h7, h8⟩ := hagree c
  rw [h1, h2, h3, h4, h5, h6, h7, h8]
  exact Cert.ReferenceIdeal.Value.ref_eq ..

end Cert.ExpertIdeal.Value

end
-- ==== Proof.Probs.Rows.lean ====
/-
  The SparseCore kernel of the probabilities, read by rows.

  One vector subcore copies four rows of the logits in, treats them one after the other, and copies the four rows of
  probabilities out. Each row is four vectors of sixteen lanes. Here the row's arithmetic is a function of those four
  vectors, and the printed kernel is shown to be the copy in, four times the same row program, and the copy out.
-/
module

public import proofs.«01_k».proof.Defs
public import proofs.«01_k».proof.Proof.Gen.ProbsIdeal
public import proofs.«01_k».proof.Proof.Gen.ProbsIdeal.Skeleton
public import Idealize.ShloMosaic.Lib.Pointwise

@[expose] public section

noncomputable section

namespace Cert.ProbsIdeal.Rows

open Cert.ProbsIdeal Cert.ProbsIdeal.Gen
open Idealize.SL.Sem Idealize.ShloMosaic

variable {F : FTy → Type} [FloatOps F]

/-! ## One row's arithmetic -/

/-- Lane `k` of sixteen, as a scalar. -/
abbrev lane (v : FVec F S16 .f32) (k : Nat) (h : S16.Slices ![k] S1) : F .f32 :=
  extractAt ![0] (extractStridedSlice S1 ![k] v h) inpos_S1_p0

/-- The sixteen lanes folded by `op`, from the left. -/
def lanes (op : F .f32 → F .f32 → F .f32) (v : FVec F S16 .f32) : F .f32 :=
  op (op (op (op (op (op (op (op (op (op (op (op (op (op (op (lane v 0 slices_S16_o0_S1) (lane v 1 slices_S16_o1_S1)) (lane v 2 slices_S16_o2_S1)) (lane v 3 slices_S16_o3_S1)) (lane v 4 slices_S16_o4_S1)) (lane v 5 slices_S16_o5_S1)) (lane v 6 slices_S16_o6_S1)) (lane v 7 slices_S16_o7_S1)) (lane v 8 slices_S16_o8_S1)) (lane v 9 slices_S16_o9_S1)) (lane v 10 slices_S16_o10_S1)) (lane v 11 slices_S16_o11_S1)) (lane v 12 slices_S16_o12_S1)) (lane v 13 slices_S16_o13_S1)) (lane v 14 slices_S16_o14_S1)) (lane v 15 slices_S16_o15_S1)

/-- The largest of a row's sixty-four logits. -/
def top (a b c d : FVec F S16 .f32) : F .f32 :=
  Scalar.maximumf (Scalar.maximumf (Scalar.maximumf (lanes Scalar.maximumf a) (lanes Scalar.maximumf b))
    (lanes Scalar.maximumf c)) (lanes Scalar.maximumf d)

/-- The exponentials of sixteen logits less `m`. -/
def expOf (m : F .f32) (v : FVec F S16 .f32) : FVec F S16 .f32 := exp (subf v (broadcast S16 m))

/-- The sum of sixty-four numbers. -/
def total (a b c d : FVec F S16 .f32) : F .f32 :=
  Scalar.addf (Scalar.addf (Scalar.addf (Scalar.addf (Scalar.ofBits .f32 0x00000000#32) (lanes Scalar.addf a)) (lanes Scalar.addf b))
    (lanes Scalar.addf c)) (lanes Scalar.addf d)

/-- The denominator of a row: the sum of its exponentials. -/
def denom (a b c d : FVec F S16 .f32) : F .f32 :=
  total (expOf (top a b c d) a) (expOf (top a b c d) b) (expOf (top a b c d) c) (expOf (top a b c d) d)

/-- The probabilities of sixteen of a row's entries, from the row's maximum and its denominator. -/
def shareOf (m s : F .f32) (v : FVec F S16 .f32) : FVec F S16 .f32 := divf (expOf m v) (broadcast S16 s)

/-! ## The row program -/

theorem inb_row (r k : Fin 4) : ∀ a, (![r.val, 16 * k.val] : Fin 2 → Nat) a + S1x16.size a ≤ S4x64.size a := by
  have := r.isLt; have := k.isLt
  intro a; fin_cases a <;> simp <;> omega

/-- Sixteen entries of one row of the four: columns `16 k` to `16 k + 15`. -/
abbrev seg (r k : Fin 4) : Rect S4x64 := Rect.unit (s := S4x64) ![r.val, 16 * k.val] S1x16.size (inb_row r k)

abbrev E (i : grid1.Coords) := TpuEff nD τ sig (Elt F) Λ₀ (.scVector ((i 0).castLE hcore1) ((i 1).castLE hsub1))

/-- Row `r`: four loads, the row's arithmetic, and four times a load whose value is not used and a store. -/
def rowProg (i : grid1.Coords) (src dst : Memref sig .scVector .vmem S4x64 .f32) (r : Fin 4) : Prog (E (F := F) i) PUnit := do
  let a_ld : Vec F S1x16 .f32 ← Prog.lift (.load src (seg r 0).toLoadRect (View.loadsAt_vmem h_S1x16))
  let b_ld : Vec F S1x16 .f32 ← Prog.lift (.load src (seg r 1).toLoadRect (View.loadsAt_vmem h_S1x16))
  let c_ld : Vec F S1x16 .f32 ← Prog.lift (.load src (seg r 2).toLoadRect (View.loadsAt_vmem h_S1x16))
  let d_ld : Vec F S1x16 .f32 ← Prog.lift (.load src (seg r 3).toLoadRect (View.loadsAt_vmem h_S1x16))
  let a : FVec F S16 .f32 := shapeCast S16 a_ld shapeCasts_S1x16_S16
  let b : FVec F S16 .f32 := shapeCast S16 b_ld shapeCasts_S1x16_S16
  let c : FVec F S16 .f32 := shapeCast S16 c_ld shapeCasts_S1x16_S16
  let d : FVec F S16 .f32 := shapeCast S16 d_ld shapeCasts_S1x16_S16
  let m : F .f32 := top a b c d
  let s : F .f32 := denom a b c d
  let _ ← Prog.lift (.load dst (seg r 0).toLoadRect (View.loadsAt_vmem h_S1x16))
  Prog.lift (.store dst (seg r 0) (shapeCast S1x16 (shareOf m s a) shapeCasts_S16_S1x16) Finset.univ (View.stores_vmem_bits_univ h_S1x16 rfl) (.inl rfl))
  let _ ← Prog.lift (.load dst (seg r 1).toLoadRect (View.loadsAt_vmem h_S1x16))
  Prog.lift (.store dst (seg r 1) (shapeCast S1x16 (shareOf m s b) shapeCasts_S16_S1x16) Finset.univ (View.stores_vmem_bits_univ h_S1x16 rfl) (.inl rfl))
  let _ ← Prog.lift (.load dst (seg r 2).toLoadRect (View.loadsAt_vmem h_S1x16))
  Prog.lift (.store dst (seg r 2) (shapeCast S1x16 (shareOf m s c) shapeCasts_S16_S1x16) Finset.univ (View.stores_vmem_bits_univ h_S1x16 rfl) (.inl rfl))
  let _ ← Prog.lift (.load dst (seg r 3).toLoadRect (View.loadsAt_vmem h_S1x16))
  Prog.lift (.store dst (seg r 3) (shapeCast S1x16 (shareOf m s d) shapeCasts_S16_S1x16) Finset.univ (View.stores_vmem_bits_univ h_S1x16 rfl) (.inl rfl))

/-! ## The task -/

/-- The four rows of a 64-row array that the task at `i` copies. -/
abbrev rowsAt (i : grid1.Coords) (h : k1_cond1 i = 1#1) : Rect S64x64 :=
  Rect.unit (s := S64x64) (k1_off1 i) S4x64.size (k1_off1_inb i h)

def task (i : grid1.Coords) (arg2 : Memref sig .scVector .hbm S64x64 .f32) (arg3 : Memref sig .scVector .hbm S64x64 .f32)
    (arg4 : Memref sig .scVector .vmem S4x64 .f32) (harg4 : arg4.IsWhole) (arg5 : Memref sig .scVector .vmem S4x64 .f32) (harg5 : arg5.IsWhole)
    (s0 s1 : DmaSems sig S_) : Prog (E (F := F) i) PUnit :=
  if h : k1_cond1 i = 1#1 then do
    Prog.lift (.enqueueDma (arg2.slice (rowsAt i h) (fun _ => rfl)) (.here arg4) (.dma s0.sem) (View.wordExact_bits rfl) harg4.wordExact ⟨Or.inl rfl, trivial⟩)
    Prog.lift (.waitDma2 s0.sem (arg2.slice (rowsAt i h) (fun _ => rfl)) arg4 (View.wordExact_bits rfl) harg4.wordExact)
    rowProg i arg4 arg5 0
    rowProg i arg4 arg5 1
    rowProg i arg4 arg5 2
    rowProg i arg4 arg5 3
    Prog.lift (.enqueueDma arg5 (.here (arg3.slice (rowsAt i h) (fun _ => rfl))) (.dma s1.sem) harg5.wordExact (View.wordExact_bits rfl) ⟨Or.inl rfl, trivial⟩)
    Prog.lift (.waitDma2 s1.sem arg5 (arg3.slice (rowsAt i h) (fun _ => rfl)) harg5.wordExact (View.wordExact_bits rfl))
    pure ⟨⟩
  else pure ⟨⟩

set_option maxRecDepth 65536 in
/-- The printed kernel is the task: the same effects on the same values, in the same order. -/
theorem body_eq (i : grid1.Coords) (arg2 : Memref sig .scVector .hbm S64x64 .f32) (harg2 : arg2.IsWhole) (arg3 : Memref sig .scVector .hbm S64x64 .f32)
    (harg3 : arg3.IsWhole) (arg4 : Memref sig .scVector .vmem S4x64 .f32) (harg4 : arg4.IsWhole) (arg5 : Memref sig .scVector .vmem S4x64 .f32)
    (harg5 : arg5.IsWhole) (s0 s1 : DmaSems sig S_) :
    cc1__sc_probs_body (F := F) i arg2 harg2 arg3 harg3 arg4 harg4 arg5 harg5 s0 s1 = task i arg2 arg3 arg4 harg4 arg5 harg5 s0 s1 := by
  unfold cc1__sc_probs_body task
  by_cases h : k1_cond1 i = 1#1
  · rw [dif_pos h, dif_pos h]
    rfl
  · rw [dif_neg h, dif_neg h]

/-! ## A row of sixty-four -/

/-- Columns `16 k` to `16 k + 15` of a row. -/
def segV (g : Fin 64 → F .f32) (k : Fin 4) : FVec F S16 .f32 :=
  fun l => g ⟨16 * k.val + (l 0).val, by have := k.isLt; have h : (l 0).val < 16 := (l 0).isLt; omega⟩

/-- The row's maximum and denominator, from its sixty-four logits. -/
def rowTop (g : Fin 64 → F .f32) : F .f32 := top (segV g 0) (segV g 1) (segV g 2) (segV g 3)
def rowDenom (g : Fin 64 → F .f32) : F .f32 := denom (segV g 0) (segV g 1) (segV g 2) (segV g 3)

/-- What the kernel computes of one row: each entry's probability. -/
def prob (g : Fin 64 → F .f32) (j : Fin 64) : F .f32 :=
  shareOf (rowTop g) (rowDenom g) (segV g ⟨j.val / 16, by omega⟩) (ix1 (⟨j.val % 16, Nat.mod_lt _ (by norm_num)⟩ : Fin 16))

local notation "sI" => (Memref.whole Cert.ProbsIdeal.cc1_scratch0 : Memref Cert.ProbsIdeal.sig Kind.scVector Space.vmem Cert.ProbsIdeal.S4x64 EltTy.f32)
local notation "sO" => (Memref.whole Cert.ProbsIdeal.cc1_scratch1 : Memref Cert.ProbsIdeal.sig Kind.scVector Space.vmem Cert.ProbsIdeal.S4x64 EltTy.f32)

omit [FloatOps F] in
theorem seg_emb (r k : Fin 4) (l : Fin 16) :
    (seg r k).emb (ix2 (0 : Fin 1) l) = (ix2 r (⟨16 * k.val + l.val, by omega⟩ : Fin 64) : S4x64.Idx) := by
  funext a; apply Fin.ext
  rw [Rect.emb_apply]
  fin_cases a <;> simp [seg, Rect.unit]

/-- A load of sixteen entries, read as sixteen lanes. -/
theorem load_seg (f : S4x64.Idx → F .f32) (r k : Fin 4) :
    shapeCast S16 (((sI).view.readAt (Elt F) (seg r k).toLoadRect f : S1x16.Idx → F .f32)) shapeCasts_S1x16_S16
      = segV (fun c => f (ix2 r c)) k := by
  funext l'
  obtain ⟨l, rfl⟩ : ∃ l : Fin 16, l' = ix1 l := ⟨l' 0, eq_ix1 l'⟩
  have h : shapeCast S16 (((sI).view.readAt (Elt F) (seg r k).toLoadRect f : S1x16.Idx → F .f32)) shapeCasts_S1x16_S16 (ix1 l)
      = ((sI).view.readAt (Elt F) (seg r k).toLoadRect f : S1x16.Idx → F .f32) (ix2 0 l) := by
    pointwise []
  rw [h]
  show f ((seg r k).emb (ix2 0 l)) = _
  rw [seg_emb]
  rfl

/-- A store of sixteen lanes leaves the other entries and puts the lanes in their place. -/
theorem store_seg (f : S4x64.Idx → F .f32) (r k : Fin 4) (w : FVec F S16 .f32) (i : Fin 4) (c : Fin 64) :
    (((sO).access (seg r k)).write (Elt F) f (shapeCast S1x16 w shapeCasts_S16_S1x16) Finset.univ : S4x64.Idx → F .f32) (ix2 i c)
      = if i = r ∧ c.val / 16 = k.val then w (ix1 (⟨c.val % 16, Nat.mod_lt _ (by norm_num)⟩ : Fin 16)) else f (ix2 i c) := by
  split
  · next h =>
    obtain ⟨rfl, h1⟩ := h
    have e : ((sO).access (seg i k)).emb (ix2 (0 : Fin 1) (⟨c.val % 16, Nat.mod_lt _ (by norm_num)⟩ : Fin 16)) = ix2 i c := by
      refine (seg_emb i k _).trans ?_
      congr 1; apply Fin.ext
      show 16 * k.val + c.val % 16 = c.val
      omega
    conv_lhs => rw [← e]
    refine (View.write_emb_of_mem _ _ (Finset.mem_univ _)).trans ?_
    rw [cast_eq]
    pointwise []
  · next h =>
    refine View.write_of_not_mem _ _ _ fun hm => h ?_
    rw [View.setOn_univ] at hm
    obtain ⟨x, -, hx⟩ := Finset.mem_map.mp hm
    obtain ⟨l, rfl⟩ : ∃ l : Fin 16, x = ix2 (0 : Fin 1) l := ⟨x 1, by rw [eq_ix2 x]; congr 1; exact Subsingleton.elim _ _⟩
    have e := (seg_emb r k l).symm.trans hx
    have e0 : r.val = i.val := congrArg (fun y : S4x64.Idx => (y 0).val) e
    have e1 : 16 * k.val + l.val = c.val := congrArg (fun y : S4x64.Idx => (y 1).val) e
    exact ⟨Fin.ext e0.symm, by omega⟩

/-- What the four stores of row `r` leave. -/
theorem stores_row (f : S4x64.Idx → F .f32) (r : Fin 4) (g : Fin 64 → F .f32) (i : Fin 4) (c : Fin 64) :
    (((sO).access (seg r 3)).write (Elt F) (((sO).access (seg r 2)).write (Elt F) (((sO).access (seg r 1)).write (Elt F)
      (((sO).access (seg r 0)).write (Elt F) f
          (shapeCast S1x16 (shareOf (rowTop g) (rowDenom g) (segV g 0)) shapeCasts_S16_S1x16) Finset.univ)
        (shapeCast S1x16 (shareOf (rowTop g) (rowDenom g) (segV g 1)) shapeCasts_S16_S1x16) Finset.univ)
        (shapeCast S1x16 (shareOf (rowTop g) (rowDenom g) (segV g 2)) shapeCasts_S16_S1x16) Finset.univ)
        (shapeCast S1x16 (shareOf (rowTop g) (rowDenom g) (segV g 3)) shapeCasts_S16_S1x16) Finset.univ : S4x64.Idx → F .f32) (ix2 i c)
      = if i = r then prob g c else f (ix2 i c) := by
  rw [store_seg, store_seg, store_seg, store_seg]
  unfold prob
  by_cases h : i = r
  · have hc := c.isLt
    have : c.val / 16 = 0 ∨ c.val / 16 = 1 ∨ c.val / 16 = 2 ∨ c.val / 16 = 3 := by omega
    rcases this with e | e | e | e <;> simp [h, e]
  · simp [h]

end Cert.ProbsIdeal.Rows

end
-- ==== Proof.Probs.Softmax.lean ====
/-
  The softmax of sixty-four numbers over the extended reals, and that it is what the SparseCore kernel computes of a row:
  its maximum and its sum are taken sixteen lanes at a time, one lane after another.
-/
module

public import proofs.«01_k».proof.Proof.Probs.Rows
public import Idealize.ShloMosaic.Lib.Pointwise

@[expose] public section

set_option maxRecDepth 16384

noncomputable section

namespace Cert.Softmax

open Idealize.ShloMosaic Cert.ProbsIdeal Cert.ProbsIdeal.Rows

/-- The logits: the tokens times the weights, plus the bias. -/
def logit (x : FVec Ideal ⟨2, ![64, 1024]⟩ .f32) (Wg : FVec Ideal ⟨2, ![1024, 64]⟩ .f32) (bg : FVec Ideal ⟨1, ![64]⟩ .f32) (b e : Fin 64) : EReal :=
  (∑ d : Fin 1024, x (ix2 b d) * Wg (ix2 d e)) + bg (ix1 e)

/-- One entry of the softmax of a row. -/
def soft (g : Fin 64 → EReal) (e : Fin 64) : EReal :=
  Ideal.div (Ideal.exp (g e - Finset.univ.sup g)) (∑ k, Ideal.exp (g k - Finset.univ.sup g))

/-! ## Sixteen lanes -/

theorem lanes_max (v : FVec Ideal S16 .f32) : lanes Scalar.maximumf v = Finset.univ.sup fun l : Fin 16 => v (ix1 l) := by
  have h : lanes Scalar.maximumf v = max (max (max (max (max (max (max (max (max (max (max (max (max (max (max (v (ix1 0)) (v (ix1 1))) (v (ix1 2))) (v (ix1 3))) (v (ix1 4)))
      (v (ix1 5))) (v (ix1 6))) (v (ix1 7))) (v (ix1 8))) (v (ix1 9))) (v (ix1 10))) (v (ix1 11))) (v (ix1 12))) (v (ix1 13))) (v (ix1 14))) (v (ix1 15)) := by
    pointwise [lanes]
  rw [h]
  have hle : ∀ l : Fin 16, v (ix1 l) ≤ Finset.univ.sup fun l : Fin 16 => v (ix1 l) :=
    fun l => Finset.le_sup (f := fun l : Fin 16 => v (ix1 l)) (Finset.mem_univ l)
  refine le_antisymm ?_ (Finset.sup_le fun l _ => ?_)
  · simp only [max_le_iff, hle, and_self]
  · fin_cases l <;> simp

theorem lanes_add (v : FVec Ideal S16 .f32) : lanes Scalar.addf v = ∑ l : Fin 16, v (ix1 l) := by
  have h : lanes Scalar.addf v = v (ix1 0) + v (ix1 1) + v (ix1 2) + v (ix1 3) + v (ix1 4) + v (ix1 5) + v (ix1 6) + v (ix1 7) + v (ix1 8)
      + v (ix1 9) + v (ix1 10) + v (ix1 11) + v (ix1 12) + v (ix1 13) + v (ix1 14) + v (ix1 15) := by
    pointwise [lanes]
  rw [h]
  simp only [Fin.sum_univ_castSucc, Fin.sum_univ_zero, zero_add]
  rfl

/-! ## A row -/

/-- Lane `l` of segment `k`. -/
theorem segV_apply (g : Fin 64 → EReal) (k : Fin 4) (l : Fin 16) :
    segV (F := Ideal) g k (ix1 l) = g ⟨16 * k.val + l.val, by omega⟩ := rfl

theorem rowTop_eq (g : Fin 64 → EReal) : rowTop (F := Ideal) g = Finset.univ.sup g := by
  have h : rowTop (F := Ideal) g = max (max (max (lanes Scalar.maximumf (segV (F := Ideal) g 0)) (lanes Scalar.maximumf (segV (F := Ideal) g 1)))
      (lanes Scalar.maximumf (segV (F := Ideal) g 2))) (lanes Scalar.maximumf (segV (F := Ideal) g 3)) := rfl
  rw [h]
  simp only [lanes_max]
  refine le_antisymm ?_ (Finset.sup_le fun e _ => ?_)
  · simp only [max_le_iff]
    refine ⟨⟨⟨?_, ?_⟩, ?_⟩, ?_⟩ <;> exact Finset.sup_le fun l _ => Finset.le_sup (f := g) (Finset.mem_univ _)
  · have hl : ∀ k : Fin 4, k.val = e.val / 16 → g e ≤ Finset.univ.sup fun l : Fin 16 => segV (F := Ideal) g k (ix1 l) := by
      intro k hk
      refine le_of_eq_of_le ?_ (Finset.le_sup (f := fun l : Fin 16 => segV (F := Ideal) g k (ix1 l)) (Finset.mem_univ (⟨e.val % 16, Nat.mod_lt _ (by norm_num)⟩ : Fin 16)))
      rw [segV_apply]
      congr 1; apply Fin.ext
      show e.val = 16 * k.val + e.val % 16
      omega
    have : e.val / 16 = 0 ∨ e.val / 16 = 1 ∨ e.val / 16 = 2 ∨ e.val / 16 = 3 := by omega
    simp only [le_max_iff]
    rcases this with h | h | h | h
    · exact .inl (.inl (.inl (hl 0 h.symm)))
    · exact .inl (.inl (.inr (hl 1 h.symm)))
    · exact .inl (.inr (hl 2 h.symm))
    · exact .inr (hl 3 h.symm)

/-- A sum over a row is the sum of its segments' sums. -/
theorem sum_segments (f : Fin 64 → EReal) : ∑ e, f e = ∑ k : Fin 4, ∑ l : Fin 16, f ⟨16 * k.val + l.val, by omega⟩ := by
  rw [← Equiv.sum_comp (finProdFinEquiv (m := 4) (n := 16)), Fintype.sum_prod_type]
  refine Finset.sum_congr rfl fun k _ => Finset.sum_congr rfl fun l _ => ?_
  congr 1; apply Fin.ext
  show l.val + 16 * k.val = 16 * k.val + l.val
  omega

theorem rowDenom_eq (g : Fin 64 → EReal) : rowDenom (F := Ideal) g = ∑ k, Ideal.exp (g k - Finset.univ.sup g) := by
  have h : rowDenom (F := Ideal) g = (((Ideal.ofBits .f32 0x00000000#32 + lanes Scalar.addf (expOf (rowTop (F := Ideal) g) (segV (F := Ideal) g 0)))
      + lanes Scalar.addf (expOf (rowTop (F := Ideal) g) (segV (F := Ideal) g 1))) + lanes Scalar.addf (expOf (rowTop (F := Ideal) g) (segV (F := Ideal) g 2)))
      + lanes Scalar.addf (expOf (rowTop (F := Ideal) g) (segV (F := Ideal) g 3)) := rfl
  rw [h, sum_segments, Fin.sum_univ_four]
  have hk : ∀ k : Fin 4, lanes Scalar.addf (expOf (rowTop (F := Ideal) g) (segV (F := Ideal) g k))
      = ∑ l : Fin 16, Ideal.exp (g ⟨16 * k.val + l.val, by omega⟩ - Finset.univ.sup g) := by
    intro k
    rw [lanes_add, rowTop_eq]
    refine Finset.sum_congr rfl fun l _ => ?_
    pointwise [expOf]
    rfl
  rw [hk, hk, hk, hk]
  have h0 : Ideal.ofBits .f32 0x00000000#32 = 0 := by simp
  rw [h0, zero_add]

/-- What the SparseCore kernel computes of a row is its softmax. -/
theorem prob_eq (g : Fin 64 → EReal) (e : Fin 64) : prob (F := Ideal) g e = soft g e := by
  unfold prob soft
  rw [rowTop_eq, rowDenom_eq]
  have h : ∀ (m s : EReal) (v : FVec Ideal S16 .f32) (l : Fin 16), shareOf (F := Ideal) m s v (ix1 l) = Ideal.div (Ideal.exp (v (ix1 l) - m)) s := by
    intro m s v l
    pointwise [shareOf, expOf]
  rw [h, segV_apply]
  have e0 : (⟨16 * (e.val / 16) + e.val % 16, by omega⟩ : Fin 64) = e := Fin.ext (Nat.div_add_mod _ _)
  show Ideal.div (Ideal.exp (g ⟨16 * (e.val / 16) + e.val % 16, _⟩ - _)) _ = _
  rw [e0]

/-- The least of the extended reals, as a constant of the programs. -/
theorem ofBits_bot : Ideal.ofBits .f32 0xFF800000#32 = ⊥ := by
  simp [Ideal.ofBits, Ideal.ieee]

end Cert.Softmax

end
-- ==== Proof.Probs.Tile.lean ====
/-
  One vector subcore's task, and the call as the launch sees it.

  Subcore `i` holds four rows of the logits and four rows of the result. It copies the logits in, puts the probabilities
  of the four rows into its second scratch buffer, and copies them out. The result's rows then hold the probabilities of
  the logits' rows, whatever the logits are.
-/
module

public import proofs.«01_k».proof.Proof.Probs.Rows
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.ProbsIdeal.Tile

open Cert.ProbsIdeal Cert.ProbsIdeal.Gen Cert.ProbsIdeal.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- Ghost state: the launch handshakes' rounds, the gate pipeline's rounds, the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

variable [FloatOps F]

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The logits and the result, by blocks of four rows -/

abbrev hLoc (d : Dev nD) : Loc nD τ sig := (SparseCore.T d).loc main_v1_0
abbrev oLoc (d : Dev nD) : Loc nD τ sig := (SparseCore.T d).loc main_v2

local notation "xV" => (Memref.whole Cert.ProbsIdeal.main_v1_0_scv : Memref Cert.ProbsIdeal.sig Kind.scVector Space.hbm Cert.ProbsIdeal.S64x64 EltTy.f32)
local notation "oV" => (Memref.whole Cert.ProbsIdeal.main_v2_scv : Memref Cert.ProbsIdeal.sig Kind.scVector Space.hbm Cert.ProbsIdeal.S64x64 EltTy.f32)
local notation "sI" => (Memref.whole Cert.ProbsIdeal.cc1_scratch0 : Memref Cert.ProbsIdeal.sig Kind.scVector Space.vmem Cert.ProbsIdeal.S4x64 EltTy.f32)
local notation "sO" => (Memref.whole Cert.ProbsIdeal.cc1_scratch1 : Memref Cert.ProbsIdeal.sig Kind.scVector Space.vmem Cert.ProbsIdeal.S4x64 EltTy.f32)

omit [FloatOps F] in
theorem hdiv : 16 ∣ S64x64.size 0 := ⟨4, rfl⟩
/-- Rows `4 i` to `4 i + 3`: one task's. -/
abbrev rows (i : Fin 16) : Rect S64x64 := Rect.part (s := S64x64) (a₀ := 0) hdiv i
abbrev rowSet (i : Fin 16) : Finset S64x64.Idx := ((xV).view.slice (rows i)).set

/-- The probabilities of sixty-four rows of logits. -/
def probsOf (h : S64x64.Idx → F .f32) : S64x64.Idx → F .f32 := fun j => prob (fun c => h (ix2 (j 0) c)) (j 1)

/-! ## What the handshakes carry -/

-- what the logits' array holds when the call is made
variable (m : (ℓ : Loc nD τ sig) → Buf (Elt F) ℓ) (hv : (d : Dev nD) → Buf (Elt F) (hLoc d))

abbrev hPts (d : Dev nD) : sProp 𝕄 := hLoc d ↦{fullShare} hv d
abbrev oPts (d : Dev nD) (f : Buf (Elt F) (oLoc d)) : sProp 𝕄 := oLoc d ↦{fullShare} f
abbrev hRowPts (d : Dev nD) (i : Fin 16) : sProp 𝕄 := hLoc d ↦[rowSet i]{fullShare} hv d
abbrev oRowPts (d : Dev nD) (i : Fin 16) (f : Buf (Elt F) (oLoc d)) : sProp 𝕄 := oLoc d ↦[rowSet i]{fullShare} f

/-- The call takes the logits and the result's array whole, each task its four rows of both; it brings them back with the
    probabilities in the result's array. -/
def P : (K (F := F)).Pay (nD := nD) (Val := Elt F) (Name := ℕ) (U := UU) where
  st := fun q d _ => match q with | 0 => iprop(hPts hv d ∗ oPts d (m (oLoc d)))
  dn := fun q d _ => match q with | 0 => iprop(hPts hv d ∗ oPts d (probsOf (hv d)))
  go := fun q d _ i => match q with
    | 0 => iprop(hRowPts hv d (Fin.cast nSub_zero i) ∗ oRowPts d (Fin.cast nSub_zero i) (m (oLoc d)))
  td := fun q d _ i => match q with
    | 0 => iprop(hRowPts hv d (Fin.cast nSub_zero i) ∗ oRowPts d (Fin.cast nSub_zero i) (probsOf (hv d)))
  x := fun _ _ => iprop(emp)

instance P_storable : (P (F := F) m hv).IsStorable where
  st q d _ := match q with
    | 0 => (inferInstance : BI.Storable (upEmb : UEmb _ 𝕄) iprop(hPts hv d ∗ oPts d (m (oLoc d))))
  dn q d _ := match q with
    | 0 => (inferInstance : BI.Storable (upEmb : UEmb _ 𝕄) iprop(hPts hv d ∗ oPts d (probsOf (hv d))))
  go q d _ i := match q with
    | 0 => (inferInstance : BI.Storable (upEmb : UEmb _ 𝕄) iprop(hRowPts hv d (Fin.cast nSub_zero i) ∗ oRowPts d (Fin.cast nSub_zero i) (m (oLoc d))))
  td q d _ i := match q with
    | 0 => (inferInstance : BI.Storable (upEmb : UEmb _ 𝕄) iprop(hRowPts hv d (Fin.cast nSub_zero i) ∗ oRowPts d (Fin.cast nSub_zero i) (probsOf (hv d))))

/-! ## The task -/

section Task

variable (d : Dev nD) (L : grid1.Coords)

abbrev cV (L : grid1.Coords) : Fin τ.nSC := (L 0).castLE hcore1
abbrev jV (L : grid1.Coords) : Fin τ.nSub := (L 1).castLE hsub1
omit [FloatOps F] in
theorem bound_one : grid1.bound 1 = 16 := rfl
abbrev jL (L : grid1.Coords) : Fin 16 := Fin.cast bound_one (L 1)

omit [FloatOps F] in
/-- Every task runs the kernel's branch. -/
theorem cond (L : grid1.Coords) : k1_cond1 L = 1#1 := by
  revert L; decide +kernel

abbrev hRows (L : grid1.Coords) : Memref sig .scVector .hbm S4x64 .f32 := (xV).slice (rowsAt L (cond L)) (fun _ => rfl)
abbrev oRows (L : grid1.Coords) : Memref sig .scVector .hbm S4x64 .f32 := (oV).slice (rowsAt L (cond L)) (fun _ => rfl)

omit [FloatOps F] in
theorem rowsAt_eq : rowsAt L (cond L) = rows (jL L) := by
  unfold rowsAt rows Rect.part Rect.block
  congr 1 <;> funext a
  · rw [k1_off1_eq]
    match a with
    | 0 => simp [Shape.partIx, Shape.partSize]; omega
    | 1 => simp [Shape.partIx, Shape.partSize]
  · match a with
    | 0 => simp [Shape.partSize]
    | 1 => simp [Shape.partSize]

omit [FloatOps F] in
theorem set_hRows : (hRows L).view.set = rowSet (jL L) := by
  show ((xV).view.slice (rowsAt L (cond L))).set = ((xV).view.slice (rows (jL L))).set
  exact rowsAt_eq L ▸ rfl
omit [FloatOps F] in
theorem set_oRows : (oRows L).view.set = rowSet (jL L) := by
  show ((oV).view.slice (rowsAt L (cond L))).set = ((xV).view.slice (rows (jL L))).set
  exact rowsAt_eq L ▸ rfl

omit [FloatOps F] in
theorem pts_hRows (f : Buf (Elt F) (hLoc d)) :
    ((hRows L).view.loc (V d (cV L) (jV L)) ↦[(hRows L).view.set]{fullShare} f : sProp 𝕄) = hLoc d ↦[rowSet (jL L)]{fullShare} f := by
  rw [set_hRows]
omit [FloatOps F] in
theorem pts_oRows (f : Buf (Elt F) (oLoc d)) :
    ((oRows L).view.loc (V d (cV L) (jV L)) ↦[(oRows L).view.set]{fullShare} f : sProp 𝕄) = oLoc d ↦[rowSet (jL L)]{fullShare} f := by
  rw [set_oRows]
omit [FloatOps F] in
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
omit [FloatOps F] in
theorem pts_sO (f : Buf (Elt F) ((V d (cV L) (jV L)).loc cc1_scratch1)) :
    ((sO).view.loc (V d (cV L) (jV L)) ↦{fullShare} f : sProp 𝕄) = (V d (cV L) (jV L)).loc cc1_scratch1 ↦{fullShare} f := rfl

/-- The kernel's two scoped transfer semaphores: the copy in's and the copy out's. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What row `r`'s program leaves in the second scratch buffer, the first at `f`. -/
def rowUpd (r : Fin 4) (f g : S4x64.Idx → F .f32) : S4x64.Idx → F .f32 :=
  fun j => if (j 0).val = r.val then prob (fun c => f (ix2 r c)) (j 1) else g j

/-- The four stores of row `r`, the values stored read off the first scratch buffer. -/
theorem row_writes (r : Fin 4) (f g : S4x64.Idx → F .f32) :
    let a : FVec F S16 .f32 := shapeCast S16 ((sI).view.readAt (Elt F) (seg r 0).toLoadRect f : S1x16.Idx → F .f32) shapeCasts_S1x16_S16
    let b : FVec F S16 .f32 := shapeCast S16 ((sI).view.readAt (Elt F) (seg r 1).toLoadRect f : S1x16.Idx → F .f32) shapeCasts_S1x16_S16
    let c : FVec F S16 .f32 := shapeCast S16 ((sI).view.readAt (Elt F) (seg r 2).toLoadRect f : S1x16.Idx → F .f32) shapeCasts_S1x16_S16
    let d : FVec F S16 .f32 := shapeCast S16 ((sI).view.readAt (Elt F) (seg r 3).toLoadRect f : S1x16.Idx → F .f32) shapeCasts_S1x16_S16
    ((sO).view.writes (Elt F) g
      [⟨seg r 3, shapeCast S1x16 (shareOf (top a b c d) (denom a b c d) d) shapeCasts_S16_S1x16⟩,
       ⟨seg r 2, shapeCast S1x16 (shareOf (top a b c d) (denom a b c d) c) shapeCasts_S16_S1x16⟩,
       ⟨seg r 1, shapeCast S1x16 (shareOf (top a b c d) (denom a b c d) b) shapeCasts_S16_S1x16⟩,
       ⟨seg r 0, shapeCast S1x16 (shareOf (top a b c d) (denom a b c d) a) shapeCasts_S16_S1x16⟩] : S4x64.Idx → F .f32) = rowUpd r f g := by
  intro a b c d
  have ha : a = segV (fun c => f (ix2 r c)) 0 := load_seg f r 0
  have hb : b = segV (fun c => f (ix2 r c)) 1 := load_seg f r 1
  have hc : c = segV (fun c => f (ix2 r c)) 2 := load_seg f r 2
  have hd : d = segV (fun c => f (ix2 r c)) 3 := load_seg f r 3
  rw [ha, hb, hc, hd]
  funext j
  obtain ⟨i, c, rfl⟩ : ∃ (i : Fin 4) (c : Fin 64), j = ix2 i c := ⟨j 0, j 1, eq_ix2 j⟩
  refine (stores_row g r (fun c => f (ix2 r c)) i c).trans ?_
  show _ = if i.val = r.val then prob (fun c => f (ix2 r c)) c else g (ix2 i c)
  by_cases h : i = r
  · rw [if_pos h, if_pos (congrArg Fin.val h)]
  · rw [if_neg h, if_neg fun e => h (Fin.ext e)]

/-- The four stores of row `r`, as the executor lists them: the last first, the values read off the first scratch buffer at `f`. -/
abbrev rowPieces (r : Fin 4) (f : S4x64.Idx → F .f32) : List (View.Piece (Elt F) S4x64 .f32) :=
  let a : FVec F S16 .f32 := shapeCast S16 ((sI).view.readAt (Elt F) (seg r 0).toLoadRect f : S1x16.Idx → F .f32) shapeCasts_S1x16_S16
  let b : FVec F S16 .f32 := shapeCast S16 ((sI).view.readAt (Elt F) (seg r 1).toLoadRect f : S1x16.Idx → F .f32) shapeCasts_S1x16_S16
  let c : FVec F S16 .f32 := shapeCast S16 ((sI).view.readAt (Elt F) (seg r 2).toLoadRect f : S1x16.Idx → F .f32) shapeCasts_S1x16_S16
  let d : FVec F S16 .f32 := shapeCast S16 ((sI).view.readAt (Elt F) (seg r 3).toLoadRect f : S1x16.Idx → F .f32) shapeCasts_S1x16_S16
  [⟨seg r 3, shapeCast S1x16 (shareOf (top a b c d) (denom a b c d) d) shapeCasts_S16_S1x16⟩,
   ⟨seg r 2, shapeCast S1x16 (shareOf (top a b c d) (denom a b c d) c) shapeCasts_S16_S1x16⟩,
   ⟨seg r 1, shapeCast S1x16 (shareOf (top a b c d) (denom a b c d) b) shapeCasts_S16_S1x16⟩,
   ⟨seg r 0, shapeCast S1x16 (shareOf (top a b c d) (denom a b c d) a) shapeCasts_S16_S1x16⟩]

/-- The sixteen stores of the four rows leave the four rows' probabilities. -/
theorem rows_writes (f g : S4x64.Idx → F .f32) (i : Fin 4) (c : Fin 64) :
    ((sO).view.writes (Elt F) g (rowPieces 3 f ++ (rowPieces 2 f ++ (rowPieces 1 f ++ rowPieces 0 f))) : S4x64.Idx → F .f32) (ix2 i c)
      = prob (fun k => f (ix2 i k)) c := by
  rw [View.writes_append, View.writes_append, View.writes_append]
  have h0 : (sO).view.writes (Elt F) g (rowPieces 0 f) = rowUpd 0 f g := row_writes 0 f g
  have h1 (g : S4x64.Idx → F .f32) : (sO).view.writes (Elt F) g (rowPieces 1 f) = rowUpd 1 f g := row_writes 1 f g
  have h2 (g : S4x64.Idx → F .f32) : (sO).view.writes (Elt F) g (rowPieces 2 f) = rowUpd 2 f g := row_writes 2 f g
  have h3 (g : S4x64.Idx → F .f32) : (sO).view.writes (Elt F) g (rowPieces 3 f) = rowUpd 3 f g := row_writes 3 f g
  rw [h0, h1, h2, h3]
  unfold rowUpd
  fin_cases i <;> rfl

omit [FloatOps F] in
/-- Row `r` of the task's four is row `4 i + r` of the sixty-four. -/
theorem rowsAt_emb (r : Fin 4) (c : Fin 64) :
    (rowsAt L (cond L)).emb (ix2 r c) = (ix2 (⟨4 * (jL L).val + r.val, by have := (jL L).isLt; have := r.isLt; omega⟩ : Fin 64) c : S64x64.Idx) := by
  funext a; apply Fin.ext
  rw [Rect.emb_apply]
  have h := congrFun (k1_off1_eq L) a
  fin_cases a
  · show k1_off1 L 0 + 1 * r.val = 4 * (L 1).val + r.val
    rw [show k1_off1 L 0 = 4 * (L 1).val from h]; omega
  · show k1_off1 L 1 + 1 * c.val = c.val
    rw [show k1_off1 L 1 = 0 from h]; omega

/-- What the copy out leaves in the task's rows of the result. -/
theorem out_value (fs fc : S4x64.Idx → F .f32) (o : Buf (Elt F) (oLoc d)) (x : S64x64.Idx) (hx : x ∈ rowSet (jL L)) :
    let f : S4x64.Idx → F .f32 := View.write (Elt F) (sI).view fs (ReadAs.same.apply (View.read (Elt F) (hRows L).view (hv d))) Finset.univ
    ((oRows L).view.writes (Elt F) o [⟨Rect.whole S4x64, ReadAs.same.apply (View.read (Elt F) (sO).view
      ((sO).view.writes (Elt F) fc (rowPieces 3 f ++ (rowPieces 2 f ++ (rowPieces 1 f ++ rowPieces 0 f)))))⟩] : S64x64.Idx → F .f32) x
      = probsOf (hv d) x := by
  intro f
  have hf (r : Fin 4) (c : Fin 64) : f (ix2 r c) = hv d ((rowsAt L (cond L)).emb (ix2 r c)) := by
    show ((sI).view.write (Elt F) fs _ Finset.univ : S4x64.Idx → F .f32) (ix2 r c) = _
    exact congrFun (View.write_whole_univ (Val := Elt F) cc1_scratch0 fs _) (ix2 r c)
  rw [← set_oRows L] at hx
  obtain ⟨y, -, rfl⟩ := Finset.mem_map.mp hx
  obtain ⟨r, c, rfl⟩ : ∃ (r : Fin 4) (c : Fin 64), y = ix2 r c := ⟨y 0, y 1, eq_ix2 y⟩
  refine (View.read_writes_cons_hit (oRows L).view o (Rect.whole S4x64) _ [] (ix2 r c) (ix2 r c) ?_).trans ?_
  · exact Rect.emb_whole_apply S4x64 (ix2 r c)
  refine (rows_writes f fc r c).trans ?_
  rw [show (oRows L).view.emb (ix2 r c) = (rowsAt L (cond L)).emb (ix2 r c) from rfl, rowsAt_emb]
  unfold probsOf
  refine congrFun (congrArg prob (funext fun k => ?_)) c
  rw [hf, rowsAt_emb]
  rfl

/-- The task, on subcore `(L 0, L 1)` of device `d`: the copy in, the four rows, the copy out. -/
theorem tile_body (O : CellTallies nD τ sig (HIx 1)) (W : Waits sig (HIx 1)) (hO : ∀ g, O g none = 0) :
    iprop(levAts (K (F := F)).L (K (F := F)).lev ∗ emp
        ∗ (hRowPts hv d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_probs_body L xV (Memref.isWhole_whole _) oV (Memref.isWhole_whole _)
            sI (Memref.isWhole_whole _) sO (Memref.isWhole_whole _) cc1_scoped0 cc1_scoped1)
          fun _ => iprop((hRowPts hv d (jL L) ∗ oRowPts d (jL L) (probsOf (hv d)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V facts d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_hRows (F := F) d L _).symm) $$ Hx
  ihave Ho' := (Entails.of_eq (pts_oRows (F := F) d L _).symm) $$ Ho
  ihave Hs' := (Entails.of_eq (pts_sI (F := F) d L _).symm) $$ Hs
  ihave Hc' := (Entails.of_eq (pts_sO (F := F) d L _).symm) $$ Hc
  rw [body_eq]
  unfold task
  rw [dif_pos (cond L)]
  sl_exec
  sl_step
  isplitl [Hx' Ho']
  · isplitl [Hx']; · iapply (Entails.of_eq (pts_hRows (F := F) d L _)); iexact Hx'
    ihave Ho := (Entails.of_eq (pts_oRows (F := F) d L _)) $$ Ho'
    iapply (Entails.of_eq (pointsTo_congr (fun x hx => out_value hv d L fs fc (m (oLoc d)) x hx)))
    iexact Ho
  isplitl [Hs' Hc' Hbufs]
  · isplitl [Hs']; · iexists _; iexact Hs'
    isplitl [Hc']; · iexists _; iexact Hc'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_probs_body (coordsV c s)
          xV (Memref.isWhole_whole _) oV (Memref.isWhole_whole _)
          sI (Memref.isWhole_whole _) sO (Memref.isWhole_whole _) cc1_scoped0 cc1_scoped1) ⟨⟩ c s := rfl

theorem tileObl : (K (F := F)).TileObl (D (F := F)) 𝒱 (P m hv) v₀ 0 := by
  intro d c i O W hO _ _
  -- nothing is owed for a protocol of the kernel's own
  simp only [show (P m hv).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hv d (coordsV ⟨_, hci.1⟩ ⟨_, hci.2⟩) O W hO

end Task

/-! ## The rows split and join -/

omit [FloatOps F] in
theorem rowSet_eq (i : Fin 16) : rowSet i = (rows i).set := by
  show ((View.whole (main_v1_0_scv : Ref sig .scVector)).slice (rows i)).set = _
  rw [View.set_slice]; exact Finset.map_refl
omit [FloatOps F] in
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
omit [FloatOps F] in
theorem rows_cover : (Finset.univ : Finset (Fin 16)).biUnion rowSet = Finset.univ :=
  (Finset.biUnion_congr rfl fun i _ => rowSet_eq i).trans (Rect.biUnion_part hdiv)

omit [FloatOps F] in
theorem hPts_rows (d : Dev nD) (f : Buf (Elt F) (hLoc d)) :
    (hLoc d ↦{fullShare} f : sProp 𝕄) = bigSep Finset.univ fun i : Fin 16 => hLoc d ↦[rowSet i]{fullShare} f := by
  rw [← pointsTo_biUnion Finset.univ (ℓ := hLoc d) rowSet rows_disjoint, rows_cover]; try rfl
omit [FloatOps F] in
theorem oPts_rows (d : Dev nD) (f : Buf (Elt F) (oLoc d)) :
    (oLoc d ↦{fullShare} f : sProp 𝕄) = bigSep Finset.univ fun i : Fin 16 => oLoc d ↦[rowSet i]{fullShare} f := by
  rw [← pointsTo_biUnion Finset.univ (ℓ := oLoc d) rowSet rows_disjoint, rows_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The two arrays are dealt to the tasks four rows each, and come back whole. -/
theorem vecSplit : (K (F := F)).VecSplit' (P m hv) 0 := by
  intro d c
  show iprop(hPts hv d ∗ oPts d (m (oLoc d))) ⊢ |={Set.univ}=> iprop(
      (bigSep Finset.univ fun i : Fin ((K (F := F)).nSub 0) => iprop(hRowPts hv d (Fin.cast nSub_zero i) ∗ oRowPts d (Fin.cast nSub_zero i) (m (oLoc d))))
      ∗ ((bigSep Finset.univ fun i : Fin ((K (F := F)).nSub 0) => iprop(hRowPts hv d (Fin.cast nSub_zero i) ∗ oRowPts d (Fin.cast nSub_zero i) (probsOf (hv d))))
          -∗ iprop(hPts hv d ∗ oPts d (probsOf (hv d)))))
  rw [bigSep_tasks (F := F) (fun i => iprop(hRowPts hv d i ∗ oRowPts d i (m (oLoc d)))),
    bigSep_tasks (F := F) (fun i => iprop(hRowPts hv d i ∗ oRowPts d i (probsOf (hv d)))), bigSep_sep', bigSep_sep']
  unfold hPts oPts
  rw [hPts_rows, oPts_rows, oPts_rows]
  iintro H; imodintro
  isplitl [H]; · iexact H
  iintro H; iexact H

end Cert.ProbsIdeal.Tile

end
-- ==== Proof.Probs.Gate.lean ====
/-
  The gate kernel's region: what the TensorCore runs before the SparseCore call. It fetches the tokens, the gate's weights
  and bias, computes the logits, the gates and the list, and writes the three back. Here only the logits' array is told:
  it holds `logits` of the operands, whatever the float operations are.
-/
module

public import proofs.«01_k».proof.Proof.Probs.Tile
public import proofs.«01_k».proof.Proof.Gen.ProbsIdeal.Launch
public import proofs.«01_k».proof.Proof.Gen.ProbsIdeal.Points
public import Idealize.ShloMosaic.Lib.Pipeline.Regions

@[expose] public section

noncomputable section

namespace Cert.ProbsIdeal.Gate

open Cert.ProbsIdeal Cert.ProbsIdeal.Gen Cert.ProbsIdeal.Tile

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)
open Idealize.ShloMosaic.Tactic

variable {F : FTy → Type} [FloatOps F]

local notation "𝕄" => MT nD τ sig (HIx 1) (Elt F) ℕ UU ℕ

variable (m : (ℓ : Loc nD τ sig) → Buf (Elt F) ℓ)

abbrev ptM (c : Dev nD) {sp : Space} {S : Shape} {e : EltTy} (M : Memref sig .tc sp S e) (f : Buf (Elt F) (M.view.loc (T c : Thread nD τ))) : sProp 𝕄 :=
  M.view.loc (T c : Thread nD τ) ↦{fullShare} f

/-- The body, run on its six staging buffers: the last two end at contents that do not depend on what they held. -/
def gateRun (c : Dev nD)
    (f0 : Buf (Elt F) ((Memref.whole cc0_stg0_0).view.loc (T c : Thread nD τ))) (f1 : Buf (Elt F) ((Memref.whole cc0_stg1_0).view.loc (T c : Thread nD τ)))
    (f2 : Buf (Elt F) ((Memref.whole cc0_stg2_0).view.loc (T c : Thread nD τ))) :
    { pay : Buf (Elt F) ((Memref.whole cc0_stg3_0).view.loc (T c : Thread nD τ)) × Buf (Elt F) ((Memref.whole cc0_stg4_0).view.loc (T c : Thread nD τ)) × Buf (Elt F) ((Memref.whole cc0_stg5_0).view.loc (T c : Thread nD τ)) //
    ∀ f3 f4 f5 (Q : PUnit → sProp 𝕄),
      iprop(ptM c (Memref.whole cc0_stg0_0) f0 ∗ ptM c (Memref.whole cc0_stg1_0) f1 ∗ ptM c (Memref.whole cc0_stg2_0) f2
          ∗ ptM c (Memref.whole cc0_stg3_0) f3 ∗ ptM c (Memref.whole cc0_stg4_0) f4 ∗ ptM c (Memref.whole cc0_stg5_0) f5
          ∗ (iprop(ptM c (Memref.whole cc0_stg0_0) f0 ∗ ptM c (Memref.whole cc0_stg1_0) f1 ∗ ptM c (Memref.whole cc0_stg2_0) f2
            ∗ ptM c (Memref.whole cc0_stg3_0) pay.1 ∗ ptM c (Memref.whole cc0_stg4_0) pay.2.1 ∗ ptM c (Memref.whole cc0_stg5_0) pay.2.2) -∗ Q ⟨⟩))
        ⊢ wp frame (wpE (defs₀ (F := F)) 𝒱₀ (T c) none) Set.univ
            (cc0__gate_body (F := F) (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_stg4_0) (Memref.isWhole_whole _) (Memref.whole cc0_stg5_0) (Memref.isWhole_whole _)) Q } := by
  refine ⟨⟨?p3, ?p4, ?p5⟩, fun f3 f4 f5 Q => ?run⟩
  case run =>
    iintro ⟨H0, H1, H2, H3, H4, H5, Hk⟩
    simp only [cc0__gate_body_eq_skeleton]; unfold cc0__gate_body_skel; simp only [k0_part1_eq_skeleton]; unfold k0_part1_skel
    sl_exec!
    sl_step
    iapply Hk
    isplitl [H0]; · iexact H0
    isplitl [H1]; · iexact H1
    isplitl [H2]; · iexact H2
    isplitl [H3]; · iexact H3
    isplitl [H4]; · iexact H4
    iexact H5

/-! ## The region's proof data -/

/-- The operation before the region: the tokens without their leading axis. -/
abbrev op0 : HloOp τ sig (Elt F) := StableHlo.reshape main_arg0 main_v0 (rfl : (.f32 : EltTy) = .f32) shapeCasts_S1x64x1024_S64x1024
/-- What the buffers hold at the region's entry. -/
abbrev V₁ (c : Dev nD) : Valuation τ sig (Elt F) := (op0 (F := F)).result (fun b => m (c, b))

/-- The operation before the region changes one buffer. -/
theorem V₁_keep (c : Dev nD) (b : DevRef τ sig) (h : b ∉ ({Proc.devRef .tc main_v0} : Finset (DevRef τ sig))) : V₁ m c b = m (c, b) :=
  (op0 (F := F)).result_of_not_mem _ h

abbrev arg0v (c : Dev nD) : Buf (Elt F) ((T c : Thread nD τ).loc cc0_stg0_0) := ((cfg0.win 0).blk t0_0).view.read (Elt F) (V₁ m c main_v0)
abbrev arg1v (c : Dev nD) : Buf (Elt F) ((T c : Thread nD τ).loc cc0_stg1_0) := ((cfg0.win 1).blk t0_0).view.read (Elt F) (V₁ m c main_arg1)
abbrev arg2v (c : Dev nD) : Buf (Elt F) ((T c : Thread nD τ).loc cc0_stg2_0) := ((cfg0.win 2).blk t0_0).view.read (Elt F) (V₁ m c main_arg2)

/-- What the body leaves in the three results' staging buffers. -/
abbrev run (c : Dev nD) := gateRun (F := F) c (arg0v m c) (arg1v m c) (arg2v m c)

/-- What the SparseCore call will owe. -/
abbrev O₀ (c : Dev nD) : CellTallies nD τ sig (HIx 1) := (K (F := F)).Otc c 0

theorem O₀_none (c : Dev nD) (g : GSem nD τ sig) : O₀ (F := F) c g none = 0 := by
  by_contra h
  have := (K (F := F)).lev_of_Otc_pos (d := c) (n := 0) (g := g) (ι := none) (Nat.pos_of_ne_zero h)
  exact absurd this (by show ¬ (_ + 1 ≤ 0); omega)

def dat0 (c : Dev nD) : Pipeline.Dat τ (Elt F) (HIx 1) ℕ UU ℕ cfg0 c where
  A w := V₁ m c ((cfg0.win w).arr.view.loc (T c : Thread nD τ)).2
  after w _ := match w with
    | ⟨0, _⟩ => arg0v m c
    | ⟨1, _⟩ => arg1v m c
    | ⟨2, _⟩ => arg2v m c
    | ⟨3, _⟩ => (run m c).1.1
    | ⟨4, _⟩ => (run m c).1.2.1
    | ⟨5, _⟩ => (run m c).1.2.2
  Φ _ := iprop(emp)
  q _ := fullShare
  owed _ := O₀ (F := F) c
  recorded _ := {p | p.2 = none}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat0 m

theorem before_0 (c : Dev nD) (d : (cfg0.win 0).block.Idx → Elt F (cfg0.win 0).elt) : (dat0 m c).before 0 t0_0 d = arg0v m c := by
  unfold Pipeline.Dat.before; rw [if_pos (by decide)]; rfl
theorem before_1 (c : Dev nD) (d : (cfg0.win 1).block.Idx → Elt F (cfg0.win 1).elt) : (dat0 m c).before 1 t0_0 d = arg1v m c := by
  unfold Pipeline.Dat.before; rw [if_pos (by decide)]; rfl
theorem before_2 (c : Dev nD) (d : (cfg0.win 2).block.Idx → Elt F (cfg0.win 2).elt) : (dat0 m c).before 2 t0_0 d = arg2v m c := by
  unfold Pipeline.Dat.before; rw [if_pos (by decide)]; rfl

omit [FloatOps F] in
theorem owns_whole_eq (c : Dev nD) (b : Ref sig .tc) (X : b.ty.Contents (Elt F)) :
    (owns (Ix := HIx 1) (Name := ℕ) (U := UU) (Lvl := ℕ) (T c : Thread nD τ) (Memref.whole b) fullShare X : sProp 𝕄)
      = iprop(∃ f : Buf (Elt F) ((T c : Thread nD τ).loc b), ⌜f = X⌝ ∗ (((T c : Thread nD τ).loc b) ↦{fullShare} f)) := by
  unfold owns; simp only [Memref.view_whole, View.read_whole, View.set_whole]

set_option maxRecDepth 4000 in
theorem body_obligation (c : Dev nD) : BodyObligation (dat0 (F := F) m c) (defs₀ (F := F)) 𝒱₀ (none : HIx 1) Set.univ := fun t => by
  obtain rfl := fin_N0 t
  rw [bigSep_W0, bigSep_W0]
  simp only [owns_whole_eq]
  rw [show (dat0 m c).Φ t0_0.castSucc = iprop(emp) from rfl, show (dat0 m c).Φ t0_0.succ = iprop(emp) from rfl,
    show (dat0 m c).owesAt none t0_0.succ = (dat0 m c).owesAt none t0_0.castSucc from rfl]
  iintro ⟨-, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0
  rw [before_1] at hf1
  rw [before_2] at hf2
  subst hf0 hf1 hf2
  iapply ((run m c).2 f3 f4 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitr; · iempintro
  isplitl [HO]; · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; dsimp only [dat0]
  isplitl [H4]
  · iexists _; isplitr; swap; (· iexact H4); ipureintro; dsimp only [dat0]
  iexists _; isplitr; swap; (· iexact H5); ipureintro; dsimp only [dat0]

/-! ## The region -/

abbrev pl (c : Dev nD) (b : Ref sig .tc) (f : b.ty.Contents (Elt F)) : sProp 𝕄 := ((T c : Thread nD τ).loc b) ↦{fullShare} f

/-- What the region's arrays hold after it. -/
abbrev finalA (c : Dev nD) (w : Fin cfg0.W) : Buf (Elt F) ((cfg0.win w).arr.view.loc (T c : Thread nD τ)) := (dat0 m c).arrAt w cfg0.N

/-- What the logits' array holds after it. -/
abbrev hv (c : Dev nD) : Buf (Elt F) (hLoc c) := finalA m c 3

theorem arrays_eq (c : Dev nD) (Fa) : ((pdats (F := F) m 0 c).arrays Fa : sProp 𝕄)
    = iprop(pl c main_v0 (Fa 0) ∗ pl c main_arg1 (Fa 1) ∗ pl c main_arg2 (Fa 2) ∗ pl c main_v1_0 (Fa 3) ∗ pl c main_v1_1 (Fa 4) ∗ pl c main_v1_2 (Fa 5)) := by
  rw [Pipeline.arrays_eq (Pipeline.pin (pcfgs (F := F)) adm) (pdats m) 0 c launch0.arr_whole ((pdats m 0 c).share_full fun _ => rfl) Fa, bigSep_W0]

theorem arrAt_1 (c : Dev nD) : (pdats (F := F) m 0 c).arrAt 1 (Pipeline.pin (pcfgs (F := F)) adm 0).N = m ((T c : Thread nD τ).loc main_arg1) := by
  refine ((dat0 (F := F) m c).arrAt_in 1 rfl _).trans ?_
  exact V₁_keep m c (Proc.devRef .tc main_arg1) (by decide)
theorem arrAt_2 (c : Dev nD) : (pdats (F := F) m 0 c).arrAt 2 (Pipeline.pin (pcfgs (F := F)) adm 0).N = m ((T c : Thread nD τ).loc main_arg2) := by
  refine ((dat0 (F := F) m c).arrAt_in 2 rfl _).trans ?_
  exact V₁_keep m c (Proc.devRef .tc main_arg2) (by decide)
theorem arrAt_3 (c : Dev nD) : (pdats (F := F) m 0 c).arrAt 3 (Pipeline.pin (pcfgs (F := F)) adm 0).N = hv m c := rfl

/-- What the core owes, and that every wait it has recorded is a staging copy's. -/
abbrev owesC (c : Dev nD) : sProp 𝕄 := iprop(∃ W, ⌜(K (F := F)).WBelow (T c) W (8 * 0)⌝ ∗ owes (T c) (O₀ (F := F) c) W)

theorem owesC_in (c : Dev nD) : owesC (F := F) c ⊢ ((dat0 (F := F) m c).owesAt none 0 : sProp 𝕄) := by
  unfold Pipeline.Dat.owesAt Pipeline.owesWithin
  iintro ⟨%W, %hW, HO⟩
  iexists W; isplitr; swap; · iexact HO
  ipureintro
  intro p hp
  refine Or.inl ?_
  show p.2 = none
  have h := hW p hp
  match hq : p.2 with
  | none => rfl
  | some q => rw [hq] at h; exact absurd ((K (F := F)).lev_some_pos (T c, p.1) q) (Nat.not_lt.mpr h)

theorem owesC_out (c : Dev nD) (t : Fin (cfg0.N + 1)) : ((dat0 (F := F) m c).owesAt none t : sProp 𝕄) ⊢ owesC (F := F) c := by
  unfold Pipeline.Dat.owesAt Pipeline.owesWithin
  iintro ⟨%W, %hW, HO⟩
  iexists W; isplitr; swap; · iexact HO
  ipureintro
  intro p hp
  have h : p.2 = none := by
    rcases hW hp with h | ⟨w, s, rfl⟩
    · exact h
    · rfl
  rw [h]; exact le_rfl

/-- The gate kernel's region of @main. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro _ (pdats m) none 0 c fun w s t => (K (F := F)).mayWait_none _ (O₀_none c)
  pre c := iprop(unscopedBufs c (fun b => V₁ m c b) ∗ owesC c)
  post c := iprop((pl c main_arg0 (m ((c : Thread nD τ).loc main_arg0)) ∗ pl c main_arg1 (m ((c : Thread nD τ).loc main_arg1)) ∗ pl c main_arg2 (m ((c : Thread nD τ).loc main_arg2))
      ∗ pl c main_v1_0 (hv m c) ∗ pl c main_v2 (m ((c : Thread nD τ).loc main_v2))) ∗ owesC c)
  X _ := iprop(emp)
  Y _ := iprop(emp)
  Z c := iprop(Pipeline.unscopedRest (Ix := HIx 1) (Name := ℕ) (U := UU) (Lvl := ℕ) spec0 c (fun b => V₁ m c b))
  hentry c := by
    rw [Pipeline.ownSems0_none]
    have hsplit := Pipeline.arrays_of_unscopedBufs (pcfgs (F := F)) adm (pdats m) launch0.win launch0.arr_whole c
      ((pdats m 0 c).share_full fun _ => rfl) (fun b => V₁ m c b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owesC_in m c); iexact HO
    isplitr; · iempintro
    iexact Hr
  hin c := by iintro -; iempintro
  hout c := by
    rw [Pipeline.ownSems0_none, scopedRest0_eq]
    iintro -; isplitr; · iempintro
    isplitr <;> iempintro
  hexit c := by
    rw [arrays_eq, unscopedRest0_eq, arrAt_1, arrAt_2, arrAt_3]
    have e0 : V₁ m c main_arg0 = m ((c : Thread nD τ).loc main_arg0) := V₁_keep m c _ (by decide)
    have e2 : V₁ m c main_v2 = m ((c : Thread nD τ).loc main_v2) := V₁_keep m c _ (by decide)
    rw [e0, e2]
    iintro ⟨⟨-, H1, H2, H3, -, -⟩, HO, -, ⟨H0, Hv⟩⟩
    imodintro
    isplitr [HO]
    · isplitl [H0]; · iexact H0
      isplitl [H1]; · iexact H1
      isplitl [H2]; · iexact H2
      isplitl [H3]; · iexact H3
      iexact Hv
    iapply (owesC_out m c _); iexact HO

end Cert.ProbsIdeal.Gate

end
-- ==== Proof.Probs.Launch.lean ====
/-
  The whole program's run: on the TensorCore the reshape, the gate kernel's region and the SparseCore call, on the sixteen
  subcores their tasks. At the end the arguments are as launched and the result holds the probabilities of the logits the
  region left.
-/
module

public import proofs.«01_k».proof.Proof.Probs.Gate

@[expose] public section

noncomputable section

namespace Cert.ProbsIdeal.Launch

open Cert.ProbsIdeal Cert.ProbsIdeal.Gen Cert.ProbsIdeal.Tile Cert.ProbsIdeal.Gate

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The gate pipeline's rounds inside the program's ghost state. -/
def EP : Emb UP (MT nD τ sig (HIx 1) (Elt F) ℕ UU ℕ) :=
  (Emb.inl : Emb UP (UP × Counters)).trans (embR : Emb (UP × Counters) (MT nD τ sig (HIx 1) (Elt F) ℕ UU ℕ))

omit [FloatOps F] in
instance EP_landsIn : (EP : Emb UP 𝕄).LandsIn (upEmb : UEmb _ 𝕄) := by unfold EP; infer_instance

abbrev pcs : Fin 1 → Pipeline.Cfg sig Λ₀ := fun p => Pipeline.pin (pcfgs (F := F)) adm p

theorem pcs_inj : Function.Injective (Pipeline.cellOf (nD := nD) (τ := τ) (pcs (F := F))) := cellOf_inj

def u₀ : UU := (initOf (K (F := F)).hsCells (K (F := F)).hsToks,
  (initOf (Pipeline.cells (pcs (F := F)) pcs_inj) (Pipeline.launchToks (pcs (F := F)) pcs_inj), 1))

/-- What a TensorCore is dealt for its region. -/
abbrev G (d : Dev nD) : sProp 𝕄 := iprop(Pipeline.cellsGhost (pcs (F := F)) EP 0 d ∗ Pipeline.toksInit (pcs (F := F)) EP 0 d)

theorem bigSep_emp' {I : Type} (s : Finset I) : (bigSep s fun _ => iprop(emp)) = (iprop(emp) : sProp 𝕄) := bigSep_emp_const s

theorem bigSep_call (Φ : Dev nD → Fin 1 → sProp 𝕄) :
    (bigSep Finset.univ fun d => bigSep Finset.univ fun p => Φ d p) = bigSep Finset.univ fun d => Φ d 0 :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (hv m)).x q thr) := by
  unfold u₀
  iintro Hu
  ihave H := (ownU_pair (initOf (K (F := F)).hsCells (K (F := F)).hsToks)
    ((initOf (Pipeline.cells (pcs (F := F)) pcs_inj) (Pipeline.launchToks (pcs (F := F)) pcs_inj), (1 : Counters)) : UP × Counters)) $$ Hu
  icases H with ⟨HH, HR⟩
  ihave HR := (own_pair_emb (embR : Emb (UP × Counters) 𝕄) (initOf (Pipeline.cells (pcs (F := F)) pcs_inj) (Pipeline.launchToks (pcs (F := F)) pcs_inj)) (1 : Counters)) $$ HR
  icases HR with ⟨HP', -⟩
  ihave HP := (Entails.of_eq (show BI.own (((Emb.inl : Emb UP (UP × Counters)).trans (embR : Emb (UP × Counters) 𝕄)) (initOf (Pipeline.cells (pcs (F := F)) pcs_inj) (Pipeline.launchToks (pcs (F := F)) pcs_inj)))
    = BI.own (EP (F := F) (initOf (Pipeline.cells (pcs (F := F)) pcs_inj) (Pipeline.launchToks (pcs (F := F)) pcs_inj))) from rfl)) $$ HP'
  imod (Pipeline.fund_ghost (pcs (F := F)) EP pcs_inj) $$ HP with ⟨Hg, Ht⟩
  imodintro
  isplitl [HH]; · iexact HH
  isplitl [Hg Ht]
  · unfold G
    rw [bigSep_sep']
    isplitl [Hg]
    · iapply (Entails.of_eq (bigSep_call fun d p => Pipeline.cellsGhost (pcs (F := F)) EP p d)); iexact Hg
    iapply (Entails.of_eq (bigSep_call fun d p => Pipeline.toksInit (pcs (F := F)) EP p d)); iexact Ht
  rw [show (bigSep Finset.univ fun thr : Thread nD τ => bigSep Finset.univ fun q : Fin 1 => (P (F := F) m (hv m)).x q thr) = bigSep Finset.univ fun _ => iprop(emp) from
    bigSep_congr fun _ _ => bigSep_univ_of_subsingleton (0 : Fin 1), bigSep_emp']
  iempintro

/-! ## @main on the TensorCore -/

theorem st0_eq (d : Dev nD) :
    (bigSep Finset.univ fun c : Fin ((K (F := F)).nCore 0) => (P m (hv m)).st 0 d c) = iprop(hPts (hv m) d ∗ oPts d (m (oLoc d))) :=
  bigSep_univ_of_subsingleton (0 : Fin 1)
theorem dn0_eq (d : Dev nD) :
    (bigSep Finset.univ fun c : Fin ((K (F := F)).nCore 0) => (P m (hv m)).dn 0 d c) = iprop(hPts (hv m) d ∗ oPts d (probsOf (hv m d))) :=
  bigSep_univ_of_subsingleton (0 : Fin 1)

/-- What is held at the end: the arguments as launched, the result at the probabilities. -/
abbrev FIN (d : Dev nD) : sProp 𝕄 :=
  iprop(pl d main_arg0 (m ((d : Thread nD τ).loc main_arg0)) ∗ pl d main_arg1 (m ((d : Thread nD τ).loc main_arg1))
    ∗ pl d main_arg2 (m ((d : Thread nD τ).loc main_arg2)) ∗ oPts d (probsOf (hv m d)))

/-- What the TensorCore holds of the handshakes before the call, but for what it owes. -/
def rest0 (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- What the region leaves. -/
abbrev POST (d : Dev nD) : sProp 𝕄 :=
  iprop((pl d main_arg0 (m ((d : Thread nD τ).loc main_arg0)) ∗ pl d main_arg1 (m ((d : Thread nD τ).loc main_arg1)) ∗ pl d main_arg2 (m ((d : Thread nD τ).loc main_arg2))
      ∗ pl d main_v1_0 (hv m d) ∗ pl d main_v2 (m ((d : Thread nD τ).loc main_v2))) ∗ owesC d)

/-- The region by itself. -/
theorem wp_region₀ (d : Dev nD) (Q : PUnit → sProp 𝕄) :
    iprop((iprop(boundary (T d) ∗ POST m d) -∗ wp frame (wpE (D (F := F)) 𝒱 (T d) none) Set.univ (Prog.ret PUnit.unit) Q)
        ∗ boundary (T d) ∗ iprop(unscopedBufs d (fun b => V₁ m d b) ∗ owesC d) ∗ levAts (K (F := F)).L (K (F := F)).lev ∗ G (F := F) d)
      ⊢ wp frame (wpE (D (F := F)) 𝒱 (T d) none) Set.univ (.op (.customCall (Pipeline.entry 0) ()) Prog.ret) Q :=
  Pipeline.RegionSeg.wp (pcfgs (F := F)) adm (pdats m) none pcs_inj EP defs₀ 𝒱₀ (K (F := F)).L (K (F := F)).lev (reg0 m) d none
    (fun _ h => absurd h (Option.not_mem_none _)) Prog.ret Q

/-- The region's call in the gate pipeline's own program. -/
def enter (d : Dev nD) : Prog (TpuEff nD τ sig (Elt F) (ΛP (F := F)) (T d : Thread nD τ).2) PUnit :=
  .op (.customCall (Pipeline.entry 0) ()) Prog.ret

theorem enter_eq (d : Dev nD) :
    (Prog.lift (.customCall (SparseCore.inner (Pipeline.entry 0)) ()) : Prog (TpuEff nD τ sig (Elt F) (SparseCore.Sig (ΛP (F := F)) 1) .tc) PUnit)
      = SparseCore.liftProg (enter (F := F) d) := rfl

/-- The region, as @main calls it. -/
theorem wp_region (d : Dev nD) (Q : PUnit → sProp 𝕄) :
    iprop((iprop(boundary (T d) ∗ POST m d) -∗ |={Set.univ}=> Q ⟨⟩)
        ∗ boundary (T d) ∗ iprop(unscopedBufs d (fun b => V₁ m d b) ∗ owesC d) ∗ levAts (K (F := F)).L (K (F := F)).lev ∗ G (F := F) d)
      ⊢ wp frame (wpE ((K (F := F)).defs (D (F := F))) 𝒱 (T d) none) Set.univ
          (Prog.lift (.customCall (SparseCore.inner (Pipeline.entry 0)) ())) Q := by
  rw [enter_eq d]
  refine BI.Entails.trans ?_ ((K (F := F)).wp_liftProg (D (F := F)) 𝒱 (T d) Set.univ none (enter d) Q)
  have h := wp_region₀ m d Q
  rw [wp_ret] at h
  exact h

theorem op0_sub : (op0 (F := F)).bufs ⊆ Pipeline.ucRefs τ sig := by
  show ({Proc.devRef .tc main_arg0, Proc.devRef .tc main_v0} : Finset (DevRef τ sig)) ⊆ Pipeline.ucRefs τ sig
  decide

theorem hmain (κ : GSem nD τ sig → ℕ) (d : Dev nD) :
    iprop((K (F := F)).ctx EH (P m (hv m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  ihave Hh := (Entails.of_eq (Pipeline.unscopedBufs_held d (fun b => m (d, b)))) $$ Hub
  iapply (StableHlo.wp_hlo_within 𝒱 (T d) none Set.univ (op := op0 (F := F)) (S := Pipeline.ucRefs τ sig) op0_sub) $$ [Hb Hh]
  · isplitl [Hb] <;> iassumption
  iintro ⟨Hb, Hh⟩
  rw [wp_ret]; imodintro
  ihave Hub := (Entails.of_eq (Pipeline.unscopedBufs_held d (V₁ m d)).symm) $$ Hh
  ihave Hst' := (Entails.of_eq (show (K (F := F)).tcSt EH d 0 = iprop(owesC (F := F) d ∗ rest0 d) from rfl)) $$ Hst
  icases Hst' with ⟨HO, Hst⟩
  ihave Hlev := (SparseCore.Cfg.ctx_levAts κ) $$ Hctx
  iapply (wp_region m d _)
  isplitl [Hst Hts]
  swap
  · isplitl [Hb]; · iexact Hb
    isplitl [Hub HO]
    · isplitl [Hub]; · iexact Hub
      iexact HO
    isplitl [Hlev]; · iexact Hlev
    iexact HG
  iintro ⟨Hb, ⟨⟨H0, H1, H2, Hh, Hv⟩, HO⟩⟩
  imodintro
  iapply ((K (F := F)).wp_run (D (F := F)) 𝒱 (EH := EH) (P := P m (hv m)) κ d 0)
  isplitr; · iexact Hctx
  isplitl [Hst HO]
  · iapply (Entails.of_eq (show (K (F := F)).tcSt EH d 0 = iprop(owesC (F := F) d ∗ rest0 d) from rfl).symm)
    isplitl [HO] <;> iassumption
  isplitl [Hh Hv]
  · rw [st0_eq]
    isplitl [Hh] <;> iassumption
  iintro ⟨Hst, Hdn⟩
  ihave Hdn' := (Entails.of_eq (dn0_eq m d)) $$ Hdn
  icases Hdn' with ⟨-, Hv⟩
  imodintro
  isplitl [Hst]; · iexact Hst
  isplitr [Hb Hts]
  · isplitl [H0]; · iexact H0
    isplitl [H1]; · iexact H1
    isplitl [H2] <;> iassumption
  isplitl [Hb] <;> iassumption

def fq (d : Dev nD) (s' : Phys nD τ sig (Elt F)) : Prop :=
  s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem (oLoc d) = probsOf (hv m d)

theorem hfin (d : Dev nD) (s' : Phys nD τ sig (Elt F)) : iprop(FIN m d ∗ SI s') ⊢ (⌜fq m d s'⌝ : sProp 𝕄) := by
  iintro ⟨⟨H0, H1, H2, Hv⟩, HSI⟩
  ihave H := (persistent_entails_right (SI_pointsTo_agree (st := s') (ℓ := (d : Thread nD τ).loc main_arg0) (I := Finset.univ) (q := fullShare) (f := m ((d : Thread nD τ).loc main_arg0)))) $$ [HSI H0]
  · isplitl [HSI] <;> iassumption
  icases H with ⟨%h0, HSI, -⟩
  ihave H := (persistent_entails_right (SI_pointsTo_agree (st := s') (ℓ := (d : Thread nD τ).loc main_arg1) (I := Finset.univ) (q := fullShare) (f := m ((d : Thread nD τ).loc main_arg1)))) $$ [HSI H1]
  · isplitl [HSI] <;> iassumption
  icases H with ⟨%h1, HSI, -⟩
  ihave H := (persistent_entails_right (SI_pointsTo_agree (st := s') (ℓ := (d : Thread nD τ).loc main_arg2) (I := Finset.univ) (q := fullShare) (f := m ((d : Thread nD τ).loc main_arg2)))) $$ [HSI H2]
  · isplitl [HSI] <;> iassumption
  icases H with ⟨%h2, HSI, -⟩
  ihave H := (SI_pointsTo_agree (st := s') (ℓ := oLoc d) (I := Finset.univ) (q := fullShare) (f := probsOf (hv m d))) $$ [HSI Hv]
  · isplitl [HSI] <;> iassumption
  icases H with %hv
  ipureintro
  exact ⟨funext fun i => h0 i (Finset.mem_univ i), funext fun i => h1 i (Finset.mem_univ i), funext fun i => h2 i (Finset.mem_univ i), funext fun i => hv i (Finset.mem_univ i)⟩

/-! ## The run -/

def QC : PUnit × MemSt nD τ sig (Elt F) → Prop := fun r => (∀ c : Dev nD,
  r.2.mem ((c : Thread nD τ).loc main_v2) = probsOf (hv m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

/-- Every execution ends, with the arguments unchanged, the probabilities in the result and every counter at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m (hv m)) (A := ∅) facts v₀
    (fun q hq => match q with | 0 => nomatch hq)
    (fun q _ => match q with | 0 => tileObl m (hv m))
    (fun q _ => match q with | 0 => SparseCore.Cfg.VecSplit.of_plain (vecSplit m (hv m)))
    m ρ main (fun d => G (F := F) d) (FIN m) (u₀ (F := F)) (sep_elim_left.trans (hu₀ m)) (hmain m ρ) (fq m) (hfin m) (QC m)
    (fun _ h hz => ⟨fun c => ⟨(h c).2.2.2, (h c).1, (h c).2.1, (h c).2.2.1⟩, hz⟩)

end Cert.ProbsIdeal.Launch

end
-- ==== Proof.Probs.Value.lean ====
/-
  The routing's claims about the probabilities: the run of the reshape, the gate kernel and the SparseCore call leaves the
  softmax of every row of the logits in the result, whatever the numbers; and so does the reference's.
-/
module

public import proofs.«01_k».proof.Proof.Gen.Probs
public import proofs.«01_k».proof.Proof.Gen.ProbsReferenceIdeal.Run
public import proofs.«01_k».proof.Proof.Probs.Softmax
public import proofs.«01_k».proof.Proof.Probs.Launch
public import Idealize.ShloMosaic.Lib.LaneScatter.Tiles

@[expose] public section

set_option maxRecDepth 16384

noncomputable section

namespace Cert.ProbsIdeal.Gate

open Cert.ProbsIdeal Cert.ProbsIdeal.Gen Cert.ProbsIdeal.Tile Idealize.ShloMosaic Idealize.ShloMosaic.TcCoe Idealize.SL.Sem
open Idealize.ShloMosaic.SparseCore (S V T)

section
variable {F : FTy → Type} [FloatOps F]

/-- The logits' staging buffer holds the payload of the one store to it. -/
theorem gateRun_1 (c : Dev nD) (f0 f1 f2) : (gateRun (F := F) c f0 f1 f2).1.1 = k0_pay2 f0 f1 f2 := by
  unfold gateRun
  dsimp only
  unfold gateRun.sl.H3_1
  have h0 : View.readAt (Elt F) (Memref.whole cc0_stg0_0).view (Rect.unit ![0, 0] S64x1024.size inb_S64x1024_S64x1024_0_0).toLoadRect f0 = f0 :=
    Memref.readAt_unit_zero (Elt F) cc0_stg0_0 (by funext a; fin_cases a <;> rfl) _ _
  have h1 : View.readAt (Elt F) (Memref.whole cc0_stg1_0).view (Rect.unit ![0, 0] S1024x64.size inb_S1024x64_S1024x64_0_0).toLoadRect f1 = f1 :=
    Memref.readAt_unit_zero (Elt F) cc0_stg1_0 (by funext a; fin_cases a <;> rfl) _ _
  have h2 : View.readAt (Elt F) (Memref.whole cc0_stg2_0).view (Rect.unit ![0] S64.size inb_S64_S64_0).toLoadRect f2 = f2 :=
    Memref.readAt_unit_zero (Elt F) cc0_stg2_0 (by funext a; fin_cases a; rfl) _ _
  rw [h0, h1, h2]
  refine funext fun (j : S64x64.Idx) => ?_
  exact View.read_writes_cons_unit_of_mem (Val := Elt F) (View.whole cc0_stg3_0) _ inb_S64x64_S64x64_0_0 (k0_pay2 f0 f1 f2) [] j j rfl
    (fun a => by fin_cases a <;> exact (Nat.zero_add _).symm)

variable (m : (ℓ : Loc nD τ sig) → Buf (Elt F) ℓ)

theorem arg0v_eq (c : Dev nD) : arg0v m c = shapeCast S64x1024 (m ((T c : Thread nD τ).loc main_arg0)) shapeCasts_S1x64x1024_S64x1024 := by
  have e : V₁ m c (Proc.devRef .tc main_v0) = shapeCast S64x1024 (m ((T c : Thread nD τ).loc main_arg0)) shapeCasts_S1x64x1024_S64x1024 := by
    rfl
  refine funext fun (j : S64x1024.Idx) => ?_
  rw [← e]
  show V₁ m c main_v0 _ = V₁ m c main_v0 _
  congr 1; funext a; apply Fin.ext; fin_cases a
  · show 0 * 64 + 1 * (j 0).val = (j 0).val; omega
  · show 0 * 1024 + 1 * (j 1).val = (j 1).val; omega

theorem arg1v_eq (c : Dev nD) : arg1v m c = m ((T c : Thread nD τ).loc main_arg1) := by
  have e : V₁ m c (Proc.devRef .tc main_arg1) = m ((T c : Thread nD τ).loc main_arg1) := V₁_keep m c (Proc.devRef .tc main_arg1) (by decide)
  refine funext fun (j : S1024x64.Idx) => ?_
  rw [← e]
  show V₁ m c main_arg1 _ = V₁ m c main_arg1 _
  congr 1; funext a; apply Fin.ext; fin_cases a
  · show 0 * 1024 + 1 * (j 0).val = (j 0).val; omega
  · show 0 * 64 + 1 * (j 1).val = (j 1).val; omega

theorem arg2v_eq (c : Dev nD) : arg2v m c = m ((T c : Thread nD τ).loc main_arg2) := by
  have e : V₁ m c (Proc.devRef .tc main_arg2) = m ((T c : Thread nD τ).loc main_arg2) := V₁_keep m c (Proc.devRef .tc main_arg2) (by decide)
  refine funext fun (j : S64.Idx) => ?_
  rw [← e]
  show V₁ m c main_arg2 _ = V₁ m c main_arg2 _
  congr 1; funext a; apply Fin.ext; fin_cases a
  show 0 * 64 + 1 * (j 0).val = (j 0).val; omega

/-- The logits' array at the end of the region: the one store's payload. -/
theorem hv_eq (c : Dev nD) : hv m c = k0_pay2 (shapeCast S64x1024 (m ((T c : Thread nD τ).loc main_arg0)) shapeCasts_S1x64x1024_S64x1024)
    (m ((T c : Thread nD τ).loc main_arg1)) (m ((T c : Thread nD τ).loc main_arg2)) := by
  rw [← arg0v_eq m c, ← arg1v_eq m c, ← arg2v_eq m c, ← gateRun_1 c]
  refine (dat0 m c).arrAt_eq_of_cover 3 _ (fun t ht => ?_) (fun i => ⟨t0_0, rfl, ?_⟩)
  · obtain rfl := fin_N0 t
    refine funext fun (j : S64x64.Idx) => ?_
    refine congrArg (run m c).1.1 (funext fun (a : Fin 2) => Fin.ext ?_)
    fin_cases a
    · show (j 0).val = 0 * 64 + 1 * (j 0).val; omega
    · show (j 1).val = 0 * 64 + 1 * (j 1).val; omega
  · show i ∈ ((View.whole main_v1_0).slice ((cfg0.win 3).rect t0_0)).set
    erw [View.set_slice_whole]
    refine (Pipeline.Window.mem_rect_iff (cfg0.win 3) t0_0 i (by rfl)).mpr fun a => ?_
    have e : (cfg0.win 3).index t0_0 a * (cfg0.win 3).size a = 0
        ∧ (cfg0.win 3).xsize (grid0.coords t0_0) a = S64x64.size a := by
      fin_cases a <;> exact ⟨rfl, rfl⟩
    rw [e.1, e.2, Nat.zero_add]
    exact ⟨Nat.zero_le _, (i a).isLt⟩

end

theorem pay2_apply (x : Vec Ideal S64x1024 .f32) (Wg : Vec Ideal S1024x64 .f32) (bg : Vec Ideal S64 .f32) (b e : Fin 64) :
    k0_pay2 (F := Ideal) x Wg bg (ix2 b e) = Cert.Softmax.logit x Wg bg b e := by
  unfold Cert.Softmax.logit
  pointwise [k0_pay2]

end Cert.ProbsIdeal.Gate

namespace Cert.ProbsReferenceIdeal.Value

open Cert.ProbsReferenceIdeal Cert.ProbsReferenceIdeal.Gen Idealize.ShloMosaic Idealize.ShloMosaic.TcCoe Idealize.SL.Sem

/-- The probabilities of the tokens `x` (with their leading axis of one), the weights and the bias. -/
def probs (x : FVec Ideal S1x64x1024 .f32) (Wg : FVec Ideal S1024x64 .f32) (bg : FVec Ideal S64 .f32) : FVec Ideal S64x64 .f32 :=
  fun j => Cert.Softmax.soft (Cert.Softmax.logit (shapeCast S64x1024 x shapeCasts_S1x64x1024_S64x1024) Wg bg (j 0)) (j 1)

theorem soft_eq (H : FVec Ideal S64x64 .f32) (b e : Fin 64) :
    Host.divf (Host.exp (subf H (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf H (constant S_ .f32 0xFF800000#32) reducesTo_S64x64_S64_d1 h_S_)))))) (broadcastInDim S64x64 ![0, 1] bcast_S64x1_S64x64_0_1 (broadcastInDim S64x1 ![0] bcast_S64_S64x1_0 (Host.reduceAdd (Host.exp (subf H (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf H (constant S_ .f32 0xFF800000#32) reducesTo_S64x64_S64_d1 h_S_)))))) (constant S_ .f32 0x00000000#32) reducesTo_S64x64_S64_d1 h_S_))) (ix2 b e)
      = Cert.Softmax.soft (fun k => H (ix2 b k)) e := by
  pointwise
  have hs : max (Ideal.ofBits FTy.f32 0xFF800000#32) (Finset.fold max (Ideal.ofBits FTy.f32 0xFF800000#32) (fun x => H (ix2 b x)) Finset.univ)
      = Finset.univ.sup fun k => H (ix2 b k) := by
    rw [Cert.Softmax.ofBits_bot, bot_sup_eq]
    rfl
  rw [hs]
  rfl

theorem logit_eq (x : FVec Ideal S64x1024 .f32) (Wg : FVec Ideal S1024x64 .f32) (bg : FVec Ideal S64 .f32) (b e : Fin 64) :
    addf (Host.dotGeneral dot_S64x1024_S1024x64_S64x64_1_0_0_1_n_n none x Wg) (broadcastInDim S64x64 ![0, 1] bcast_S1x64_S64x64_0_1 (broadcastInDim S1x64 ![1] bcast_S64_S1x64_1 bg)) (ix2 b e)
      = Cert.Softmax.logit x Wg bg b e := by
  unfold Cert.Softmax.logit
  pointwise

/-- The reference's composed term is the softmax of the logits. -/
theorem ref_eq (x : FVec Ideal S1x64x1024 .f32) (Wg : FVec Ideal S1024x64 .f32) (bg : FVec Ideal S64 .f32) :
    Host.divf (Host.exp (subf (addf (Host.dotGeneral dot_S64x1024_S1024x64_S64x64_1_0_0_1_n_n none (shapeCast S64x1024 x shapeCasts_S1x64x1024_S64x1024) Wg) (broadcastInDim S64x64 ![0, 1] bcast_S1x64_S64x64_0_1 (broadcastInDim S1x64 ![1] bcast_S64_S1x64_1 bg))) (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf (addf (Host.dotGeneral dot_S64x1024_S1024x64_S64x64_1_0_0_1_n_n none (shapeCast S64x1024 x shapeCasts_S1x64x1024_S64x1024) Wg) (broadcastInDim S64x64 ![0, 1] bcast_S1x64_S64x64_0_1 (broadcastInDim S1x64 ![1] bcast_S64_S1x64_1 bg))) (constant S_ .f32 0xFF800000#32) reducesTo_S64x64_S64_d1 h_S_)))))) (broadcastInDim S64x64 ![0, 1] bcast_S64x1_S64x64_0_1 (broadcastInDim S64x1 ![0] bcast_S64_S64x1_0 (Host.reduceAdd (Host.exp (subf (addf (Host.dotGeneral dot_S64x1024_S1024x64_S64x64_1_0_0_1_n_n none (shapeCast S64x1024 x shapeCasts_S1x64x1024_S64x1024) Wg) (broadcastInDim S64x64 ![0, 1] bcast_S1x64_S64x64_0_1 (broadcastInDim S1x64 ![1] bcast_S64_S1x64_1 bg))) (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf (addf (Host.dotGeneral dot_S64x1024_S1024x64_S64x64_1_0_0_1_n_n none (shapeCast S64x1024 x shapeCasts_S1x64x1024_S64x1024) Wg) (broadcastInDim S64x64 ![0, 1] bcast_S1x64_S64x64_0_1 (broadcastInDim S1x64 ![1] bcast_S64_S1x64_1 bg))) (constant S_ .f32 0xFF800000#32) reducesTo_S64x64_S64_d1 h_S_)))))) (constant S_ .f32 0x00000000#32) reducesTo_S64x64_S64_d1 h_S_)))
      = probs x Wg bg := by
  refine funext fun (j : S64x64.Idx) => ?_
  obtain ⟨b, e, rfl⟩ : ∃ b e : Fin 64, j = ix2 b e := ⟨j 0, j 1, eq_ix2 j⟩
  refine (soft_eq _ b e).trans ?_
  exact congrArg (fun g => Cert.Softmax.soft g e) (funext fun k => logit_eq _ _ _ b k)

end Cert.ProbsReferenceIdeal.Value

namespace Cert.ProbsIdeal.Value

open Cert.ProbsIdeal Cert.ProbsIdeal.Gen Cert.ProbsIdeal.Tile Cert.ProbsIdeal.Gate Cert.ProbsIdeal.Launch Idealize.ShloMosaic Idealize.ShloMosaic.TcCoe Idealize.SL.Sem
open Idealize.ShloMosaic.SparseCore (S V T)

theorem probsOf_hv (m : (ℓ : Loc nD τ sig) → Buf (Elt Ideal) ℓ) (c : Dev nD) : probsOf (hv m c)
    = Cert.ProbsReferenceIdeal.Value.probs (m ((c : Thread nD τ).loc main_arg0)) (m ((c : Thread nD τ).loc main_arg1)) (m ((c : Thread nD τ).loc main_arg2)) := by
  refine funext fun (j : S64x64.Idx) => ?_
  obtain ⟨b, e, rfl⟩ : ∃ b e : Fin 64, j = ix2 b e := ⟨j 0, j 1, eq_ix2 j⟩
  show Rows.prob (F := Ideal) (fun k => hv m c (ix2 b k)) e = Cert.Softmax.soft _ e
  rw [Cert.Softmax.prob_eq, hv_eq]
  congr 1; funext k
  exact pay2_apply _ _ _ b k

theorem frame_probsIdeal : Cert.quiescent_ProbsIdeal := fun m ρ _ =>
  (θ_run Cert.ProbsIdeal.defs _ _).mono (fun r h => ⟨fun c => (h.1 c).2, h.2⟩) (run_main m ρ)

/-- The two programs' body tables are one text under two names. -/
theorem defs_eq {F : FTy → Type} [FloatOps F] : Cert.Probs.defs (F := F) = defs := by
  refine congrArg (fun D => sc.defs (Pipeline.defs pcfgs D)) ?_
  unfold Cert.Probs.defs₀ defs₀
  funext pr l a
  rcases pr with _ | c | ⟨c, s⟩
  · match l, a with
    | 0, (t, s) => rfl
    | 1, _ => rfl
  · rfl
  · match l, a with
    | 0, _ => rfl
    | 1, _ => rfl

theorem frame_probs : Cert.quiescent_Probs := by
  intro m ρ _
  rw [defs_eq]
  exact (θ_run defs _ _).mono (fun r h => ⟨fun c => (h.1 c).2, h.2⟩) (run_main (F := Bits) m ρ)

theorem frame_reference : Cert.quiescent_ProbsReferenceIdeal := fun m ρ _ =>
  (θ_run Cert.ProbsReferenceIdeal.defs _ _).mono (fun r h => ⟨fun c => (h c).2, Idealize.ShloMosaic.sem_eq_zero_of_no_sems (by decide) r.2⟩)
    (Cert.ProbsReferenceIdeal.Value.run m ρ)

theorem algebraic : Cert.algebraic_ProbsIdeal_ProbsReferenceIdeal := by
  intro m ρ m' ρ' _ hagree
  refine ⟨fun c => Cert.ProbsReferenceIdeal.Value.probs (m ((c : Thread nD τ).loc main_arg0)) (m ((c : Thread nD τ).loc main_arg1)) (m ((c : Thread nD τ).loc main_arg2)),
    (θ_run defs _ _).mono (fun r h c => ⟨(h.1 c).1.trans (probsOf_hv m c), (h.1 c).2⟩) (run_main m ρ), ?_⟩
  refine (θ_run Cert.ProbsReferenceIdeal.defs _ _).mono (fun _ h c => ⟨(h c).1.trans ?_, (h c).2⟩) (Cert.ProbsReferenceIdeal.Value.run m' ρ')
  obtain ⟨h0, h1, h2⟩ := hagree c
  rw [h0, h1, h2]
  exact Cert.ProbsReferenceIdeal.Value.ref_eq ..

end Cert.ProbsIdeal.Value

end
-- ==== Proof.Layer.Gate.lean ====
/-
  The gate kernel's region: what the TensorCore runs before the SparseCore call. It fetches the tokens, the gate's weights
  and bias, computes the logits, the gates and the list, and writes the three back. What the three hold is
  what the body's one run leaves in their staging buffers.
-/
module

public import proofs.«01_k».proof.Proof.Layer.Tile
public import proofs.«01_k».proof.Proof.Gen.LayerIdeal.Launch
public import proofs.«01_k».proof.Proof.Gen.LayerIdeal.Points
public import Idealize.ShloMosaic.Lib.Pipeline.Regions

@[expose] public section

noncomputable section

namespace Cert.Layer.Gate

open Cert.LayerIdeal hiding ix2
open Cert.LayerIdeal.Gen Cert.Layer.Tile

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)
open Idealize.ShloMosaic.Tactic

variable {F : FTy → Type} [FloatOps F]

local notation "𝕄" => MT nD τ sig (HIx 1) (Elt F) ℕ UU ℕ

variable (m : (ℓ : Loc nD τ sig) → Buf (Elt F) ℓ)

abbrev ptM (c : Dev nD) {sp : Space} {S : Shape} {e : EltTy} (M : Memref sig .tc sp S e) (f : Buf (Elt F) (M.view.loc (T c : Thread nD τ))) : sProp 𝕄 :=
  M.view.loc (T c : Thread nD τ) ↦{fullShare} f

/-- The body, run on its six staging buffers: the last two end at contents that do not depend on what they held. -/
def gateRun (c : Dev nD)
    (f0 : Buf (Elt F) ((Memref.whole cc0_stg0_0).view.loc (T c : Thread nD τ))) (f1 : Buf (Elt F) ((Memref.whole cc0_stg1_0).view.loc (T c : Thread nD τ)))
    (f2 : Buf (Elt F) ((Memref.whole cc0_stg2_0).view.loc (T c : Thread nD τ))) :
    { pay : Buf (Elt F) ((Memref.whole cc0_stg3_0).view.loc (T c : Thread nD τ)) × Buf (Elt F) ((Memref.whole cc0_stg4_0).view.loc (T c : Thread nD τ)) × Buf (Elt F) ((Memref.whole cc0_stg5_0).view.loc (T c : Thread nD τ)) //
    ∀ f3 f4 f5 (Q : PUnit → sProp 𝕄),
      iprop(ptM c (Memref.whole cc0_stg0_0) f0 ∗ ptM c (Memref.whole cc0_stg1_0) f1 ∗ ptM c (Memref.whole cc0_stg2_0) f2
          ∗ ptM c (Memref.whole cc0_stg3_0) f3 ∗ ptM c (Memref.whole cc0_stg4_0) f4 ∗ ptM c (Memref.whole cc0_stg5_0) f5
          ∗ (iprop(ptM c (Memref.whole cc0_stg0_0) f0 ∗ ptM c (Memref.whole cc0_stg1_0) f1 ∗ ptM c (Memref.whole cc0_stg2_0) f2
            ∗ ptM c (Memref.whole cc0_stg3_0) pay.1 ∗ ptM c (Memref.whole cc0_stg4_0) pay.2.1 ∗ ptM c (Memref.whole cc0_stg5_0) pay.2.2) -∗ Q ⟨⟩))
        ⊢ wp frame (wpE (defs₀ (F := F)) 𝒱₀ (T c) none) Set.univ
            (cc0__gate_body (F := F) (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_stg4_0) (Memref.isWhole_whole _) (Memref.whole cc0_stg5_0) (Memref.isWhole_whole _)) Q } := by
  refine ⟨⟨?p3, ?p4, ?p5⟩, fun f3 f4 f5 Q => ?run⟩
  case run =>
    iintro ⟨H0, H1, H2, H3, H4, H5, Hk⟩
    simp only [cc0__gate_body_eq_skeleton]; unfold cc0__gate_body_skel; simp only [k0_part1_eq_skeleton]; unfold k0_part1_skel
    sl_exec!
    sl_step
    iapply Hk
    isplitl [H0]; · iexact H0
    isplitl [H1]; · iexact H1
    isplitl [H2]; · iexact H2
    isplitl [H3]; · iexact H3
    isplitl [H4]; · iexact H4
    iexact H5

/-! ## The region's proof data -/

/-- The operation before the region: the tokens without their leading axis. -/
abbrev op0 : HloOp τ sig (Elt F) := StableHlo.reshape main_arg0 main_v0 (rfl : (.f32 : EltTy) = .f32) shapeCasts_S1x64x1024_S64x1024
/-- What the buffers hold at the region's entry. -/
abbrev V₁ (c : Dev nD) : Valuation τ sig (Elt F) := (op0 (F := F)).result (fun b => m (c, b))

/-- The operation before the region changes one buffer. -/
theorem V₁_keep (c : Dev nD) (b : DevRef τ sig) (h : b ∉ ({Proc.devRef .tc main_v0} : Finset (DevRef τ sig))) : V₁ m c b = m (c, b) :=
  (op0 (F := F)).result_of_not_mem _ h

abbrev arg0v (c : Dev nD) : Buf (Elt F) ((T c : Thread nD τ).loc cc0_stg0_0) := ((cfg0.win 0).blk t0_0).view.read (Elt F) (V₁ m c main_v0)
abbrev arg1v (c : Dev nD) : Buf (Elt F) ((T c : Thread nD τ).loc cc0_stg1_0) := ((cfg0.win 1).blk t0_0).view.read (Elt F) (V₁ m c main_arg1)
abbrev arg2v (c : Dev nD) : Buf (Elt F) ((T c : Thread nD τ).loc cc0_stg2_0) := ((cfg0.win 2).blk t0_0).view.read (Elt F) (V₁ m c main_arg2)

/-- What the body leaves in the three results' staging buffers. -/
abbrev run (c : Dev nD) := gateRun (F := F) c (arg0v m c) (arg1v m c) (arg2v m c)

/-- What is owed to the SparseCore's subcores before call `n`. -/
abbrev O₀ (n : ℕ) (c : Dev nD) : CellTallies nD τ sig (HIx 1) := (K (F := F)).Otc c n

theorem O₀_none (n : ℕ) (c : Dev nD) (g : GSem nD τ sig) : O₀ (F := F) n c g none = 0 := by
  by_contra h
  have := (K (F := F)).lev_of_Otc_pos (d := c) (n := n) (g := g) (ι := none) (Nat.pos_of_ne_zero h)
  exact absurd this (by show ¬ (_ + 1 ≤ 0); omega)

/-- The waits a core may have recorded before call `n`. -/
abbrev rec₀ (n : ℕ) (c : Dev nD) : Set (SemLoc sig × HIx 1) := {p | (K (F := F)).lev ((T c : Thread nD τ), p.1) p.2 ≤ 8 * n}

def dat0 (c : Dev nD) : Pipeline.Dat τ (Elt F) (HIx 1) ℕ UU ℕ cfg0 c where
  A w := V₁ m c ((cfg0.win w).arr.view.loc (T c : Thread nD τ)).2
  after w _ := match w with
    | ⟨0, _⟩ => arg0v m c
    | ⟨1, _⟩ => arg1v m c
    | ⟨2, _⟩ => arg2v m c
    | ⟨3, _⟩ => (run m c).1.1
    | ⟨4, _⟩ => (run m c).1.2.1
    | ⟨5, _⟩ => (run m c).1.2.2
  Φ _ := Pipeline.scopedRest (Ix := HIx 1) (Name := ℕ) (U := UU) (Lvl := ℕ) spec0 c
  q _ := fullShare
  owed _ := O₀ (F := F) 0 c
  recorded _ := rec₀ (F := F) 0 c

theorem before_0 (c : Dev nD) (d : (cfg0.win 0).block.Idx → Elt F (cfg0.win 0).elt) : (dat0 m c).before 0 t0_0 d = arg0v m c := by
  unfold Pipeline.Dat.before; rw [if_pos (by decide)]; rfl
theorem before_1 (c : Dev nD) (d : (cfg0.win 1).block.Idx → Elt F (cfg0.win 1).elt) : (dat0 m c).before 1 t0_0 d = arg1v m c := by
  unfold Pipeline.Dat.before; rw [if_pos (by decide)]; rfl
theorem before_2 (c : Dev nD) (d : (cfg0.win 2).block.Idx → Elt F (cfg0.win 2).elt) : (dat0 m c).before 2 t0_0 d = arg2v m c := by
  unfold Pipeline.Dat.before; rw [if_pos (by decide)]; rfl

omit [FloatOps F] in
theorem owns_whole_eq (c : Dev nD) (b : Ref sig .tc) (X : b.ty.Contents (Elt F)) :
    (owns (Ix := HIx 1) (Name := ℕ) (U := UU) (Lvl := ℕ) (T c : Thread nD τ) (Memref.whole b) fullShare X : sProp 𝕄)
      = iprop(∃ f : Buf (Elt F) ((T c : Thread nD τ).loc b), ⌜f = X⌝ ∗ (((T c : Thread nD τ).loc b) ↦{fullShare} f)) := by
  unfold owns; simp only [Memref.view_whole, View.read_whole, View.set_whole]

set_option maxRecDepth 4000 in
theorem body_obligation (c : Dev nD) : BodyObligation (dat0 (F := F) m c) (defs₀ (F := F)) 𝒱₀ (none : HIx 1) Set.univ := fun t => by
  obtain rfl := fin_N0 t
  rw [bigSep_W0, bigSep_W0]
  simp only [owns_whole_eq]
  rw [show (dat0 m c).Φ t0_0.succ = (dat0 m c).Φ t0_0.castSucc from rfl,
    show (dat0 m c).owesAt none t0_0.succ = (dat0 m c).owesAt none t0_0.castSucc from rfl]
  iintro ⟨HP, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0
  rw [before_1] at hf1
  rw [before_2] at hf2
  subst hf0 hf1 hf2
  iapply ((run m c).2 f3 f4 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HP]; · iexact HP
  isplitl [HO]; · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; dsimp only [dat0]
  isplitl [H4]
  · iexists _; isplitr; swap; (· iexact H4); ipureintro; dsimp only [dat0]
  iexists _; isplitr; swap; (· iexact H5); ipureintro; dsimp only [dat0]

end Cert.Layer.Gate

end
-- ==== Proof.Layer.Step.lean ====
/-
  The expert kernel's body, run once at a grid point: what its two scratch buffers and its output block hold afterwards.
  The first point zeroes the accumulator and keeps the tokens in bf16; a point whose word is new adds that expert's gated
  output; the last point writes the combined rows through the final layer.
-/
module

public import proofs.«01_k».proof.Proof.Layer.Gate
public import proofs.«01_k».proof.Proof.Expert.Words
public import Idealize.ShloMosaic.Lib.WritesUnit

@[expose] public section

set_option maxRecDepth 16384

noncomputable section

namespace Cert.Layer.Step

open Cert.LayerIdeal hiding ix2
open Cert.LayerIdeal.Gen Cert.Layer.Tile

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The table the kernel reads its words from. -/
abbrev tbM : Memref sig .tc .smem S64x1 .i32 := Memref.whole main_v4
abbrev TbBuf (c : Dev nD) {S : Shape} {e : EltTy} (M : Memref sig .tc .smem S e) : Type := Buf (Elt F) (M.view.loc (T c : Thread nD τ))
abbrev tbPt (c : Dev nD) {S : Shape} {e : EltTy} (M : Memref sig .tc .smem S e) (f : TbBuf (F := F) c M) : sProp 𝕄 :=
  M.view.loc (T c : Thread nD τ) ↦{fullShare} f

/-- The table's word at the point, and the word before it. -/
abbrev word (c : Dev nD) (i : grid2.Coords) (xt : TbBuf (F := F) c tbM) : BitVec 32 :=
  tbM.view.readAt (Elt F) (Rect.unit (s := S64x1) (k2_off1 i) S1x1.size (k2_off1_inb i)).toLoadRect xt (Shape.Idx.first (numel1_S1x1.symm ▸ Nat.one_pos))
abbrev wordBefore (c : Dev nD) (i : grid2.Coords) (xt : TbBuf (F := F) c tbM) : BitVec 32 :=
  tbM.view.readAt (Elt F) (Rect.unit (s := S64x1) (k2_off2 i) S1x1.size (k2_off2_inb i)).toLoadRect xt (Shape.Idx.first (numel1_S1x1.symm ▸ Nat.one_pos))

/-- The point is the first; its word is new; it is the last. -/
abbrev First (i : grid2.Coords) : Prop := Scalar.cmpi .ne (Scalar.extui (Scalar.cmpi .eq (BitVec.ofNat 32 (i 0).val) 0#32)) 0#32 = 1#1
abbrev Fresh (i : grid2.Coords) (v w : BitVec 32) : Prop := k2_cond2 i v w = 1#1
abbrev Last (i : grid2.Coords) : Prop := k2_cond3 i = 1#1

/-- Row `v` of a `[64, 1024]` block, as the body's loads of one row read it. -/
abbrev row (x : Vec F S64x1024 .f32) (v : BitVec 32) (h : ∀ a, (k2_off3 v) a + S1x1024.size a ≤ S64x1024.size a) : Vec F S1x1024 .f32 :=
  View.ld x (Rect.unit (s := S64x1024) (k2_off3 v) S1x1024.size h)

theorem hz1 : (![0] : Fin 1 → ℕ) = fun _ => 0 := by funext a; fin_cases a <;> rfl
theorem hz2 : (![0, 0] : Fin 2 → ℕ) = fun _ => 0 := by funext a; fin_cases a <;> rfl
theorem hz3 : (![0, 0, 0] : Fin 3 → ℕ) = fun _ => 0 := by funext a; fin_cases a <;> rfl

/-- A buffer whose last store was of the whole of it holds what was stored. -/
theorem read_full {κ : Kind} {sp : Space} {S : Shape} {e : EltTy} (v : View sig κ sp S e) (f : v.ty.Contents (Elt F)) {off : Fin S.rank → ℕ}
    (inb : ∀ a, off a + S.size a ≤ S.size a) (hz : off = fun _ => 0) (pay : S.Idx → Elt F e) (L : List (View.Piece (Elt F) S e)) :
    v.read (Elt F) (v.writes (Elt F) f (⟨Rect.unit off S.size inb, pay⟩ :: L)) = pay := by
  subst hz
  exact funext fun j => View.read_writes_cons_unit_of_mem (Val := Elt F) v f inb pay L j j rfl (fun a => (Nat.zero_add _).symm)

section
variable (c : Dev nD) (i : grid2.Coords)
  (a2 : Memref sig .tc .vmem S64x1024 .f32) (h2 : a2.IsWhole)
  (a3 : Memref sig .tc .vmem S64x64 .f32) (h3 : a3.IsWhole)
  (a4 : Memref sig .tc .vmem S1x1024x1024 .f32) (h4 : a4.IsWhole)
  (a5 : Memref sig .tc .vmem S64x1024 .f32) (h5 : a5.IsWhole)
  (a6 : Memref sig .tc .vmem S1x1024x1024 .f32) (h6 : a6.IsWhole)
  (a7 : Memref sig .tc .vmem S64x1024 .f32) (h7 : a7.IsWhole)
  (a8 : Memref sig .tc .vmem S1024x1024 .f32) (h8 : a8.IsWhole)
  (a9 : Memref sig .tc .vmem S1024 .f32) (h9 : a9.IsWhole)
  (a10 : Memref sig .tc .vmem S64x1024 .f32) (h10 : a10.IsWhole)
  (a11 : Memref sig .tc .vmem S64x1024 .f32) (h11 : a11.IsWhole)
  (a12 : Memref sig .tc .vmem S64x1024 .bf16) (h12 : a12.IsWhole)
  (x0 : Vec F S64x1024 .f32) (x1 : Vec F S64x64 .f32) (x2 : Vec F S1x1024x1024 .f32) (x3 : Vec F S64x1024 .f32)
  (x4 : Vec F S1x1024x1024 .f32) (x5 : Vec F S64x1024 .f32) (x6 : Vec F S1024x1024 .f32) (x7 : Vec F S1024 .f32)
  (xt : TbBuf (F := F) c tbM) (y8 : Vec F S64x1024 .f32) (s0 : Vec F S64x1024 .f32) (s1 : Vec F S64x1024 .bf16)

/-- The body's run: from the eight operands' blocks, the output block and the two scratch buffers at given contents. -/
abbrev Runs (y8' s0' : Vec F S64x1024 .f32) (s1' : Vec F S64x1024 .bf16) : Prop :=
  ∀ (Q : PUnit → sProp 𝕄),
    iprop(owns (T c) a2 fullShare x0 ∗ owns (T c) a3 fullShare x1 ∗ owns (T c) a4 fullShare x2 ∗ owns (T c) a5 fullShare x3 ∗ owns (T c) a6 fullShare x4 ∗ owns (T c) a7 fullShare x5 ∗ owns (T c) a8 fullShare x6 ∗ owns (T c) a9 fullShare x7 ∗ owns (T c) a10 fullShare y8 ∗ owns (T c) a11 fullShare s0 ∗ owns (T c) a12 fullShare s1 ∗ tbPt c tbM xt
        ∗ (iprop(owns (T c) a2 fullShare x0 ∗ owns (T c) a3 fullShare x1 ∗ owns (T c) a4 fullShare x2 ∗ owns (T c) a5 fullShare x3 ∗ owns (T c) a6 fullShare x4 ∗ owns (T c) a7 fullShare x5 ∗ owns (T c) a8 fullShare x6 ∗ owns (T c) a9 fullShare x7 ∗ owns (T c) a10 fullShare y8' ∗ owns (T c) a11 fullShare s0' ∗ owns (T c) a12 fullShare s1' ∗ tbPt c tbM xt) -∗ Q ⟨⟩))
      ⊢ wp frame (wpE (defs₀ (F := F)) 𝒱₀ (T c) none) Set.univ
          (cc2__expert_body i tbM (Memref.isWhole_whole _) a2 h2 a3 h3 a4 h4 a5 h5 a6 h6 a7 h7 a8 h8 a9 h9 a10 h10 a11 h11 a12 h12) Q

variable (hw : k2_chk1 i (word c i xt) (wordBefore c i xt))

include hw in
set_option maxHeartbeats 1000000 in
/-- The first point. -/
theorem run_A (hc0 : First i) (hc2 : ¬Last i) (hc1 : Fresh i (word c i xt) (wordBefore c i xt)) :
    Runs c i a2 h2 a3 h3 a4 h4 a5 h5 a6 h6 a7 h7 a8 h8 a9 h9 a10 h10 a11 h11 a12 h12 x0 x1 x2 x3 x4 x5 x6 x7 xt y8 s0 s1 y8
      (k2_pay3 (word c i xt) x2 (k2_pay2 x0) (row x3 (word c i xt) (hw hc1)) x4 (row x5 (word c i xt) (hw hc1)) x1 k2_pay1) (k2_pay2 x0) := by
  intro Q
  simp only [cc2__expert_body_eq_skeleton]; unfold cc2__expert_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, HT0, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10
  sl_exec (disch := first | sl_exact hc0 | sl_exact hc1 | sl_exact hc2 | sl_exact hw)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [HS0]
  · iexists _; isplitr; rotate_left; · iexact HS0
    ipureintro; sl_unfold_words
    rw [read_full (F := F) _ _ _ hz2]
    simp only [View.readCov_unit_zero (S := S64x1024) _ hz2, View.readAt_eq_ld, h2.read_unread, h3.read_unread, h4.read_unread, h5.read_unread, h6.read_unread, h7.read_unread, h8.read_unread, h9.read_unread, h10.read_unread, h11.read_unread, h12.read_unread, View.ld_unit_zero (S := S64x1024) hz2,
      View.ld_unit_zero (S := S64x64) hz2, View.ld_unit_zero (S := S1x1024x1024) hz3, View.ld_unit_zero (S := S1024x1024) hz2,
      View.ld_unit_zero (S := S1024) hz1]
    try rfl
  isplitl [HS1]
  · iexists _; isplitr; rotate_left; · iexact HS1
    ipureintro; sl_unfold_words
    rw [read_full (F := F) _ _ _ hz2]
    simp only [View.readCov_unit_zero (S := S64x1024) _ hz2, View.readAt_eq_ld, h2.read_unread, h3.read_unread, h4.read_unread, h5.read_unread, h6.read_unread, h7.read_unread, h8.read_unread, h9.read_unread, h10.read_unread, h11.read_unread, h12.read_unread, View.ld_unit_zero (S := S64x1024) hz2,
      View.ld_unit_zero (S := S64x64) hz2, View.ld_unit_zero (S := S1x1024x1024) hz3, View.ld_unit_zero (S := S1024x1024) hz2,
      View.ld_unit_zero (S := S1024) hz1]
    try rfl
  iexact HT0

include hw in
set_option maxHeartbeats 1000000 in
/-- A point in the middle whose word is new. -/
theorem run_C (hc0 : ¬First i) (hc2 : ¬Last i) (hc1 : Fresh i (word c i xt) (wordBefore c i xt)) :
    Runs c i a2 h2 a3 h3 a4 h4 a5 h5 a6 h6 a7 h7 a8 h8 a9 h9 a10 h10 a11 h11 a12 h12 x0 x1 x2 x3 x4 x5 x6 x7 xt y8 s0 s1 y8
      (k2_pay3 (word c i xt) x2 s1 (row x3 (word c i xt) (hw hc1)) x4 (row x5 (word c i xt) (hw hc1)) x1 s0) s1 := by
  intro Q
  simp only [cc2__expert_body_eq_skeleton]; unfold cc2__expert_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, HT0, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10
  sl_exec (disch := first | sl_exact hc0 | sl_exact hc1 | sl_exact hc2 | sl_exact hw)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [HS0]
  · iexists _; isplitr; rotate_left; · iexact HS0
    ipureintro; sl_unfold_words
    rw [read_full (F := F) _ _ _ hz2]
    simp only [View.readCov_unit_zero (S := S64x1024) _ hz2, View.readAt_eq_ld, h2.read_unread, h3.read_unread, h4.read_unread, h5.read_unread, h6.read_unread, h7.read_unread, h8.read_unread, h9.read_unread, h10.read_unread, h11.read_unread, h12.read_unread, View.ld_unit_zero (S := S64x1024) hz2,
      View.ld_unit_zero (S := S64x64) hz2, View.ld_unit_zero (S := S1x1024x1024) hz3, View.ld_unit_zero (S := S1024x1024) hz2,
      View.ld_unit_zero (S := S1024) hz1]
    try rfl
  isplitl [HS1]
  · iexists _; isplitr; · ipureintro; exact h12.read_unread _
    iexact HS1
  iexact HT0

include hw in
set_option maxHeartbeats 1000000 in
/-- A point in the middle whose word is the one before it. -/
theorem run_D (hc0 : ¬First i) (hc2 : ¬Last i) (hc1 : ¬Fresh i (word c i xt) (wordBefore c i xt)) :
    Runs c i a2 h2 a3 h3 a4 h4 a5 h5 a6 h6 a7 h7 a8 h8 a9 h9 a10 h10 a11 h11 a12 h12 x0 x1 x2 x3 x4 x5 x6 x7 xt y8 s0 s1 y8
      s0 s1 := by
  intro Q
  simp only [cc2__expert_body_eq_skeleton]; unfold cc2__expert_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, HT0, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10
  sl_exec (disch := first | sl_exact hc0 | sl_exact hc1 | sl_exact hc2 | sl_exact hw)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [HS0]
  · iexists _; isplitr; · ipureintro; exact h11.read_unread _
    iexact HS0
  isplitl [HS1]
  · iexists _; isplitr; · ipureintro; exact h12.read_unread _
    iexact HS1
  iexact HT0

include hw in
set_option maxHeartbeats 1000000 in
/-- The last point, its word new. -/
theorem run_E (hc0 : ¬First i) (hc2 : Last i) (hc1 : Fresh i (word c i xt) (wordBefore c i xt)) :
    Runs c i a2 h2 a3 h3 a4 h4 a5 h5 a6 h6 a7 h7 a8 h8 a9 h9 a10 h10 a11 h11 a12 h12 x0 x1 x2 x3 x4 x5 x6 x7 xt y8 s0 s1 (k2_pay4 (k2_pay3 (word c i xt) x2 s1 (row x3 (word c i xt) (hw hc1)) x4 (row x5 (word c i xt) (hw hc1)) x1 s0) x6 x7)
      (k2_pay3 (word c i xt) x2 s1 (row x3 (word c i xt) (hw hc1)) x4 (row x5 (word c i xt) (hw hc1)) x1 s0) s1 := by
  intro Q
  simp only [cc2__expert_body_eq_skeleton]; unfold cc2__expert_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, HT0, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10
  sl_exec (disch := first | sl_exact hc0 | sl_exact hc1 | sl_exact hc2 | sl_exact hw)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; rotate_left; · iexact H8
    ipureintro; sl_unfold_words
    rw [read_full (F := F) _ _ _ hz2]
    simp only [View.readCov_unit_zero (S := S64x1024) _ hz2, View.readAt_eq_ld, h2.read_unread, h3.read_unread, h4.read_unread, h5.read_unread, h6.read_unread, h7.read_unread, h8.read_unread, h9.read_unread, h10.read_unread, h11.read_unread, h12.read_unread, View.ld_unit_zero (S := S64x1024) hz2,
      View.ld_unit_zero (S := S64x64) hz2, View.ld_unit_zero (S := S1x1024x1024) hz3, View.ld_unit_zero (S := S1024x1024) hz2,
      View.ld_unit_zero (S := S1024) hz1]
    try rfl
  isplitl [HS0]
  · iexists _; isplitr; rotate_left; · iexact HS0
    ipureintro; sl_unfold_words
    rw [read_full (F := F) _ _ _ hz2]
    simp only [View.readCov_unit_zero (S := S64x1024) _ hz2, View.readAt_eq_ld, h2.read_unread, h3.read_unread, h4.read_unread, h5.read_unread, h6.read_unread, h7.read_unread, h8.read_unread, h9.read_unread, h10.read_unread, h11.read_unread, h12.read_unread, View.ld_unit_zero (S := S64x1024) hz2,
      View.ld_unit_zero (S := S64x64) hz2, View.ld_unit_zero (S := S1x1024x1024) hz3, View.ld_unit_zero (S := S1024x1024) hz2,
      View.ld_unit_zero (S := S1024) hz1]
    try rfl
  isplitl [HS1]
  · iexists _; isplitr; · ipureintro; exact h12.read_unread _
    iexact HS1
  iexact HT0

include hw in
set_option maxHeartbeats 1000000 in
/-- The last point, its word the one before it. -/
theorem run_F (hc0 : ¬First i) (hc2 : Last i) (hc1 : ¬Fresh i (word c i xt) (wordBefore c i xt)) :
    Runs c i a2 h2 a3 h3 a4 h4 a5 h5 a6 h6 a7 h7 a8 h8 a9 h9 a10 h10 a11 h11 a12 h12 x0 x1 x2 x3 x4 x5 x6 x7 xt y8 s0 s1 (k2_pay4 s0 x6 x7)
      s0 s1 := by
  intro Q
  simp only [cc2__expert_body_eq_skeleton]; unfold cc2__expert_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, HT0, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10
  sl_exec (disch := first | sl_exact hc0 | sl_exact hc1 | sl_exact hc2 | sl_exact hw)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; rotate_left; · iexact H8
    ipureintro; sl_unfold_words
    rw [read_full (F := F) _ _ _ hz2]
    simp only [View.readCov_unit_zero (S := S64x1024) _ hz2, View.readAt_eq_ld, h2.read_unread, h3.read_unread, h4.read_unread, h5.read_unread, h6.read_unread, h7.read_unread, h8.read_unread, h9.read_unread, h10.read_unread, h11.read_unread, h12.read_unread, View.ld_unit_zero (S := S64x1024) hz2,
      View.ld_unit_zero (S := S64x64) hz2, View.ld_unit_zero (S := S1x1024x1024) hz3, View.ld_unit_zero (S := S1024x1024) hz2,
      View.ld_unit_zero (S := S1024) hz1]
    try rfl
  isplitl [HS0]
  · iexists _; isplitr; · ipureintro; exact h11.read_unread _
    iexact HS0
  isplitl [HS1]
  · iexists _; isplitr; · ipureintro; exact h12.read_unread _
    iexact HS1
  iexact HT0

end

end Cert.Layer.Step

end
-- ==== Proof.Layer.Experts.lean ====
/-
  The expert kernel's region: what the TensorCore runs after the SparseCore call, from whatever its operands' buffers hold.
  The accumulator's contents after each point are a recursion over the points, and the result's array ends at the last of
  them through the final layer.
-/
module

public import proofs.«01_k».proof.Proof.Layer.Step
public import Idealize.ShloMosaic.Lib.Pipeline.FrameBody

@[expose] public section

set_option maxRecDepth 16384

noncomputable section

namespace Cert.Layer.Experts

open Cert.LayerIdeal hiding ix2
open Cert.LayerIdeal.Gen Cert.Layer.Tile Cert.Layer.Gate Cert.Layer.Step

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- What the buffers hold at the region's entry. -/
abbrev Entry (F : FTy → Type) := Dev nD → Valuation τ sig (Elt F)

variable (A : Entry F)

/-- The table of experts at the region's entry. -/
abbrev list : IVec S64x1 32 := A 0 main_v4
def tbl : pre2.Contents (Elt F) := fun j => A 0 (pre2.ref j)

/-- Every word of the table is an expert. -/
def InRange : Prop := ∀ n : Fin 64, (list A (ix2 n 0)).toNat < 64

variable {A} in
theorem InRange.ok (h : InRange A) : ok2 (F := F) (tbl A) := by
  have hw : ∀ i : grid2.Coords, ∀ a, (cc2_transform_2 k2_off1_inb numel1_S1x1 (tbl A) i a + 1) * S1x1024x1024.size a ≤ S64x1024x1024.size a := by
    intro i a
    fin_cases a
    · have e : cc2_transform_2 k2_off1_inb numel1_S1x1 (tbl A) i 0 = (list A (ix2 (i 0) 0)).toNat := by
        refine congrArg BitVec.toNat ?_
        show list A _ = list A _
        congr 1; funext a; apply Fin.ext; fin_cases a
        · show k2_off1 i 0 + 0 * 1 = (i 0).val
          exact (Nat.add_zero _).trans (ExpertIdeal.Value.off1_val i)
        · rfl
      have := h (i 0)
      show (cc2_transform_2 k2_off1_inb numel1_S1x1 (tbl A) i 0 + 1) * 1 ≤ 64
      omega
    · show (0 + 1) * 1024 ≤ 1024; omega
    · show (0 + 1) * 1024 ≤ 1024; omega
  exact ⟨fun i => ⟨hw i, Or.inl rfl⟩, fun i => ⟨hw i, Or.inl rfl⟩⟩

variable (h : InRange A)

abbrev adm : (pcfg2 (F := F)).Adm := ⟨tbl A, h.ok⟩
abbrev cfgM : Pipeline.Cfg sig Λ₀ := cfg2 (adm A h)

theorem N_M : (cfgM A h).N = 64 := N_2

theorem coord (t : Fin grid2.N) : (grid2.coords t 0).val = t.val := by
  have e : (grid2.coords t 0).val = t.val / 1 % 64 := Pipeline.Grid.coords_val t 0 (by decide) rfl
  have := Nat.lt_of_lt_of_eq t.isLt N_2
  omega

theorem word_eq (c : Dev nD) (i : grid2.Coords) (xt : TbBuf (F := F) c tbM) : word c i xt = (xt : IVec S64x1 32) (ix2 (i 0) 0) := by
  show xt _ = xt _
  congr 1; funext a; apply Fin.ext; fin_cases a
  · show k2_off1 i 0 + 0 * 1 = (i 0).val
    exact (Nat.add_zero _).trans (ExpertIdeal.Value.off1_val i)
  · rfl

section
attribute [local irreducible] k2_chk1
include h in
/-- The body's side condition, at every point. -/
theorem chk (c : Dev nD) (t : Fin grid2.N) : k2_chk1 (grid2.coords t) (word (F := F) c (grid2.coords t) (list A)) (wordBefore (F := F) c (grid2.coords t) (list A)) := by
  have e : (word (F := F) c (grid2.coords t) (list A)).toNat < 64 := by rw [word_eq]; exact h _
  generalize word (F := F) c (grid2.coords t) (list A) = v at e ⊢
  unfold k2_chk1
  intro _ a
  fin_cases a
  · show (v.setWidth _).toNat + 1 ≤ 64
    simp [BitVec.toNat_setWidth]
    omega
  · show 0 + 1024 ≤ 1024; omega
end

theorem first_iff : ∀ t : Fin grid2.N, First (grid2.coords t) ↔ t.val = 0 := by
  intro t
  have ht : t.val < 64 := Nat.lt_of_lt_of_eq t.isLt N_2
  simp only [First, coord]
  generalize t.val = n at ht
  interval_cases n <;> decide

theorem last_iff : ∀ t : Fin grid2.N, Last (grid2.coords t) ↔ t.val = 63 :=
  (by decide +kernel : ∀ t : Fin grid2.N, Last (grid2.coords t) ↔ t.val = 63)

/-! ## The windows' blocks -/

/-- Window `w`'s block at point `t`. -/
def iblk (c : Dev nD) (w : Fin (cfgM A h).W) (t : Fin (cfgM A h).N) : (((cfgM A h).win w).xblock ((cfgM A h).grid.coords t)).Idx → Elt F ((cfgM A h).win w).elt :=
  (((cfgM A h).win w).blk t).view.read (Elt F) (A c (Pipeline.arrRef spec2 w))

theorem iblk_0 (c : Dev nD) (t : Fin (cfgM A h).N) : iblk A h c 0 t = A c main_v0 := by
  refine funext fun (j : S64x1024.Idx) => ?_
  show (A c main_v0 : Vec F S64x1024 .f32) _ = (A c main_v0 : Vec F S64x1024 .f32) _
  congr 1; funext a; apply Fin.ext; fin_cases a
  · show 0 * 64 + 1 * (j 0).val = (j 0).val; omega
  · show 0 * 1024 + 1 * (j 1).val = (j 1).val; omega
theorem iblk_1 (c : Dev nD) (t : Fin (cfgM A h).N) : iblk A h c 1 t = A c main_v1_1 := by
  refine funext fun (j : S64x64.Idx) => ?_
  show (A c main_v1_1 : Vec F S64x64 .f32) _ = (A c main_v1_1 : Vec F S64x64 .f32) _
  congr 1; funext a; apply Fin.ext; fin_cases a
  · show 0 * 64 + 1 * (j 0).val = (j 0).val; omega
  · show 0 * 64 + 1 * (j 1).val = (j 1).val; omega
theorem iblk_3 (c : Dev nD) (t : Fin (cfgM A h).N) : iblk A h c 3 t = A c main_arg4 := by
  refine funext fun (j : S64x1024.Idx) => ?_
  show (A c main_arg4 : Vec F S64x1024 .f32) _ = (A c main_arg4 : Vec F S64x1024 .f32) _
  congr 1; funext a; apply Fin.ext; fin_cases a
  · show 0 * 64 + 1 * (j 0).val = (j 0).val; omega
  · show 0 * 1024 + 1 * (j 1).val = (j 1).val; omega
theorem iblk_5 (c : Dev nD) (t : Fin (cfgM A h).N) : iblk A h c 5 t = A c main_arg6 := by
  refine funext fun (j : S64x1024.Idx) => ?_
  show (A c main_arg6 : Vec F S64x1024 .f32) _ = (A c main_arg6 : Vec F S64x1024 .f32) _
  congr 1; funext a; apply Fin.ext; fin_cases a
  · show 0 * 64 + 1 * (j 0).val = (j 0).val; omega
  · show 0 * 1024 + 1 * (j 1).val = (j 1).val; omega
theorem iblk_6 (c : Dev nD) (t : Fin (cfgM A h).N) : iblk A h c 6 t = A c main_arg7 := by
  refine funext fun (j : S1024x1024.Idx) => ?_
  show (A c main_arg7 : Vec F S1024x1024 .f32) _ = (A c main_arg7 : Vec F S1024x1024 .f32) _
  congr 1; funext a; apply Fin.ext; fin_cases a
  · show 0 * 1024 + 1 * (j 0).val = (j 0).val; omega
  · show 0 * 1024 + 1 * (j 1).val = (j 1).val; omega
theorem iblk_7 (c : Dev nD) (t : Fin (cfgM A h).N) : iblk A h c 7 t = A c main_arg8 := by
  refine funext fun (j : S1024.Idx) => ?_
  show (A c main_arg8 : Vec F S1024 .f32) _ = (A c main_arg8 : Vec F S1024 .f32) _
  congr 1; funext a; apply Fin.ext; fin_cases a
  · show 0 * 1024 + 1 * (j 0).val = (j 0).val; omega

/-- The accumulator after the points below `n`. -/
def accAt (c : Dev nD) : ℕ → Vec F S64x1024 .f32
  | 0 => k2_pay1
  | n + 1 =>
    if hn : n < grid2.N then
      if hf : Fresh (grid2.coords ⟨n, hn⟩) (word (F := F) c (grid2.coords ⟨n, hn⟩) (list A)) (wordBefore (F := F) c (grid2.coords ⟨n, hn⟩) (list A)) then
        k2_pay3 (word (F := F) c (grid2.coords ⟨n, hn⟩) (list A)) (iblk A h c 2 ⟨n, hn⟩) (k2_pay2 (A c main_v0))
          (row (A c main_arg4) (word (F := F) c (grid2.coords ⟨n, hn⟩) (list A)) (chk A h c ⟨n, hn⟩ hf)) (iblk A h c 4 ⟨n, hn⟩)
          (row (A c main_arg6) (word (F := F) c (grid2.coords ⟨n, hn⟩) (list A)) (chk A h c ⟨n, hn⟩ hf)) (A c main_v1_1) (accAt c n)
      else accAt c n
    else accAt c n

theorem accAt_fresh (c : Dev nD) (t : Fin grid2.N)
    (hf : Fresh (grid2.coords t) (word (F := F) c (grid2.coords t) (list A)) (wordBefore (F := F) c (grid2.coords t) (list A))) :
    accAt A h c (t.val + 1) = k2_pay3 (word (F := F) c (grid2.coords t) (list A)) (iblk A h c 2 t) (k2_pay2 (A c main_v0))
          (row (A c main_arg4) (word (F := F) c (grid2.coords t) (list A)) (chk A h c t hf)) (iblk A h c 4 t)
          (row (A c main_arg6) (word (F := F) c (grid2.coords t) (list A)) (chk A h c t hf)) (A c main_v1_1) (accAt A h c t.val) := by
  conv_lhs => unfold accAt
  rw [dif_pos t.isLt, dif_pos hf]

theorem accAt_same (c : Dev nD) (t : Fin grid2.N)
    (hf : ¬Fresh (grid2.coords t) (word (F := F) c (grid2.coords t) (list A)) (wordBefore (F := F) c (grid2.coords t) (list A))) :
    accAt A h c (t.val + 1) = accAt A h c t.val := by
  conv_lhs => unfold accAt
  rw [dif_pos t.isLt, dif_neg hf]

/-- The result's block: the last accumulator through the final layer. -/
def final (c : Dev nD) : Vec F S64x1024 .f32 := k2_pay4 (accAt A h c 64) (A c main_arg7) (A c main_arg8)

/-! ## The region's proof data -/

abbrev sc0 : Memref sig .tc .vmem S64x1024 .f32 := Memref.whole cc2_scratch0
abbrev sc1 : Memref sig .tc .vmem S64x1024 .bf16 := Memref.whole cc2_scratch1

/-- The gate kernel's staging buffers, at some contents each. -/
abbrev gateStg (c : Dev nD) : sProp 𝕄 :=
  iprop((∃ f : Buf (Elt F) ((T c : Thread nD τ).loc cc0_stg0_0), ((T c : Thread nD τ).loc cc0_stg0_0) ↦{fullShare} f) ∗ (∃ f : Buf (Elt F) ((T c : Thread nD τ).loc cc0_stg1_0), ((T c : Thread nD τ).loc cc0_stg1_0) ↦{fullShare} f) ∗ (∃ f : Buf (Elt F) ((T c : Thread nD τ).loc cc0_stg2_0), ((T c : Thread nD τ).loc cc0_stg2_0) ↦{fullShare} f) ∗ (∃ f : Buf (Elt F) ((T c : Thread nD τ).loc cc0_stg3_0), ((T c : Thread nD τ).loc cc0_stg3_0) ↦{fullShare} f) ∗ (∃ f : Buf (Elt F) ((T c : Thread nD τ).loc cc0_stg4_0), ((T c : Thread nD τ).loc cc0_stg4_0) ↦{fullShare} f) ∗ (∃ f : Buf (Elt F) ((T c : Thread nD τ).loc cc0_stg5_0), ((T c : Thread nD τ).loc cc0_stg5_0) ↦{fullShare} f))

/-- Between points: the two scratch buffers, at anything before the first point; the table; the gate kernel's buffers. -/
def Phi (c : Dev nD) (n : ℕ) : sProp 𝕄 :=
  iprop(∃ d0 d1, ⌜n ≠ 0 → d0 = accAt A h c n ∧ d1 = k2_pay2 (A c main_v0)⌝ ∗ owns (T c) sc0 fullShare d0 ∗ owns (T c) sc1 fullShare d1
    ∗ tbPt (F := F) c tbM (list A) ∗ gateStg (F := F) c)

def dat1 (c : Dev nD) : Dat τ (Elt F) (HIx 1) ℕ UU ℕ (cfgM A h) c where
  A w := A c (Pipeline.arrRef spec2 w)
  after w t := match w with
    | ⟨0, _⟩ => iblk A h c 0 t
    | ⟨1, _⟩ => iblk A h c 1 t
    | ⟨2, _⟩ => iblk A h c 2 t
    | ⟨3, _⟩ => iblk A h c 3 t
    | ⟨4, _⟩ => iblk A h c 4 t
    | ⟨5, _⟩ => iblk A h c 5 t
    | ⟨6, _⟩ => iblk A h c 6 t
    | ⟨7, _⟩ => iblk A h c 7 t
    | ⟨8, _⟩ => final A h c
  Φ t := Phi A h c t.val
  q _ := fullShare
  owed _ := O₀ (F := F) 1 c
  recorded _ := rec₀ (F := F) 1 c
abbrev ms_0 (t : Fin (cfgM A h).N) : Memref sig .tc .vmem S64x1024 .f32 := spec2_0.stage ((cfgM A h).slots t 0)
abbrev hs_0 (t : Fin (cfgM A h).N) : (ms_0 A h t).IsWhole := hstage2_0 (((cfgM A h).slots t 0).cast nbuf2_0)
abbrev ms_1 (t : Fin (cfgM A h).N) : Memref sig .tc .vmem S64x64 .f32 := spec2_1.stage ((cfgM A h).slots t 1)
abbrev hs_1 (t : Fin (cfgM A h).N) : (ms_1 A h t).IsWhole := hstage2_1 (((cfgM A h).slots t 1).cast nbuf2_1)
abbrev ms_2 (t : Fin (cfgM A h).N) : Memref sig .tc .vmem S1x1024x1024 .f32 := spec2_2.stage ((cfgM A h).slots t 2)
abbrev hs_2 (t : Fin (cfgM A h).N) : (ms_2 A h t).IsWhole := hstage2_2 (((cfgM A h).slots t 2).cast nbuf2_2)
abbrev ms_3 (t : Fin (cfgM A h).N) : Memref sig .tc .vmem S64x1024 .f32 := spec2_3.stage ((cfgM A h).slots t 3)
abbrev hs_3 (t : Fin (cfgM A h).N) : (ms_3 A h t).IsWhole := hstage2_3 (((cfgM A h).slots t 3).cast nbuf2_3)
abbrev ms_4 (t : Fin (cfgM A h).N) : Memref sig .tc .vmem S1x1024x1024 .f32 := spec2_4.stage ((cfgM A h).slots t 4)
abbrev hs_4 (t : Fin (cfgM A h).N) : (ms_4 A h t).IsWhole := hstage2_4 (((cfgM A h).slots t 4).cast nbuf2_4)
abbrev ms_5 (t : Fin (cfgM A h).N) : Memref sig .tc .vmem S64x1024 .f32 := spec2_5.stage ((cfgM A h).slots t 5)
abbrev hs_5 (t : Fin (cfgM A h).N) : (ms_5 A h t).IsWhole := hstage2_5 (((cfgM A h).slots t 5).cast nbuf2_5)
abbrev ms_6 (t : Fin (cfgM A h).N) : Memref sig .tc .vmem S1024x1024 .f32 := spec2_6.stage ((cfgM A h).slots t 6)
abbrev hs_6 (t : Fin (cfgM A h).N) : (ms_6 A h t).IsWhole := hstage2_6 (((cfgM A h).slots t 6).cast nbuf2_6)
abbrev ms_7 (t : Fin (cfgM A h).N) : Memref sig .tc .vmem S1024 .f32 := spec2_7.stage ((cfgM A h).slots t 7)
abbrev hs_7 (t : Fin (cfgM A h).N) : (ms_7 A h t).IsWhole := hstage2_7 (((cfgM A h).slots t 7).cast nbuf2_7)
abbrev ms_8 (t : Fin (cfgM A h).N) : Memref sig .tc .vmem S64x1024 .f32 := spec2_8.stage ((cfgM A h).slots t 8)
abbrev hs_8 (t : Fin (cfgM A h).N) : (ms_8 A h t).IsWhole := hstage2_8 (((cfgM A h).slots t 8).cast nbuf2_8)

theorem before_0 (c : Dev nD) (t : Fin (cfgM A h).N) (d) : (dat1 A h c).before 0 t d = A c main_v0 :=
  (((dat1 A h c).before_in_eq_fetched 0 rfl (fun _ => rfl) (fun _ _ _ => rfl) (fun t => by unfold Dat.blockOf; rfl) t d).trans (by unfold Dat.fetched Dat.blockOf; rfl)).trans (iblk_0 A h c t)
theorem leaves_0 (c : Dev nD) (t : Fin (cfgM A h).N) :
    (dat1 A h c).leavesExact 0 t = owns (T c) (ms_0 A h t) fullShare (A c main_v0) := by
  rw [← iblk_0 A h c t]; unfold Dat.leavesExact; rw [show (cfgM A h).idle 0 (grid2.coords t) = false from rfl]; rfl

theorem before_1 (c : Dev nD) (t : Fin (cfgM A h).N) (d) : (dat1 A h c).before 1 t d = A c main_v1_1 :=
  (((dat1 A h c).before_in_eq_fetched 1 rfl (fun _ => rfl) (fun _ _ _ => rfl) (fun t => by unfold Dat.blockOf; rfl) t d).trans (by unfold Dat.fetched Dat.blockOf; rfl)).trans (iblk_1 A h c t)
theorem leaves_1 (c : Dev nD) (t : Fin (cfgM A h).N) :
    (dat1 A h c).leavesExact 1 t = owns (T c) (ms_1 A h t) fullShare (A c main_v1_1) := by
  rw [← iblk_1 A h c t]; unfold Dat.leavesExact; rw [show (cfgM A h).idle 1 (grid2.coords t) = false from rfl]; rfl

theorem before_2 (c : Dev nD) (t : Fin (cfgM A h).N) (d) : (dat1 A h c).before 2 t d = iblk A h c 2 t :=
  (((dat1 A h c).before_in_eq_fetched 2 rfl (fun _ => rfl) (fun _ _ _ => rfl) (fun t => by unfold Dat.blockOf; rfl) t d).trans (by unfold Dat.fetched Dat.blockOf; rfl))
theorem leaves_2 (c : Dev nD) (t : Fin (cfgM A h).N) :
    (dat1 A h c).leavesExact 2 t = owns (T c) (ms_2 A h t) fullShare (iblk A h c 2 t) := by
  unfold Dat.leavesExact; rw [show (cfgM A h).idle 2 (grid2.coords t) = false from rfl]; rfl

theorem before_3 (c : Dev nD) (t : Fin (cfgM A h).N) (d) : (dat1 A h c).before 3 t d = A c main_arg4 :=
  (((dat1 A h c).before_in_eq_fetched 3 rfl (fun _ => rfl) (fun _ _ _ => rfl) (fun t => by unfold Dat.blockOf; rfl) t d).trans (by unfold Dat.fetched Dat.blockOf; rfl)).trans (iblk_3 A h c t)
theorem leaves_3 (c : Dev nD) (t : Fin (cfgM A h).N) :
    (dat1 A h c).leavesExact 3 t = owns (T c) (ms_3 A h t) fullShare (A c main_arg4) := by
  rw [← iblk_3 A h c t]; unfold Dat.leavesExact; rw [show (cfgM A h).idle 3 (grid2.coords t) = false from rfl]; rfl

theorem before_4 (c : Dev nD) (t : Fin (cfgM A h).N) (d) : (dat1 A h c).before 4 t d = iblk A h c 4 t :=
  (((dat1 A h c).before_in_eq_fetched 4 rfl (fun _ => rfl) (fun _ _ _ => rfl) (fun t => by unfold Dat.blockOf; rfl) t d).trans (by unfold Dat.fetched Dat.blockOf; rfl))
theorem leaves_4 (c : Dev nD) (t : Fin (cfgM A h).N) :
    (dat1 A h c).leavesExact 4 t = owns (T c) (ms_4 A h t) fullShare (iblk A h c 4 t) := by
  unfold Dat.leavesExact; rw [show (cfgM A h).idle 4 (grid2.coords t) = false from rfl]; rfl

theorem before_5 (c : Dev nD) (t : Fin (cfgM A h).N) (d) : (dat1 A h c).before 5 t d = A c main_arg6 :=
  (((dat1 A h c).before_in_eq_fetched 5 rfl (fun _ => rfl) (fun _ _ _ => rfl) (fun t => by unfold Dat.blockOf; rfl) t d).trans (by unfold Dat.fetched Dat.blockOf; rfl)).trans (iblk_5 A h c t)
theorem leaves_5 (c : Dev nD) (t : Fin (cfgM A h).N) :
    (dat1 A h c).leavesExact 5 t = owns (T c) (ms_5 A h t) fullShare (A c main_arg6) := by
  rw [← iblk_5 A h c t]; unfold Dat.leavesExact; rw [show (cfgM A h).idle 5 (grid2.coords t) = false from rfl]; rfl

theorem before_6 (c : Dev nD) (t : Fin (cfgM A h).N) (d) : (dat1 A h c).before 6 t d = A c main_arg7 :=
  (((dat1 A h c).before_in_eq_fetched 6 rfl (fun _ => rfl) (fun _ _ _ => rfl) (fun t => by unfold Dat.blockOf; rfl) t d).trans (by unfold Dat.fetched Dat.blockOf; rfl)).trans (iblk_6 A h c t)
theorem leaves_6 (c : Dev nD) (t : Fin (cfgM A h).N) :
    (dat1 A h c).leavesExact 6 t = owns (T c) (ms_6 A h t) fullShare (A c main_arg7) := by
  rw [← iblk_6 A h c t]; unfold Dat.leavesExact; rw [show (cfgM A h).idle 6 (grid2.coords t) = false from rfl]; rfl

theorem before_7 (c : Dev nD) (t : Fin (cfgM A h).N) (d) : (dat1 A h c).before 7 t d = A c main_arg8 :=
  (((dat1 A h c).before_in_eq_fetched 7 rfl (fun _ => rfl) (fun _ _ _ => rfl) (fun t => by unfold Dat.blockOf; rfl) t d).trans (by unfold Dat.fetched Dat.blockOf; rfl)).trans (iblk_7 A h c t)
theorem leaves_7 (c : Dev nD) (t : Fin (cfgM A h).N) :
    (dat1 A h c).leavesExact 7 t = owns (T c) (ms_7 A h t) fullShare (A c main_arg8) := by
  rw [← iblk_7 A h c t]; unfold Dat.leavesExact; rw [show (cfgM A h).idle 7 (grid2.coords t) = false from rfl]; rfl

theorem idle_8 (t : Fin grid2.N) (ht : t.val ≠ 63) : (cfgM A h).idle 8 (grid2.coords t) = true :=
  (by decide +kernel : ∀ t : Fin grid2.N, t.val ≠ 63 → idle2 8 (grid2.coords t) = true) t ht
theorem noFlush_8 (t : Fin grid2.N) (ht : t.val ≠ 63) : ((cfgM A h).win 8).flush t = false :=
  (by decide +kernel : ∀ t : Fin grid2.N, t.val ≠ 63 → Pipeline.Window.flushOf grid2 true cc2_transform_8 t = false) t ht
theorem live_8 (t : Fin grid2.N) (ht : t.val = 63) : (cfgM A h).idle 8 (grid2.coords t) = false :=
  (by decide +kernel : ∀ t : Fin grid2.N, t.val = 63 → idle2 8 (grid2.coords t) = false) t ht

/-- The body at a point, called with the point's staging buffers. -/
def bodyAt (t : Fin (cfgM A h).N) : Prog (TpuEff nD τ sig (Elt F) Λ₀ .tc) PUnit :=
  cc2__expert_body (grid2.coords t) tbM (Memref.isWhole_whole _) (ms_0 A h t) (hs_0 A h t) (ms_1 A h t) (hs_1 A h t) (ms_2 A h t) (hs_2 A h t) (ms_3 A h t) (hs_3 A h t) (ms_4 A h t) (hs_4 A h t) (ms_5 A h t) (hs_5 A h t) (ms_6 A h t) (hs_6 A h t) (ms_7 A h t) (hs_7 A h t) (ms_8 A h t) (hs_8 A h t) sc0 (Memref.isWhole_whole _) sc1 (Memref.isWhole_whole _)

theorem defs₀_row (t : Fin (cfgM A h).N) :
    defs₀ (F := F) .tc (cfgM A h).body ((cfgM A h).bodyArgs t ((cfgM A h).slots t)) = bodyAt A h t := rfl

/-- The body's run at a point, as what it leaves. -/
theorem runs_at (c : Dev nD) (t : Fin (cfgM A h).N) (y8 s0 : Vec F S64x1024 .f32) (s1 : Vec F S64x1024 .bf16)
    (hs : t.val ≠ 0 → s0 = accAt A h c t.val ∧ s1 = k2_pay2 (A c main_v0)) :
    ∃ y', Runs c (grid2.coords t) (ms_0 A h t) (hs_0 A h t) (ms_1 A h t) (hs_1 A h t) (ms_2 A h t) (hs_2 A h t) (ms_3 A h t) (hs_3 A h t) (ms_4 A h t) (hs_4 A h t) (ms_5 A h t) (hs_5 A h t) (ms_6 A h t) (hs_6 A h t) (ms_7 A h t) (hs_7 A h t) (ms_8 A h t) (hstage2_8 (((cfgM A h).slots t 8).cast nbuf2_8)) sc0 (Memref.isWhole_whole _) sc1 (Memref.isWhole_whole _) (A c main_v0) (A c main_v1_1) (iblk A h c 2 t) (A c main_arg4) (iblk A h c 4 t) (A c main_arg6) (A c main_arg7) (A c main_arg8) (list A) y8 s0 s1
      y' (accAt A h c (t.val + 1)) (k2_pay2 (A c main_v0)) ∧ (t.val = 63 → y' = final A h c) ∧ (t.val ≠ 63 → y' = y8) := by
  have hw := chk A h c t
  have hN : t.val < 64 := Nat.lt_of_lt_of_eq t.isLt N_2
  by_cases hf : Fresh (grid2.coords t) (word (F := F) c (grid2.coords t) (list A)) (wordBefore (F := F) c (grid2.coords t) (list A))
  · rw [accAt_fresh A h c t hf]
    by_cases h0 : t.val = 0
    · have hl : ¬Last (grid2.coords t) := fun e => by have := (last_iff t).mp e; omega
      refine ⟨y8, ?_, fun e => by omega, fun _ => rfl⟩
      rw [h0]
      exact run_A c (grid2.coords t) (ms_0 A h t) (hs_0 A h t) (ms_1 A h t) (hs_1 A h t) (ms_2 A h t) (hs_2 A h t) (ms_3 A h t) (hs_3 A h t) (ms_4 A h t) (hs_4 A h t) (ms_5 A h t) (hs_5 A h t) (ms_6 A h t) (hs_6 A h t) (ms_7 A h t) (hs_7 A h t) (ms_8 A h t) (hstage2_8 (((cfgM A h).slots t 8).cast nbuf2_8)) sc0 (Memref.isWhole_whole _) sc1 (Memref.isWhole_whole _) (A c main_v0) (A c main_v1_1) (iblk A h c 2 t) (A c main_arg4) (iblk A h c 4 t) (A c main_arg6) (A c main_arg7) (A c main_arg8) (list A) y8 s0 s1 hw ((first_iff t).mpr h0) hl hf
    · have hn0 : ¬First (grid2.coords t) := fun e => h0 ((first_iff t).mp e)
      obtain ⟨rfl, rfl⟩ := hs h0
      by_cases h63 : t.val = 63
      · refine ⟨_, run_E c (grid2.coords t) (ms_0 A h t) (hs_0 A h t) (ms_1 A h t) (hs_1 A h t) (ms_2 A h t) (hs_2 A h t) (ms_3 A h t) (hs_3 A h t) (ms_4 A h t) (hs_4 A h t) (ms_5 A h t) (hs_5 A h t) (ms_6 A h t) (hs_6 A h t) (ms_7 A h t) (hs_7 A h t) (ms_8 A h t) (hstage2_8 (((cfgM A h).slots t 8).cast nbuf2_8)) sc0 (Memref.isWhole_whole _) sc1 (Memref.isWhole_whole _) (A c main_v0) (A c main_v1_1) (iblk A h c 2 t) (A c main_arg4) (iblk A h c 4 t) (A c main_arg6) (A c main_arg7) (A c main_arg8) (list A) y8 _ _ hw hn0 ((last_iff t).mpr h63) hf, fun _ => ?_, fun e => absurd h63 e⟩
        unfold final
        rw [show (64 : ℕ) = t.val + 1 by omega, accAt_fresh A h c t hf]
      · have hl : ¬Last (grid2.coords t) := fun e => h63 ((last_iff t).mp e)
        exact ⟨y8, run_C c (grid2.coords t) (ms_0 A h t) (hs_0 A h t) (ms_1 A h t) (hs_1 A h t) (ms_2 A h t) (hs_2 A h t) (ms_3 A h t) (hs_3 A h t) (ms_4 A h t) (hs_4 A h t) (ms_5 A h t) (hs_5 A h t) (ms_6 A h t) (hs_6 A h t) (ms_7 A h t) (hs_7 A h t) (ms_8 A h t) (hstage2_8 (((cfgM A h).slots t 8).cast nbuf2_8)) sc0 (Memref.isWhole_whole _) sc1 (Memref.isWhole_whole _) (A c main_v0) (A c main_v1_1) (iblk A h c 2 t) (A c main_arg4) (iblk A h c 4 t) (A c main_arg6) (A c main_arg7) (A c main_arg8) (list A) y8 _ _ hw hn0 hl hf, fun e => absurd e h63, fun _ => rfl⟩
  · rw [accAt_same A h c t hf]
    have h0 : t.val ≠ 0 := fun e => hf ((ExpertIdeal.Value.cond1_iff (grid2.coords t) _ _).mpr (Or.inl ((coord t).trans e)))
    have hn0 : ¬First (grid2.coords t) := fun e => h0 ((first_iff t).mp e)
    obtain ⟨rfl, rfl⟩ := hs h0
    by_cases h63 : t.val = 63
    · refine ⟨_, run_F c (grid2.coords t) (ms_0 A h t) (hs_0 A h t) (ms_1 A h t) (hs_1 A h t) (ms_2 A h t) (hs_2 A h t) (ms_3 A h t) (hs_3 A h t) (ms_4 A h t) (hs_4 A h t) (ms_5 A h t) (hs_5 A h t) (ms_6 A h t) (hs_6 A h t) (ms_7 A h t) (hs_7 A h t) (ms_8 A h t) (hstage2_8 (((cfgM A h).slots t 8).cast nbuf2_8)) sc0 (Memref.isWhole_whole _) sc1 (Memref.isWhole_whole _) (A c main_v0) (A c main_v1_1) (iblk A h c 2 t) (A c main_arg4) (iblk A h c 4 t) (A c main_arg6) (A c main_arg7) (A c main_arg8) (list A) y8 _ _ hw hn0 ((last_iff t).mpr h63) hf, fun _ => ?_, fun e => absurd h63 e⟩
      unfold final
      rw [show (64 : ℕ) = t.val + 1 by omega, accAt_same A h c t hf]
    · have hl : ¬Last (grid2.coords t) := fun e => h63 ((last_iff t).mp e)
      exact ⟨y8, run_D c (grid2.coords t) (ms_0 A h t) (hs_0 A h t) (ms_1 A h t) (hs_1 A h t) (ms_2 A h t) (hs_2 A h t) (ms_3 A h t) (hs_3 A h t) (ms_4 A h t) (hs_4 A h t) (ms_5 A h t) (hs_5 A h t) (ms_6 A h t) (hs_6 A h t) (ms_7 A h t) (hs_7 A h t) (ms_8 A h t) (hstage2_8 (((cfgM A h).slots t 8).cast nbuf2_8)) sc0 (Memref.isWhole_whole _) sc1 (Memref.isWhole_whole _) (A c main_v0) (A c main_v1_1) (iblk A h c 2 t) (A c main_arg4) (iblk A h c 4 t) (A c main_arg6) (A c main_arg7) (A c main_arg8) (list A) y8 _ _ hw hn0 hl hf, fun e => absurd e h63, fun _ => rfl⟩

/-- What the body is called with at a point, and what it returns. -/
def bodyPre (c : Dev nD) (t : Fin (cfgM A h).N) : sProp 𝕄 :=
  iprop((dat1 A h c).Φ t.castSucc ∗ (dat1 A h c).owesAt none t.castSucc
    ∗ (∃ d, owns (T c) (ms_0 A h t) fullShare ((dat1 A h c).before 0 t d))
    ∗ (∃ d, owns (T c) (ms_1 A h t) fullShare ((dat1 A h c).before 1 t d))
    ∗ (∃ d, owns (T c) (ms_2 A h t) fullShare ((dat1 A h c).before 2 t d))
    ∗ (∃ d, owns (T c) (ms_3 A h t) fullShare ((dat1 A h c).before 3 t d))
    ∗ (∃ d, owns (T c) (ms_4 A h t) fullShare ((dat1 A h c).before 4 t d))
    ∗ (∃ d, owns (T c) (ms_5 A h t) fullShare ((dat1 A h c).before 5 t d))
    ∗ (∃ d, owns (T c) (ms_6 A h t) fullShare ((dat1 A h c).before 6 t d))
    ∗ (∃ d, owns (T c) (ms_7 A h t) fullShare ((dat1 A h c).before 7 t d))
    ∗ (∃ d, owns (T c) (ms_8 A h t) fullShare ((dat1 A h c).before 8 t d)))
def bodyPost (c : Dev nD) (t : Fin (cfgM A h).N) : sProp 𝕄 :=
  iprop((dat1 A h c).Φ t.succ ∗ (dat1 A h c).owesAt none t.succ
    ∗ (dat1 A h c).leavesExact 0 t
    ∗ (dat1 A h c).leavesExact 1 t
    ∗ (dat1 A h c).leavesExact 2 t
    ∗ (dat1 A h c).leavesExact 3 t
    ∗ (dat1 A h c).leavesExact 4 t
    ∗ (dat1 A h c).leavesExact 5 t
    ∗ (dat1 A h c).leavesExact 6 t
    ∗ (dat1 A h c).leavesExact 7 t
    ∗ (dat1 A h c).leavesExact 8 t)

set_option maxHeartbeats 1000000 in
theorem sound_body (c : Dev nD) (t : Fin (cfgM A h).N) :
    bodyPre A h c t ⊢ wp frame (wpE (defs₀ (F := F)) 𝒱₀ (T c) none) Set.univ (bodyAt A h t) (fun _ => bodyPost A h c t) := by
  unfold bodyPre bodyPost bodyAt
  simp only [before_0, before_1, before_2, before_3, before_4, before_5, before_6, before_7]
  rw [show (dat1 A h c).Φ t.castSucc = Phi A h c t.val from rfl, show (dat1 A h c).Φ t.succ = Phi A h c (t.val + 1) from rfl,
    show (dat1 A h c).owesAt none t.succ = (dat1 A h c).owesAt none t.castSucc from rfl]
  rw [leaves_0, leaves_1, leaves_2, leaves_3, leaves_4, leaves_5, leaves_6, leaves_7]
  unfold Phi
  iintro ⟨⟨%d0, %d1, %hd, HS0, HS1, HT, HG⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  obtain ⟨y', hr, hy, hy'⟩ := runs_at A h c t _ d0 d1 hd
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HT]; · iexact HT
  iintro ⟨H0, H1, H2, H3, H4, H5, H6, H7, H8, HS0, HS1, HT⟩
  isplitl [HS0 HS1 HT HG]
  · iexists _; iexists _
    isplitr; swap
    · isplitl [HS0]; · iexact HS0
      isplitl [HS1]; · iexact HS1
      isplitl [HT]; · iexact HT
      iexact HG
    ipureintro
    exact fun _ => ⟨rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h63 : t.val = 63
  · rw [show (dat1 A h c).leavesExact 8 t = owns (T c) (ms_8 A h t) fullShare (final A h c) from by
      unfold Dat.leavesExact; rw [live_8 A h t h63]; rfl]
    rw [hy h63]; iexact H8
  · rw [Dat.leavesExact_idle (dat1 A h c) 8 t (idle_8 A h t h63) (noFlush_8 A h t h63)]
    rw [hy' h63]; iexists e8; iexact H8

theorem body_obligation (c : Dev nD) : BodyObligation (dat1 (F := F) A h c) (defs₀ (F := F)) 𝒱₀ (none : HIx 1) Set.univ := fun t => by
  rw [bigSep_W2, bigSep_W2, defs₀_row A h]
  exact triple_restated (sound_body A h c t) rfl .rfl fun _ => .rfl

end Cert.Layer.Experts

end
-- ==== Proof.Layer.Regions.lean ====
/-
  The layer's two TensorCore regions as records: what each is entered with and what it leaves. The gate kernel's leaves the
  logits, the gates and the list; the expert kernel's is entered with the list as its table, and leaves the layer's output.
-/
module

public import proofs.«01_k».proof.Proof.Layer.Experts
public import Idealize.ShloMosaic.Lib.Pipeline.ValueKit

@[expose] public section

set_option maxRecDepth 16384

noncomputable section

namespace Cert.Layer.Regions

open Cert.LayerIdeal hiding ix2
open Cert.LayerIdeal.Gen Cert.Layer.Tile Cert.Layer.Gate Cert.Layer.Step Cert.Layer.Experts

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

abbrev pl (c : Dev nD) (b : Ref sig .tc) (f : b.ty.Contents (Elt F)) : sProp 𝕄 := ((T c : Thread nD τ).loc b) ↦{fullShare} f

/-- What the gate kernel's three results hold after its region: the logits, the gates, the list. -/
abbrev finalA (c : Dev nD) (w : Fin cfg0.W) : Buf (Elt F) ((cfg0.win w).arr.view.loc (T c : Thread nD τ)) := (dat0 m c).arrAt w cfg0.N
abbrev hv (c : Dev nD) : Buf (Elt F) (hLoc c) := finalA m c 3
abbrev gv (c : Dev nD) : Vec F S64x64 .f32 := finalA m c 4
abbrev iv (c : Dev nD) : IVec S64x1 32 := finalA m c 5

/-- The list as the expert kernel's table: reshaped to a row of words and back. -/
def tab (c : Dev nD) : IVec S64x1 32 := shapeCast S64x1 (shapeCast S64 (iv m c) shapeCasts_S64x1_S64) shapeCasts_S64_S64x1

/-- What the buffers hold at the expert region's entry, as far as it reads them. -/
def A₂ : Entry F := fun c => Function.update (Function.update (V₁ m c) (Proc.devRef .tc main_v1_1) (gv m c)) (Proc.devRef .tc main_v4) (tab m c)

theorem A₂_v4 (c : Dev nD) : A₂ m c main_v4 = tab m c := Function.update_self _ _ _
theorem A₂_v1_1 (c : Dev nD) : A₂ m c main_v1_1 = gv m c :=
  (Function.update_of_ne (by decide) _ _).trans (Function.update_self _ _ _)
theorem A₂_keep (c : Dev nD) (b : DevRef τ sig) (h1 : b ≠ Proc.devRef .tc main_v1_1) (h2 : b ≠ Proc.devRef .tc main_v4) : A₂ m c b = V₁ m c b :=
  (Function.update_of_ne h2 _ _).trans (Function.update_of_ne h1 _ _)
theorem A₂_arg (c : Dev nD) (b : DevRef τ sig) (h1 : b ≠ Proc.devRef .tc main_v1_1) (h2 : b ≠ Proc.devRef .tc main_v4)
    (h3 : b ∉ ({Proc.devRef .tc main_v0} : Finset (DevRef τ sig))) : A₂ m c b = m (c, b) :=
  (A₂_keep m c b h1 h2).trans (V₁_keep m c b h3)

variable (h : InRange (A₂ m))

/-- The pipelines' tables: the gate kernel has none, the expert kernel's holds the list. -/
abbrev adms : (p : Fin 2) → (pcfgs (F := F) p).Adm
  | ⟨0, _⟩ => cfg0.toPCfg_adm
  | ⟨1, _⟩ => Experts.adm (A₂ m) h

def pdats : (p : Fin 2) → (c : Dev nD) → Pipeline.Dat τ (Elt F) (HIx 1) ℕ UU ℕ (Pipeline.pin (pcfgs (F := F)) (adms m h) p) c
  | ⟨0, _⟩ => dat0 m
  | ⟨1, _⟩ => dat1 (A₂ m) h

/-- What the core owes before call `n`, and the levels of the waits it has recorded. -/
abbrev owesC (n : ℕ) (c : Dev nD) : sProp 𝕄 := iprop(∃ W, ⌜(K (F := F)).WBelow (T c) W (8 * n)⌝ ∗ owes (T c) (O₀ (F := F) n c) W)

theorem owes_in {cfg : Pipeline.Cfg sig Λ₀} {c : Dev nD} (dat : Pipeline.Dat τ (Elt F) (HIx 1) ℕ UU ℕ cfg c) (n : ℕ) (t : Fin (cfg.N + 1))
    (ho : dat.owed t = O₀ (F := F) n c) (hr : dat.recorded t = rec₀ (F := F) n c) : owesC (F := F) n c ⊢ (dat.owesAt none t : sProp 𝕄) := by
  unfold Pipeline.Dat.owesAt Pipeline.owesWithin
  rw [ho]
  iintro ⟨%W, %hW, HO⟩
  iexists W; isplitr; swap; · iexact HO
  ipureintro
  exact fun p hp => Or.inl (by rw [hr]; exact hW p hp)

theorem owes_out {cfg : Pipeline.Cfg sig Λ₀} {c : Dev nD} (dat : Pipeline.Dat τ (Elt F) (HIx 1) ℕ UU ℕ cfg c) (n : ℕ) (t : Fin (cfg.N + 1))
    (ho : dat.owed t = O₀ (F := F) n c) (hr : dat.recorded t = rec₀ (F := F) n c) : (dat.owesAt none t : sProp 𝕄) ⊢ owesC (F := F) n c := by
  unfold Pipeline.Dat.owesAt Pipeline.owesWithin
  rw [ho]
  iintro ⟨%W, %hW, HO⟩
  iexists W; isplitr; swap; · iexact HO
  ipureintro
  intro p hp
  rcases hW hp with h | ⟨w, s, rfl⟩
  · rw [hr] at h; exact h
  · exact Nat.zero_le _

/-! ## The gate kernel's region -/

theorem arrays0_eq (c : Dev nD) (Fa) : ((pdats (F := F) m h 0 c).arrays Fa : sProp 𝕄)
    = iprop(pl c main_v0 (Fa 0) ∗ pl c main_arg1 (Fa 1) ∗ pl c main_arg2 (Fa 2) ∗ pl c main_v1_0 (Fa 3) ∗ pl c main_v1_1 (Fa 4) ∗ pl c main_v1_2 (Fa 5)) := by
  rw [Pipeline.arrays_eq (Pipeline.pin (pcfgs (F := F)) (adms m h)) (pdats m h) 0 c (launch0 (F := F)).arr_whole ((pdats m h 0 c).share_full fun _ => rfl) Fa, bigSep_W0]; rfl

theorem arrAt0_0 (c : Dev nD) : (pdats (F := F) m h 0 c).arrAt 0 (Pipeline.pin (pcfgs (F := F)) (adms m h) 0).N = V₁ m c main_v0 :=
  (dat0 (F := F) m c).arrAt_in 0 rfl _
theorem arrAt0_1 (c : Dev nD) : (pdats (F := F) m h 0 c).arrAt 1 (Pipeline.pin (pcfgs (F := F)) (adms m h) 0).N = m ((T c : Thread nD τ).loc main_arg1) :=
  ((dat0 (F := F) m c).arrAt_in 1 rfl _).trans (V₁_keep m c (Proc.devRef .tc main_arg1) (by decide))
theorem arrAt0_2 (c : Dev nD) : (pdats (F := F) m h 0 c).arrAt 2 (Pipeline.pin (pcfgs (F := F)) (adms m h) 0).N = m ((T c : Thread nD τ).loc main_arg2) :=
  ((dat0 (F := F) m c).arrAt_in 2 rfl _).trans (V₁_keep m c (Proc.devRef .tc main_arg2) (by decide))

/-- What the gate kernel's region leaves. -/
abbrev POST₀ (c : Dev nD) : sProp 𝕄 :=
  iprop((pl c main_v0 (V₁ m c main_v0) ∗ pl c main_arg1 (m ((c : Thread nD τ).loc main_arg1)) ∗ pl c main_arg2 (m ((c : Thread nD τ).loc main_arg2)) ∗ pl c main_v1_0 (hv m c) ∗ pl c main_v1_1 (gv m c) ∗ pl c main_v1_2 (iv m c) ∗ pl c main_arg0 (m ((c : Thread nD τ).loc main_arg0)) ∗ pl c main_arg3 (m ((c : Thread nD τ).loc main_arg3)) ∗ pl c main_arg4 (m ((c : Thread nD τ).loc main_arg4)) ∗ pl c main_arg5 (m ((c : Thread nD τ).loc main_arg5)) ∗ pl c main_arg6 (m ((c : Thread nD τ).loc main_arg6)) ∗ pl c main_arg7 (m ((c : Thread nD τ).loc main_arg7)) ∗ pl c main_arg8 (m ((c : Thread nD τ).loc main_arg8)) ∗ pl c main_v2 (m ((c : Thread nD τ).loc main_v2)) ∗ pl c main_v3 (m ((c : Thread nD τ).loc main_v3)) ∗ pl c main_v5 (m ((c : Thread nD τ).loc main_v5)) ∗ pl c main_v6 (m ((c : Thread nD τ).loc main_v6)) ∗ pl c main_v4 (m ((c : Thread nD τ).loc main_v4))) ∗ owesC (F := F) 0 c)

def reg0 : Pipeline.RegionSeg (pcfgs (F := F)) (adms m h) (pdats m h) (none : HIx 1) defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (Gate.body_obligation m c).loose
  hwaits c := Pipeline.cellsWaits_intro _ (pdats m h) none 0 c fun w s t => (K (F := F)).mayWait_none _ (O₀_none 0 c)
  pre c := iprop(unscopedBufs c (fun b => V₁ m c b) ∗ owesC 0 c)
  post c := POST₀ m c
  X _ := iprop(emp)
  Y _ := iprop(emp)
  Z c := iprop(Pipeline.unscopedRest (Ix := HIx 1) (Name := ℕ) (U := UU) (Lvl := ℕ) spec0 c (fun b => V₁ m c b))
  hentry c := by
    rw [Pipeline.ownSems0_none]
    have hsplit := Pipeline.arrays_of_unscopedBufs (p := 0) (pcfgs (F := F)) (adms m h) (pdats m h) (launch0 (F := F)).win (launch0 (F := F)).arr_whole c
      ((pdats m h 0 c).share_full fun _ => rfl) (fun b => V₁ m c b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owes_in (dat0 m c) 0 _ rfl rfl); iexact HO
    isplitr; · iempintro
    iexact Hr
  hin c := by
    show iprop(emp ∗ _ ∗ Pipeline.scopedRest spec0 c) ⊢ Pipeline.scopedRest spec0 c
    iintro ⟨-, -, H⟩; iexact H
  hout c := by
    rw [Pipeline.ownSems0_none]
    show Pipeline.scopedRest spec0 c ⊢ iprop(emp ∗ emp ∗ Pipeline.scopedRest spec0 c)
    iintro H; isplitr; · iempintro
    isplitr; · iempintro
    iexact H
  hexit c := by
    rw [arrays0_eq, unscopedRest0_eq, arrAt0_0, arrAt0_1, arrAt0_2]
    have e0 : V₁ m c main_arg0 = m ((c : Thread nD τ).loc main_arg0) := V₁_keep m c _ (by decide)
    have e1 : V₁ m c main_arg3 = m ((c : Thread nD τ).loc main_arg3) := V₁_keep m c _ (by decide)
    have e2 : V₁ m c main_arg4 = m ((c : Thread nD τ).loc main_arg4) := V₁_keep m c _ (by decide)
    have e3 : V₁ m c main_arg5 = m ((c : Thread nD τ).loc main_arg5) := V₁_keep m c _ (by decide)
    have e4 : V₁ m c main_arg6 = m ((c : Thread nD τ).loc main_arg6) := V₁_keep m c _ (by decide)
    have e5 : V₁ m c main_arg7 = m ((c : Thread nD τ).loc main_arg7) := V₁_keep m c _ (by decide)
    have e6 : V₁ m c main_arg8 = m ((c : Thread nD τ).loc main_arg8) := V₁_keep m c _ (by decide)
    have e7 : V₁ m c main_v2 = m ((c : Thread nD τ).loc main_v2) := V₁_keep m c _ (by decide)
    have e8 : V₁ m c main_v3 = m ((c : Thread nD τ).loc main_v3) := V₁_keep m c _ (by decide)
    have e9 : V₁ m c main_v5 = m ((c : Thread nD τ).loc main_v5) := V₁_keep m c _ (by decide)
    have e10 : V₁ m c main_v6 = m ((c : Thread nD τ).loc main_v6) := V₁_keep m c _ (by decide)
    have e11 : V₁ m c main_v4 = m ((c : Thread nD τ).loc main_v4) := V₁_keep m c _ (by decide)
    rw [e0, e1, e2, e3, e4, e5, e6, e7, e8, e9, e10, e11]
    iintro ⟨⟨H0, H1, H2, H3, H4, H5⟩, HO, -, ⟨R0, R1, R2, R3, R4, R5, R6, R7, R8, R9, R10, R11⟩⟩
    imodintro
    isplitr [HO]
    · isplitl [H0]; · iexact H0
      isplitl [H1]; · iexact H1
      isplitl [H2]; · iexact H2
      isplitl [H3]; · iexact H3
      isplitl [H4]; · iexact H4
      isplitl [H5]; · iexact H5
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    iapply (owes_out (dat0 m c) 0 _ rfl rfl); iexact HO

/-! ## The expert kernel's region -/

theorem arrays1_eq (c : Dev nD) (Fa) : ((pdats (F := F) m h 1 c).arrays Fa : sProp 𝕄)
    = iprop(pl c main_v0 (Fa 0) ∗ pl c main_v1_1 (Fa 1) ∗ pl c main_arg3 (Fa 2) ∗ pl c main_arg4 (Fa 3) ∗ pl c main_arg5 (Fa 4) ∗ pl c main_arg6 (Fa 5) ∗ pl c main_arg7 (Fa 6) ∗ pl c main_arg8 (Fa 7) ∗ pl c main_v5 (Fa 8)) := by
  rw [Pipeline.arrays_eq (Pipeline.pin (pcfgs (F := F)) (adms m h)) (pdats m h) 1 c (launch2 (F := F)).arr_whole ((pdats m h 1 c).share_full fun _ => rfl) Fa, bigSep_W2]; rfl

theorem pref1_eq (c : Dev nD) : (Pipeline.prefHeld (Ix := HIx 1) (Name := ℕ) (U := UU) (Lvl := ℕ) (pcfgs (F := F) 1).pre c (fun _ => fullShare) (adms m h 1).1 : sProp 𝕄)
    = iprop(pl c main_v4 (tab m c)) := by
  obtain rfl : c = 0 := Subsingleton.elim _ _
  rw [← A₂_v4]
  show Pipeline.prefHeld pre2 0 (fun _ => fullShare) (tbl (A₂ m)) = _
  unfold Pipeline.prefHeld
  rw [show (Finset.univ : Finset (Fin 1)) = {(0 : Fin 1)} from by decide, bigSep_singleton]
  rfl

theorem arrAt1_0 (c : Dev nD) (n : ℕ) : (pdats (F := F) m h 1 c).arrAt 0 n = V₁ m c main_v0 :=
  ((dat1 (F := F) (A₂ m) h c).arrAt_in 0 rfl _).trans (A₂_keep m c (Proc.devRef .tc main_v0) (by decide) (by decide))
theorem arrAt1_1 (c : Dev nD) (n : ℕ) : (pdats (F := F) m h 1 c).arrAt 1 n = gv m c :=
  ((dat1 (F := F) (A₂ m) h c).arrAt_in 1 rfl _).trans (A₂_v1_1 m c)
theorem arrAt1_2 (c : Dev nD) (n : ℕ) : (pdats (F := F) m h 1 c).arrAt 2 n = m ((c : Thread nD τ).loc main_arg3) :=
  ((dat1 (F := F) (A₂ m) h c).arrAt_in 2 rfl _).trans (A₂_arg m c (Proc.devRef .tc main_arg3) (by decide) (by decide) (by decide))
theorem arrAt1_3 (c : Dev nD) (n : ℕ) : (pdats (F := F) m h 1 c).arrAt 3 n = m ((c : Thread nD τ).loc main_arg4) :=
  ((dat1 (F := F) (A₂ m) h c).arrAt_in 3 rfl _).trans (A₂_arg m c (Proc.devRef .tc main_arg4) (by decide) (by decide) (by decide))
theorem arrAt1_4 (c : Dev nD) (n : ℕ) : (pdats (F := F) m h 1 c).arrAt 4 n = m ((c : Thread nD τ).loc main_arg5) :=
  ((dat1 (F := F) (A₂ m) h c).arrAt_in 4 rfl _).trans (A₂_arg m c (Proc.devRef .tc main_arg5) (by decide) (by decide) (by decide))
theorem arrAt1_5 (c : Dev nD) (n : ℕ) : (pdats (F := F) m h 1 c).arrAt 5 n = m ((c : Thread nD τ).loc main_arg6) :=
  ((dat1 (F := F) (A₂ m) h c).arrAt_in 5 rfl _).trans (A₂_arg m c (Proc.devRef .tc main_arg6) (by decide) (by decide) (by decide))
theorem arrAt1_6 (c : Dev nD) (n : ℕ) : (pdats (F := F) m h 1 c).arrAt 6 n = m ((c : Thread nD τ).loc main_arg7) :=
  ((dat1 (F := F) (A₂ m) h c).arrAt_in 6 rfl _).trans (A₂_arg m c (Proc.devRef .tc main_arg7) (by decide) (by decide) (by decide))
theorem arrAt1_7 (c : Dev nD) (n : ℕ) : (pdats (F := F) m h 1 c).arrAt 7 n = m ((c : Thread nD τ).loc main_arg8) :=
  ((dat1 (F := F) (A₂ m) h c).arrAt_in 7 rfl _).trans (A₂_arg m c (Proc.devRef .tc main_arg8) (by decide) (by decide) (by decide))
theorem arrAt1_8_zero (c : Dev nD) : (pdats (F := F) m h 1 c).arrAt 8 0 = m ((c : Thread nD τ).loc main_v5) :=
  A₂_arg m c (Proc.devRef .tc main_v5) (by decide) (by decide) (by decide)

/-- The last point. -/
abbrev tLast : Fin (cfgM (A₂ m) h).N := ⟨63, lt_of_lt_of_eq (by decide) N_2.symm⟩

theorem cover (i : S64x1024.Idx) : ∃ t : Fin (cfgM (A₂ m) h).N, ((cfgM (A₂ m) h).win 8).flush t = true ∧ i ∈ (((cfgM (A₂ m) h).win 8).blk t).view.set := by
  refine ⟨tLast m h, (by decide +kernel : Pipeline.Window.flushOf grid2 true cc2_transform_8 (⟨63, by decide⟩ : Fin grid2.N) = true), ?_⟩
  show i ∈ ((View.whole main_v5).slice (((cfgM (A₂ m) h).win 8).rect (tLast m h))).set
  erw [View.set_slice_whole]
  refine (Pipeline.Window.mem_rect_iff ((cfgM (A₂ m) h).win 8) (tLast m h) i (by rfl)).mpr fun a => ?_
  have e : ((cfgM (A₂ m) h).win 8).index (tLast m h) a * ((cfgM (A₂ m) h).win 8).size a = 0
      ∧ ((cfgM (A₂ m) h).win 8).xsize (grid2.coords (tLast m h)) a = S64x1024.size a := by
    fin_cases a <;> exact ⟨rfl, rfl⟩
  rw [e.1, e.2, Nat.zero_add]
  exact ⟨Nat.zero_le _, (i a).isLt⟩

/-- The result's array at the region's end. -/
theorem arrAt1_8 (c : Dev nD) : (dat1 (F := F) (A₂ m) h c).arrAt 8 (cfgM (A₂ m) h).N = final (A₂ m) h c := by
  refine (dat1 (A₂ m) h c).arrAt_eq_of_cover 8 _ (fun t ht => ?_) (cover m h)
  refine funext fun (j : S64x1024.Idx) => ?_
  refine congrArg (final (A₂ m) h c) (funext fun (a : Fin 2) => Fin.ext ?_)
  fin_cases a
  · show (j 0).val = 0 * 64 + 1 * (j 0).val; omega
  · show (j 1).val = 0 * 1024 + 1 * (j 1).val; omega

/-- What the expert kernel's region is entered with, and what it leaves. -/
abbrev PRE₁ (c : Dev nD) : sProp 𝕄 :=
  iprop((pl c main_v0 (V₁ m c main_v0) ∗ pl c main_v1_1 (gv m c) ∗ pl c main_arg3 (m ((c : Thread nD τ).loc main_arg3)) ∗ pl c main_arg4 (m ((c : Thread nD τ).loc main_arg4)) ∗ pl c main_arg5 (m ((c : Thread nD τ).loc main_arg5)) ∗ pl c main_arg6 (m ((c : Thread nD τ).loc main_arg6)) ∗ pl c main_arg7 (m ((c : Thread nD τ).loc main_arg7)) ∗ pl c main_arg8 (m ((c : Thread nD τ).loc main_arg8)) ∗ pl c main_v5 (m ((c : Thread nD τ).loc main_v5)) ∗ pl c main_v4 (tab m c)) ∗ owesC (F := F) 1 c)
abbrev POST₁ (c : Dev nD) : sProp 𝕄 :=
  iprop((pl c main_arg3 (m ((c : Thread nD τ).loc main_arg3)) ∗ pl c main_arg4 (m ((c : Thread nD τ).loc main_arg4)) ∗ pl c main_arg5 (m ((c : Thread nD τ).loc main_arg5)) ∗ pl c main_arg6 (m ((c : Thread nD τ).loc main_arg6)) ∗ pl c main_arg7 (m ((c : Thread nD τ).loc main_arg7)) ∗ pl c main_arg8 (m ((c : Thread nD τ).loc main_arg8)) ∗ pl c main_v5 (final (A₂ m) h c)) ∗ owesC (F := F) 1 c)

def reg1 : Pipeline.RegionSeg (pcfgs (F := F)) (adms m h) (pdats m h) (none : HIx 1) defs₀ 𝒱₀ (K (F := F)).L (K (F := F)).lev 1 where
  win := (launch2 (F := F)).win.to₀
  block_pos := (launch2 (F := F)).block_pos
  stage_whole := (launch2 (F := F)).stage_whole
  K := PEmpty
  osem k := k.elim
  ho := Pipeline.OwnSemFacts.none _
  hbody c := (Experts.body_obligation (A₂ m) h c).loose
  hwaits c := Pipeline.cellsWaits_intro _ (pdats m h) none 1 c fun w s t => (K (F := F)).mayWait_none _ (O₀_none 1 c)
  pre c := PRE₁ m c
  post c := POST₁ m h c
  X _ := iprop(emp)
  Y _ := iprop(emp)
  Z _ := iprop(emp)
  hentry c := by
    rw [Pipeline.ownSems0_none, arrays1_eq, pref1_eq]
    rw [arrAt1_0, arrAt1_1, arrAt1_2, arrAt1_3, arrAt1_4, arrAt1_5, arrAt1_6, arrAt1_7, arrAt1_8_zero]
    iintro ⟨⟨⟨H0, H1, H2, H3, H4, H5, H6, H7, H8, HT⟩, HO⟩, -, -⟩
    imodintro
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HT]; · iexact HT
    isplitl [HO]; · iapply (owes_in (dat1 (A₂ m) h c) 1 _ rfl rfl); iexact HO
    isplitr <;> iempintro
  hin c := by
    rw [pref1_eq]
    show iprop(emp ∗ pl c main_v4 (tab m c) ∗ Pipeline.scopedRest spec2 c) ⊢ Phi (A₂ m) h c 0
    rw [scopedRest2_eq]
    unfold Phi; simp only [owns_whole]
    iintro ⟨-, HT, H0, H1, H2, H3, H4, H5, ⟨%f0, HS0⟩, ⟨%f1, HS1⟩⟩
    iexists f0; iexists f1
    isplitr; · ipureintro; exact fun e => absurd rfl e
    isplitl [HS0]; · iexact HS0
    isplitl [HS1]; · iexact HS1
    isplitl [HT]
    · obtain rfl : c = 0 := Subsingleton.elim _ _
      rw [show list (A₂ m) = tab m 0 from A₂_v4 m 0]
      iexact HT
    isplitl [H0]; · iexact H0
    isplitl [H1]; · iexact H1
    isplitl [H2]; · iexact H2
    isplitl [H3]; · iexact H3
    isplitl [H4]; · iexact H4
    iexact H5
  hout c := by
    rw [Pipeline.ownSems0_none]
    show Phi (A₂ m) h c (cfgM (A₂ m) h).N ⊢ iprop(emp ∗ emp ∗ Pipeline.scopedRest spec2 c)
    rw [scopedRest2_eq]
    unfold Phi; simp only [owns_whole]
    iintro ⟨%d0, %d1, -, HS0, HS1, -, H0, H1, H2, H3, H4, H5⟩
    isplitr; · iempintro
    isplitr; · iempintro
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    iexists _; iexact HS1
  hexit c := by
    rw [arrays1_eq, arrAt1_0, arrAt1_1, arrAt1_2, arrAt1_3, arrAt1_4, arrAt1_5, arrAt1_6, arrAt1_7, show (pdats (F := F) m h 1 c).arrAt 8 (Pipeline.pin (pcfgs (F := F)) (adms m h) 1).N = final (A₂ m) h c from arrAt1_8 m h c]
    iintro ⟨⟨-, -, H2, H3, H4, H5, H6, H7, H8⟩, HO, -, -⟩
    imodintro
    isplitr [HO]
    · isplitl [H2]; · iexact H2
      isplitl [H3]; · iexact H3
      isplitl [H4]; · iexact H4
      isplitl [H5]; · iexact H5
      isplitl [H6]; · iexact H6
      isplitl [H7]; · iexact H7
      iexact H8
    iapply (owes_out (dat1 (A₂ m) h c) 1 _ rfl rfl); iexact HO

end Cert.Layer.Regions

end
-- ==== Proof.Layer.Launch.lean ====
/-
  The layer's run: on the TensorCore the reshape, the gate kernel's region, the SparseCore call, the list's reshapes, the
  expert kernel's region and the probabilities' reshape; on the sixteen subcores their tasks. At the end the arguments are as
  launched, the first result holds what the expert kernel folded and the second the probabilities of the logits.
-/
module

public import proofs.«01_k».proof.Proof.Layer.Regions

@[expose] public section

set_option maxRecDepth 16384

noncomputable section

namespace Cert.Layer.Launch

open Cert.LayerIdeal hiding ix2
open Cert.LayerIdeal.Gen Cert.Layer.Tile Cert.Layer.Gate Cert.Layer.Step Cert.Layer.Experts Cert.Layer.Regions

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg) (h : InRange (A₂ m))

/-! ## The launch's ghost state -/

/-- The pipelines' rounds inside the program's ghost state. -/
def EP : Emb UP (MT nD τ sig (HIx 1) (Elt F) ℕ UU ℕ) :=
  (Emb.inl : Emb UP (UP × Counters)).trans (embR : Emb (UP × Counters) (MT nD τ sig (HIx 1) (Elt F) ℕ UU ℕ))

omit [FloatOps F] in
instance EP_landsIn : (EP : Emb UP 𝕄).LandsIn (upEmb : UEmb _ 𝕄) := by unfold EP; infer_instance

abbrev pcs : Fin 2 → Pipeline.Cfg sig Λ₀ := fun p => Pipeline.pin (pcfgs (F := F)) (adms m h) p

theorem pcs_inj : Function.Injective (Pipeline.cellOf (nD := nD) (τ := τ) (pcs m h)) := cellOf_inj _

def u₀ : UU := (initOf (K (F := F)).hsCells (K (F := F)).hsToks,
  (initOf (Pipeline.cells (pcs m h) (pcs_inj m h)) (Pipeline.launchToks (pcs m h) (pcs_inj m h)), 1))

/-- What a TensorCore is dealt for region `p`. -/
abbrev G₁ (p : Fin 2) (d : Dev nD) : sProp 𝕄 := iprop(Pipeline.cellsGhost (pcs m h) EP p d ∗ Pipeline.toksInit (pcs m h) EP p d)
/-- What it is dealt for both. -/
abbrev G (d : Dev nD) : sProp 𝕄 := iprop(G₁ m h 0 d ∗ G₁ m h 1 d)

theorem bigSep_emp' {I : Type} (s : Finset I) : (bigSep s fun _ => iprop(emp)) = (iprop(emp) : sProp 𝕄) := bigSep_emp_const s

theorem deal_eq (d : Dev nD) : G m h d
    = iprop((bigSep Finset.univ fun p => Pipeline.cellsGhost (pcs m h) EP p d) ∗ bigSep Finset.univ fun p => Pipeline.toksInit (pcs m h) EP p d) := by
  rw [← bigSep_sep', BI.bigSep_univ_two]

theorem hu₀ : (ownU (u₀ m h) : sProp 𝕄)
    ⊢ |={Set.univ}=> iprop(BI.own (EH (initOf (K (F := F)).hsCells (K (F := F)).hsToks)) ∗ (bigSep Finset.univ fun d : Dev nD => G m h d)
        ∗ bigSep Finset.univ fun thr : Thread nD τ => bigSep Finset.univ fun q : Fin 1 => (P m (hv m)).x q thr) := by
  unfold u₀
  iintro Hu
  ihave H := (ownU_pair (initOf (K (F := F)).hsCells (K (F := F)).hsToks)
    ((initOf (Pipeline.cells (pcs m h) (pcs_inj m h)) (Pipeline.launchToks (pcs m h) (pcs_inj m h)), (1 : Counters)) : UP × Counters)) $$ Hu
  icases H with ⟨HH, HR⟩
  ihave HR := (own_pair_emb (embR : Emb (UP × Counters) 𝕄) (initOf (Pipeline.cells (pcs m h) (pcs_inj m h)) (Pipeline.launchToks (pcs m h) (pcs_inj m h))) (1 : Counters)) $$ HR
  icases HR with ⟨HP', -⟩
  ihave HP := (Entails.of_eq (show BI.own (((Emb.inl : Emb UP (UP × Counters)).trans (embR : Emb (UP × Counters) 𝕄)) (initOf (Pipeline.cells (pcs m h) (pcs_inj m h)) (Pipeline.launchToks (pcs m h) (pcs_inj m h))))
    = BI.own (EP (F := F) (initOf (Pipeline.cells (pcs m h) (pcs_inj m h)) (Pipeline.launchToks (pcs m h) (pcs_inj m h)))) from rfl)) $$ HP'
  imod (Pipeline.fund_ghost (pcs m h) EP (pcs_inj m h)) $$ HP with ⟨Hg, Ht⟩
  imodintro
  isplitl [HH]; · iexact HH
  isplitl [Hg Ht]
  · iapply (Entails.of_eq ((bigSep_congr fun d _ => deal_eq m h d).trans (bigSep_sep' _ _ _)).symm)
    isplitl [Hg] <;> iassumption
  rw [show (bigSep Finset.univ fun thr : Thread nD τ => bigSep Finset.univ fun q : Fin 1 => (P (F := F) m (hv m)).x q thr) = bigSep Finset.univ fun _ => iprop(emp) from
    bigSep_congr fun _ _ => bigSep_univ_of_subsingleton (0 : Fin 1), bigSep_emp']
  iempintro

/-! ## @main on the TensorCore -/

theorem st0_eq (d : Dev nD) :
    (bigSep Finset.univ fun c : Fin ((K (F := F)).nCore 0) => (P m (hv m)).st 0 d c) = iprop(hPts (hv m) d ∗ oPts d (m (oLoc d))) :=
  bigSep_univ_of_subsingleton (0 : Fin 1)
theorem dn0_eq (d : Dev nD) :
    (bigSep Finset.univ fun c : Fin ((K (F := F)).nCore 0) => (P m (hv m)).dn 0 d c) = iprop(hPts (hv m) d ∗ oPts d (probsOf (hv m d))) :=
  bigSep_univ_of_subsingleton (0 : Fin 1)

/-- The second result: the probabilities with a leading axis. -/
def probsRes (d : Dev nD) : Vec F S1x64x64 .f32 := shapeCast S1x64x64 (probsOf (hv m d)) shapeCasts_S64x64_S1x64x64

/-- What is held at the end: the arguments as launched and the two results. -/
abbrev FIN (d : Dev nD) : sProp 𝕄 :=
  iprop((pl d main_arg0 (m ((d : Thread nD τ).loc main_arg0)) ∗ pl d main_arg1 (m ((d : Thread nD τ).loc main_arg1)) ∗ pl d main_arg2 (m ((d : Thread nD τ).loc main_arg2)) ∗ pl d main_arg3 (m ((d : Thread nD τ).loc main_arg3)) ∗ pl d main_arg4 (m ((d : Thread nD τ).loc main_arg4)) ∗ pl d main_arg5 (m ((d : Thread nD τ).loc main_arg5)) ∗ pl d main_arg6 (m ((d : Thread nD τ).loc main_arg6)) ∗ pl d main_arg7 (m ((d : Thread nD τ).loc main_arg7)) ∗ pl d main_arg8 (m ((d : Thread nD τ).loc main_arg8))) ∗ pl d main_v5 (final (A₂ m) h d) ∗ pl d main_v6 (probsRes m d))

/-- What the TensorCore holds of the handshakes before call `n`, but for what it owes. -/
def rest (n : ℕ) (d : Dev nD) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (n : ℕ) (d : Dev nD) : (K (F := F)).tcSt EH d n = iprop(owesC (F := F) n d ∗ rest (F := F) n d) := rfl

include m in
/-- A reshape between two buffers. -/
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (hxy : (x : DevRef τ sig) ≠ (y : DevRef τ sig)) (f : x.ty.Contents (Elt F)) (g : y.ty.Contents (Elt F)) (Q : PUnit → sProp 𝕄) :
    iprop((boundary (T d) ∗ pl d x f ∗ pl d y g)
        ∗ ((boundary (T d) ∗ pl d x f ∗ pl d y (fun i => he ▸ shapeCast y.ty.shape f hn i)) -∗ |={Set.univ}=> Q ⟨⟩))
      ⊢ wp frame (wpE ((K (F := F)).defs (D (F := F))) 𝒱 (T d) none) Set.univ
          (hlo rfl (StableHlo.reshape x y he hn hx hy) (fun _ => .ret ⟨⟩)) Q := by
  let V : Valuation τ sig (Elt F) := Function.update (Function.update (fun b => m (d, b)) (y : DevRef τ sig) g) (x : DevRef τ sig) f
  have hV : V x = f := Function.update_self _ _ _
  have hV' : V y = g := (Function.update_of_ne hxy.symm _ _).trans (Function.update_self _ _ _)
  have two : ∀ W : Valuation τ sig (Elt F), (StableHlo.held (T d : Thread nD τ) {(x : DevRef τ sig), (y : DevRef τ sig)} W : sProp 𝕄)
      = iprop(pl d x (W x) ∗ pl d y (W y)) := fun W => by
    unfold StableHlo.held
    rw [bigSep_insert (by rw [Finset.mem_singleton]; exact hxy), bigSep_singleton]; rfl
  have hR : (StableHlo.reshape (Val := Elt F) x y he hn hx hy).result V x = f :=
    ((StableHlo.reshape (Val := Elt F) x y he hn hx hy).result_of_not_mem V (show (x : DevRef τ sig) ∉ ({(y : DevRef τ sig)} : Finset (DevRef τ sig)) by
      rw [Finset.mem_singleton]; exact hxy)).trans hV
  have hR' : (StableHlo.reshape (Val := Elt F) x y he hn hx hy).result V y = fun i => he ▸ shapeCast y.ty.shape f hn i :=
    (StableHlo.reshape_result x y he hn hx hy V).trans (by rw [hV])
  iintro ⟨⟨Hb, Hx, Hy⟩, Hk⟩
  iapply (StableHlo.wp_hlo_within 𝒱 (T d) none Set.univ (op := StableHlo.reshape x y he hn hx hy)
    (S := {(x : DevRef τ sig), (y : DevRef τ sig)}) (Finset.Subset.refl _) (V := V) rfl) $$ [Hb Hx Hy]
  · rw [two, hV, hV']
    isplitl [Hb]; · iexact Hb
    isplitl [Hx] <;> iassumption
  rw [two, hR, hR']
  iintro H
  rw [wp_ret]
  iapply Hk; iexact H

/-- Region 0 by itself. -/
theorem wp_region0₀ (d : Dev nD) (Q : PUnit → sProp 𝕄) :
    iprop((iprop(boundary (T d) ∗ POST₀ m d) -∗ wp frame (wpE (D (F := F)) 𝒱 (T d) none) Set.univ (Prog.ret PUnit.unit) Q)
        ∗ boundary (T d) ∗ iprop(unscopedBufs d (fun b => V₁ m d b) ∗ owesC 0 d) ∗ levAts (K (F := F)).L (K (F := F)).lev ∗ G₁ m h 0 d)
      ⊢ wp frame (wpE (D (F := F)) 𝒱 (T d) none) Set.univ (.op (.customCall (Pipeline.entry 0) ()) Prog.ret) Q :=
  Pipeline.RegionSeg.wp (pcfgs (F := F)) (adms m h) (pdats m h) none (pcs_inj m h) EP defs₀ 𝒱₀ (K (F := F)).L (K (F := F)).lev (reg0 m h) d none
    (fun _ h => absurd h (Option.not_mem_none _)) Prog.ret Q

/-- Its call in the pipelines' own program. -/
def enter0 (d : Dev nD) : Prog (TpuEff nD τ sig (Elt F) (ΛP (F := F)) (T d : Thread nD τ).2) PUnit :=
  .op (.customCall (Pipeline.entry 0) ()) Prog.ret

theorem enter0_eq (d : Dev nD) :
    (Prog.lift (.customCall (SparseCore.inner (Pipeline.entry 0)) ()) : Prog (TpuEff nD τ sig (Elt F) (SparseCore.Sig (ΛP (F := F)) 1) .tc) PUnit)
      = SparseCore.liftProg (enter0 (F := F) d) := rfl

/-- Region 0, as @main calls it. -/
theorem wp_region0 (d : Dev nD) (Q : PUnit → sProp 𝕄) :
    iprop((iprop(boundary (T d) ∗ POST₀ m d) -∗ |={Set.univ}=> Q ⟨⟩)
        ∗ boundary (T d) ∗ iprop(unscopedBufs d (fun b => V₁ m d b) ∗ owesC 0 d) ∗ levAts (K (F := F)).L (K (F := F)).lev ∗ G₁ m h 0 d)
      ⊢ wp frame (wpE ((K (F := F)).defs (D (F := F))) 𝒱 (T d) none) Set.univ
          (Prog.lift (.customCall (SparseCore.inner (Pipeline.entry 0)) ())) Q := by
  rw [enter0_eq d]
  refine BI.Entails.trans ?_ ((K (F := F)).wp_liftProg (D (F := F)) 𝒱 (T d) Set.univ none (enter0 d) Q)
  have h := wp_region0₀ m h d Q
  rw [wp_ret] at h
  exact h

/-- Region 1 by itself. -/
theorem wp_region1₀ (d : Dev nD) (Q : PUnit → sProp 𝕄) :
    iprop((iprop(boundary (T d) ∗ POST₁ m h d) -∗ wp frame (wpE (D (F := F)) 𝒱 (T d) none) Set.univ (Prog.ret PUnit.unit) Q)
        ∗ boundary (T d) ∗ PRE₁ m d ∗ levAts (K (F := F)).L (K (F := F)).lev ∗ G₁ m h 1 d)
      ⊢ wp frame (wpE (D (F := F)) 𝒱 (T d) none) Set.univ (.op (.customCall (Pipeline.entry 1) ()) Prog.ret) Q :=
  Pipeline.RegionSeg.wp (pcfgs (F := F)) (adms m h) (pdats m h) none (pcs_inj m h) EP defs₀ 𝒱₀ (K (F := F)).L (K (F := F)).lev (reg1 m h) d none
    (fun _ h => absurd h (Option.not_mem_none _)) Prog.ret Q

/-- Its call in the pipelines' own program. -/
def enter1 (d : Dev nD) : Prog (TpuEff nD τ sig (Elt F) (ΛP (F := F)) (T d : Thread nD τ).2) PUnit :=
  .op (.customCall (Pipeline.entry 1) ()) Prog.ret

theorem enter1_eq (d : Dev nD) :
    (Prog.lift (.customCall (SparseCore.inner (Pipeline.entry 1)) ()) : Prog (TpuEff nD τ sig (Elt F) (SparseCore.Sig (ΛP (F := F)) 1) .tc) PUnit)
      = SparseCore.liftProg (enter1 (F := F) d) := rfl

/-- Region 1, as @main calls it. -/
theorem wp_region1 (d : Dev nD) (Q : PUnit → sProp 𝕄) :
    iprop((iprop(boundary (T d) ∗ POST₁ m h d) -∗ |={Set.univ}=> Q ⟨⟩)
        ∗ boundary (T d) ∗ PRE₁ m d ∗ levAts (K (F := F)).L (K (F := F)).lev ∗ G₁ m h 1 d)
      ⊢ wp frame (wpE ((K (F := F)).defs (D (F := F))) 𝒱 (T d) none) Set.univ
          (Prog.lift (.customCall (SparseCore.inner (Pipeline.entry 1)) ())) Q := by
  rw [enter1_eq d]
  refine BI.Entails.trans ?_ ((K (F := F)).wp_liftProg (D (F := F)) 𝒱 (T d) Set.univ none (enter1 d) Q)
  have h := wp_region1₀ m h d Q
  rw [wp_ret] at h
  exact h

theorem op0_sub : (op0 (F := F)).bufs ⊆ Pipeline.ucRefs τ sig := by
  show ({Proc.devRef .tc main_arg0, Proc.devRef .tc main_v0} : Finset (DevRef τ sig)) ⊆ Pipeline.ucRefs τ sig
  decide

theorem hmain (κ : GSem nD τ sig → ℕ) (d : Dev nD) :
    iprop((K (F := F)).ctx EH (P m (hv m)) κ ∗ (K (F := F)).tcSt EH d 0 ∗ (K (F := F)).tcRes m ρ d ∗ G m h d)
      ⊢ wp frame (wpE ((K (F := F)).defs (D (F := F))) 𝒱 (T d) none) Set.univ (main d)
          fun _ => iprop((K (F := F)).tcSt EH d 1 ∗ FIN m h d ∗ (K (F := F)).tcEnd d) := by
  unfold SparseCore.Cfg.tcRes SparseCore.Cfg.tcEnd
  simp only [main, wp_bind, wp_pure]
  iintro ⟨#Hctx, Hst, ⟨Hb, Hub, Hts, -⟩, HG0, HG1⟩
  ihave Hh := (Entails.of_eq (Pipeline.unscopedBufs_held d (fun b => m (d, b)))) $$ Hub
  iapply (StableHlo.wp_hlo_within 𝒱 (T d) none Set.univ (op := op0 (F := F)) (S := Pipeline.ucRefs τ sig) op0_sub) $$ [Hb Hh]
  · isplitl [Hb] <;> iassumption
  iintro ⟨Hb, Hh⟩
  rw [wp_ret]; imodintro
  ihave Hub := (Entails.of_eq (Pipeline.unscopedBufs_held d (V₁ m d)).symm) $$ Hh
  ihave Hst' := (Entails.of_eq (tcSt_eq (F := F) 0 d)) $$ Hst
  icases Hst' with ⟨HO, Hst⟩
  ihave Hlev := (SparseCore.Cfg.ctx_levAts κ) $$ Hctx
  iapply (wp_region0 m h d _)
  isplitl [Hst Hts HG1]
  swap
  · isplitl [Hb]; · iexact Hb
    isplitl [Hub HO]
    · isplitl [Hub]; · iexact Hub
      iexact HO
    isplitl [Hlev]; · iexact Hlev
    iexact HG0
  iintro ⟨Hb, ⟨⟨Hv0, H1, H2, Hl, Hg, Hi, H0, H3, H4, H5, H6, H7, H8, Hv2, Hv3, Hv5, Hv6, Hv4⟩, HO⟩⟩
  imodintro
  iapply ((K (F := F)).wp_run (D (F := F)) 𝒱 (EH := EH) (P := P m (hv m)) κ d 0)
  isplitr; · iexact Hctx
  isplitl [Hst HO]
  · iapply (Entails.of_eq (tcSt_eq (F := F) 0 d).symm)
    isplitl [HO] <;> iassumption
  isplitl [Hl Hv2]
  · rw [st0_eq]
    isplitl [Hl] <;> iassumption
  iintro ⟨Hst, Hdn⟩
  ihave Hdn' := (Entails.of_eq (dn0_eq m d)) $$ Hdn
  icases Hdn' with ⟨-, Hv2⟩
  iapply (wp_reshape m d main_v1_2 main_v3 rfl shapeCasts_S64x1_S64 _ _ (by decide) (iv m d) _ _)
  isplitl [Hb Hi Hv3]
  · isplitl [Hb]; · iexact Hb
    isplitl [Hi] <;> iassumption
  iintro ⟨Hb, -, Hv3⟩
  imodintro
  iapply (wp_reshape m d main_v3 main_v4 rfl shapeCasts_S64_S64x1 _ _ (by decide) (shapeCast S64 (iv m d) shapeCasts_S64x1_S64) _ _)
  isplitl [Hb Hv3 Hv4]
  · isplitl [Hb]; · iexact Hb
    isplitl [Hv3]; · iexact Hv3
    iexact Hv4
  iintro ⟨Hb, -, Hv4⟩
  imodintro
  ihave Hst' := (Entails.of_eq (show (K (F := F)).tcSt EH d ((0 : Fin 1).val + 1) = iprop(owesC (F := F) 1 d ∗ rest (F := F) 1 d) from rfl)) $$ Hst
  icases Hst' with ⟨HO, Hst⟩
  ihave Hlev := (SparseCore.Cfg.ctx_levAts κ) $$ Hctx
  iapply (wp_region1 m h d _)
  isplitl [Hst Hts H0 H1 H2 Hv2 Hv6]
  swap
  · isplitl [Hb]; · iexact Hb
    isplitl [Hv0 Hg H3 H4 H5 H6 H7 H8 Hv5 Hv4 HO]
    · isplitr [HO]
      · isplitl [Hv0]; · iexact Hv0
        isplitl [Hg]; · iexact Hg
        isplitl [H3]; · iexact H3
        isplitl [H4]; · iexact H4
        isplitl [H5]; · iexact H5
        isplitl [H6]; · iexact H6
        isplitl [H7]; · iexact H7
        isplitl [H8]; · iexact H8
        isplitl [Hv5]; · iexact Hv5
        iexact Hv4
      iexact HO
    isplitl [Hlev]; · iexact Hlev
    iexact HG1
  iintro ⟨Hb, ⟨⟨H3, H4, H5, H6, H7, H8, Hv5⟩, HO⟩⟩
  imodintro
  iapply (wp_reshape m d main_v2 main_v6 rfl shapeCasts_S64x64_S1x64x64 _ _ (by decide) (probsOf (hv m d)) _ _)
  isplitl [Hb Hv2 Hv6]
  · isplitl [Hb]; · iexact Hb
    isplitl [Hv2] <;> iassumption
  iintro ⟨Hb, -, Hv6⟩
  imodintro
  imodintro
  isplitl [Hst HO]
  · iapply (Entails.of_eq (tcSt_eq (F := F) 1 d).symm)
    isplitl [HO] <;> iassumption
  isplitr [Hb Hts]
  · isplitr [Hv5 Hv6]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Hv5]; · iexact Hv5
    iexact Hv6
  isplitl [Hb] <;> iassumption

/-- A whole buffer held is what the final memory has there. -/
theorem held_agrees (d : Dev nD) (b : Ref sig .tc) (f : b.ty.Contents (Elt F)) (s' : Phys nD τ sig (Elt F)) :
    iprop(pl d b f ∗ SI s') ⊢ (iprop(⌜s'.mem.mem ((d : Thread nD τ).loc b) = f⌝ ∗ SI s') : sProp 𝕄) := by
  iintro ⟨Hb, HSI⟩
  ihave H := (persistent_entails_right (SI_pointsTo_agree (st := s') (ℓ := (d : Thread nD τ).loc b) (I := Finset.univ) (q := fullShare) (f := f))) $$ [HSI Hb]
  · isplitl [HSI] <;> iassumption
  icases H with ⟨%hb, HSI, -⟩
  isplitr; · ipureintro; exact funext fun i => hb i (Finset.mem_univ i)
  iexact HSI

def fq (d : Dev nD) (s' : Phys nD τ sig (Elt F)) : Prop :=
  (s'.mem.mem ((d : Thread nD τ).loc main_arg0) = m ((d : Thread nD τ).loc main_arg0) ∧ s'.mem.mem ((d : Thread nD τ).loc main_arg1) = m ((d : Thread nD τ).loc main_arg1) ∧ s'.mem.mem ((d : Thread nD τ).loc main_arg2) = m ((d : Thread nD τ).loc main_arg2) ∧ s'.mem.mem ((d : Thread nD τ).loc main_arg3) = m ((d : Thread nD τ).loc main_arg3) ∧ s'.mem.mem ((d : Thread nD τ).loc main_arg4) = m ((d : Thread nD τ).loc main_arg4) ∧ s'.mem.mem ((d : Thread nD τ).loc main_arg5) = m ((d : Thread nD τ).loc main_arg5) ∧ s'.mem.mem ((d : Thread nD τ).loc main_arg6) = m ((d : Thread nD τ).loc main_arg6) ∧ s'.mem.mem ((d : Thread nD τ).loc main_arg7) = m ((d : Thread nD τ).loc main_arg7) ∧ s'.mem.mem ((d : Thread nD τ).loc main_arg8) = m ((d : Thread nD τ).loc main_arg8))
    ∧ s'.mem.mem ((d : Thread nD τ).loc main_v5) = final (A₂ m) h d
    ∧ s'.mem.mem ((d : Thread nD τ).loc main_v6) = probsRes m d

theorem hfin (d : Dev nD) (s' : Phys nD τ sig (Elt F)) : iprop(FIN m h d ∗ SI s') ⊢ (⌜fq m h d s'⌝ : sProp 𝕄) := by
  iintro ⟨⟨⟨H0, H1, H2, H3, H4, H5, H6, H7, H8⟩, Hv5, Hv6⟩, HSI⟩
  ihave H := (held_agrees d main_arg0 _ s') $$ [HSI H0]
  · isplitl [H0] <;> iassumption
  icases H with ⟨%a0, HSI⟩
  ihave H := (held_agrees d main_arg1 _ s') $$ [HSI H1]
  · isplitl [H1] <;> iassumption
  icases H with ⟨%a1, HSI⟩
  ihave H := (held_agrees d main_arg2 _ s') $$ [HSI H2]
  · isplitl [H2] <;> iassumption
  icases H with ⟨%a2, HSI⟩
  ihave H := (held_agrees d main_arg3 _ s') $$ [HSI H3]
  · isplitl [H3] <;> iassumption
  icases H with ⟨%a3, HSI⟩
  ihave H := (held_agrees d main_arg4 _ s') $$ [HSI H4]
  · isplitl [H4] <;> iassumption
  icases H with ⟨%a4, HSI⟩
  ihave H := (held_agrees d main_arg5 _ s') $$ [HSI H5]
  · isplitl [H5] <;> iassumption
  icases H with ⟨%a5, HSI⟩
  ihave H := (held_agrees d main_arg6 _ s') $$ [HSI H6]
  · isplitl [H6] <;> iassumption
  icases H with ⟨%a6, HSI⟩
  ihave H := (held_agrees d main_arg7 _ s') $$ [HSI H7]
  · isplitl [H7] <;> iassumption
  icases H with ⟨%a7, HSI⟩
  ihave H := (held_agrees d main_arg8 _ s') $$ [HSI H8]
  · isplitl [H8] <;> iassumption
  icases H with ⟨%a8, HSI⟩
  ihave H := (held_agrees d main_v5 _ s') $$ [HSI Hv5]
  · isplitl [Hv5] <;> iassumption
  icases H with ⟨%h5, HSI⟩
  ihave H := (held_agrees d main_v6 _ s') $$ [HSI Hv6]
  · isplitl [Hv6] <;> iassumption
  icases H with ⟨%h6, -⟩
  ipureintro
  exact ⟨⟨a0, a1, a2, a3, a4, a5, a6, a7, a8⟩, h5, h6⟩

/-! ## The run -/

def QC : PUnit × MemSt nD τ sig (Elt F) → Prop := fun r => (∀ d : Dev nD,
  (r.2.mem ((d : Thread nD τ).loc main_arg0) = m ((d : Thread nD τ).loc main_arg0) ∧ r.2.mem ((d : Thread nD τ).loc main_arg1) = m ((d : Thread nD τ).loc main_arg1) ∧ r.2.mem ((d : Thread nD τ).loc main_arg2) = m ((d : Thread nD τ).loc main_arg2) ∧ r.2.mem ((d : Thread nD τ).loc main_arg3) = m ((d : Thread nD τ).loc main_arg3) ∧ r.2.mem ((d : Thread nD τ).loc main_arg4) = m ((d : Thread nD τ).loc main_arg4) ∧ r.2.mem ((d : Thread nD τ).loc main_arg5) = m ((d : Thread nD τ).loc main_arg5) ∧ r.2.mem ((d : Thread nD τ).loc main_arg6) = m ((d : Thread nD τ).loc main_arg6) ∧ r.2.mem ((d : Thread nD τ).loc main_arg7) = m ((d : Thread nD τ).loc main_arg7) ∧ r.2.mem ((d : Thread nD τ).loc main_arg8) = m ((d : Thread nD τ).loc main_arg8))
    ∧ r.2.mem ((d : Thread nD τ).loc main_v5) = final (A₂ m) h d
    ∧ r.2.mem ((d : Thread nD τ).loc main_v6) = probsRes m d) ∧ r.2.sem = fun _ => 0

/-- Every execution ends, with the arguments unchanged, the two results and every counter at zero. -/
theorem run_main [∀ e, Nonempty (Elt F e)] : θ_run (defs (F := F)) (threads (F := F)) ⟨m, fun _ => 0, ρ⟩ (QC m h) :=
  SparseCore.Cfg.θ_run_sc_quiescent (K := K (F := F)) (D := D (F := F)) (𝒱 := 𝒱) (EH := EH) (P := P m (hv m)) (A := ∅) facts v₀
    (fun q hq => match q with | 0 => nomatch hq)
    (fun q _ => match q with | 0 => tileObl m (hv m))
    (fun q _ => match q with | 0 => SparseCore.Cfg.VecSplit.of_plain (vecSplit m (hv m)))
    m ρ main (fun d => G m h d) (FIN m h) (u₀ m h) (sep_elim_left.trans (hu₀ m h)) (hmain m ρ h) (fq m h) (hfin m h) (QC m h)
    (fun _ hf hz => ⟨hf, hz⟩)

end Cert.Layer.Launch

end
-- ==== Proof.Layer.Router.lean ====
/-
  The router of the layer over the extended reals: the two greatest of a row and the threshold they set, the gates as the
  softmax of the row with the entries below the threshold left out, and the list of the experts some row keeps, in order.
-/
module

public import Idealize.ShloMosaic.Lib.SortFacts
public import proofs.«01_k».proof.Proof.Probs.Softmax

@[expose] public section

noncomputable section

namespace Cert.Layer.Router

open Idealize.ShloMosaic Cert.Softmax

/-! ## The threshold of a row -/

/-- The greatest entry of a row. -/
abbrev top (g : Fin 64 → EReal) : EReal := Finset.univ.sup g
/-- The entries equal to it. -/
def ties (g : Fin 64 → EReal) : Finset (Fin 64) := Finset.univ.filter fun e => g e = top g
/-- The greatest of the others. -/
def rest (g : Fin 64 → EReal) : EReal := Finset.univ.sup fun e => if g e = top g then ⊥ else g e
/-- The second greatest, a repeated greatest counted twice. -/
def kth (g : Fin 64 → EReal) : EReal := if 2 ≤ (ties g).card then top g else rest g

theorem le_top' (g : Fin 64 → EReal) (e : Fin 64) : g e ≤ top g := Finset.le_sup (f := g) (Finset.mem_univ e)

theorem attained (g : Fin 64 → EReal) : ∃ e, g e = top g := by
  obtain ⟨e, -, he⟩ := Finset.exists_mem_eq_sup Finset.univ ⟨0, Finset.mem_univ 0⟩ g
  exact ⟨e, he.symm⟩

theorem kth_le (g : Fin 64 → EReal) : kth g ≤ top g := by
  unfold kth rest
  split
  · exact le_rfl
  · refine Finset.sup_le fun e _ => ?_
    split
    · exact bot_le
    · exact le_top' g e

/-- The positions of a row, greatest entry first. -/
def order (g : Fin 64 → EReal) : Fin 64 → Fin 64 := sortedFrom fun k k' => decide (g k' < g k)

theorem order_anti (g : Fin 64 → EReal) {i j : Fin 64} (h : i < j) : g (order g j) ≤ g (order g i) := by
  have := sortedFrom_noInversion (fun k k' => decide (g k' < g k)) (fun k k' => decide (g k' < g k))
    (fun a b h => decide_eq_false (not_lt.mpr (of_decide_eq_true h).le)) (fun a b h => h)
    (fun a b c h h' => decide_eq_false (not_lt.mpr ((not_lt.mp (of_decide_eq_false h)).trans (not_lt.mp (of_decide_eq_false h'))))) i j h
  exact not_lt.mp (of_decide_eq_false this)

/-- The entry sorted second is the threshold. -/
theorem second_eq (g : Fin 64 → EReal) : g (order g 1) = kth g := by
  have hs : ∀ e, ∃ k, order g k = e := sortedFrom_surjective _
  have h0 : ∀ e, g e ≤ g (order g 0) := fun e => by
    obtain ⟨k, rfl⟩ := hs e
    rcases eq_or_ne k 0 with rfl | hk
    · exact le_rfl
    · exact order_anti g (Fin.pos_iff_ne_zero.mpr hk)
  have h1 : ∀ e, e ≠ order g 0 → g e ≤ g (order g 1) := fun e he => by
    obtain ⟨k, rfl⟩ := hs e
    have hk : k ≠ 0 := fun h => he (h ▸ rfl)
    rcases eq_or_ne k 1 with rfl | hk1
    · exact le_rfl
    · refine order_anti g (Fin.lt_def.mpr ?_)
      have a0 : k.val ≠ 0 := fun h => hk (Fin.ext h)
      have a1 : k.val ≠ 1 := fun h => hk1 (Fin.ext h)
      show 1 < k.val
      omega
  have h10 : order g 1 ≠ order g 0 := fun h => absurd (sortedFrom_injective _ h) (by decide)
  have ht : g (order g 0) = top g := le_antisymm (le_top' g _) (Finset.sup_le fun e _ => h0 e)
  have hm : order g 0 ∈ ties g := Finset.mem_filter.mpr ⟨Finset.mem_univ _, ht⟩
  unfold kth
  split
  case isTrue h =>
    obtain ⟨e, he, hne⟩ := Finset.exists_mem_ne (show 1 < (ties g).card from h) (order g 0)
    exact le_antisymm (le_top' g _) ((Finset.mem_filter.mp he).2 ▸ h1 e hne)
  case isFalse h =>
    have hne : g (order g 1) ≠ top g := fun e => h (Finset.one_lt_card.mpr
      ⟨_, Finset.mem_filter.mpr ⟨Finset.mem_univ _, e⟩, _, hm, h10⟩)
    unfold rest
    refine le_antisymm ?_ (Finset.sup_le fun e _ => ?_)
    · refine le_of_eq_of_le ?_ (Finset.le_sup (f := fun e => if g e = top g then ⊥ else g e) (Finset.mem_univ (order g 1)))
      exact (if_neg hne).symm
    · split
      · exact bot_le
      · next he => exact h1 e fun h' => he (h' ▸ ht)

/-! ## The gates -/

/-- The row with what is below the threshold left out. -/
def kept (g : Fin 64 → EReal) (e : Fin 64) : EReal := if kth g ≤ g e then g e else ⊥

theorem top_kept (g : Fin 64 → EReal) : top (kept g) = top g := by
  refine le_antisymm (Finset.sup_le fun e _ => ?_) ?_
  · unfold kept
    split
    · exact le_top' g e
    · exact bot_le
  · obtain ⟨e, he⟩ := attained g
    refine le_of_eq_of_le ?_ (Finset.le_sup (f := kept g) (Finset.mem_univ e))
    unfold kept
    rw [if_pos (he ▸ kth_le g), he]

theorem exp_kept (g : Fin 64 → EReal) (e : Fin 64) :
    Ideal.exp (kept g e - top (kept g)) = if kth g ≤ g e then Ideal.exp (g e - top g) else 0 := by
  rw [top_kept]
  unfold kept
  split
  · rfl
  · rw [sub_eq_add_neg, EReal.bot_add]; rfl

/-- The gate of a row at an expert. -/
def gate (g : Fin 64 → EReal) (e : Fin 64) : EReal := soft (kept g) e

theorem gate_eq (g : Fin 64 → EReal) (e : Fin 64) : gate g e
    = Ideal.div (if kth g ≤ g e then Ideal.exp (g e - top g) else 0) (∑ k, if kth g ≤ g k then Ideal.exp (g k - top g) else 0) := by
  unfold gate soft
  rw [exp_kept]
  exact congrArg _ (Finset.sum_congr rfl fun k _ => exp_kept g k)

theorem exp_nonneg (x : EReal) : 0 ≤ Ideal.exp x := by
  induction x using EReal.rec with
  | bot => exact le_rfl
  | top => exact le_top
  | coe r => exact EReal.coe_nonneg.mpr (Real.exp_pos r).le

/-- A row of reals has gate zero at an expert below its threshold. -/
theorem gate_zero (g : Fin 64 → EReal) (hg : ∀ e, ∃ r : ℝ, g e = r) (e : Fin 64) (he : ¬ kth g ≤ g e) : gate g e = 0 := by
  rw [gate_eq, if_neg he]
  have hd : (∑ k, if kth g ≤ g k then Ideal.exp (g k - top g) else 0) ≠ 0 := by
    obtain ⟨k, hk⟩ := attained g
    obtain ⟨r, hr⟩ := hg k
    have h1 : (1 : EReal) ≤ ∑ k, if kth g ≤ g k then Ideal.exp (g k - top g) else 0 := by
      refine le_of_eq_of_le ?_ (Finset.single_le_sum (f := fun k => if kth g ≤ g k then Ideal.exp (g k - top g) else 0) (fun k _ => ?_) (Finset.mem_univ k))
      · show (1 : EReal) = if kth g ≤ g k then Ideal.exp (g k - top g) else 0
        rw [if_pos (hk ▸ kth_le g), ← hk, hr, ← EReal.coe_sub, sub_self]
        show (1 : EReal) = ((Real.exp 0 : ℝ) : EReal)
        rw [Real.exp_zero]; rfl
      · show (0 : EReal) ≤ if kth g ≤ g k then Ideal.exp (g k - top g) else 0
        split
        · exact exp_nonneg _
        · exact le_rfl
    exact (lt_of_lt_of_le zero_lt_one h1).ne'
  unfold Ideal.div
  rw [if_neg hd, zero_mul]

/-! ## The experts some row keeps, in order -/

section Listing

variable (S : Finset (Fin 64)) (hS : S.Nonempty)

/-- How many of them are at most `e`. -/
def rank (e : Fin 64) : ℕ := (S.filter (· ≤ e)).card

/-- Expert `j` of the list: the `j`-th of them, and the last once they are used up. -/
def nth (j : Fin 64) : Fin 64 := if h : j.val < S.card then S.orderEmbOfFin rfl ⟨j.val, h⟩ else S.max' hS

theorem nth_mem (j : Fin 64) : nth S hS j ∈ S := by
  unfold nth
  split
  · exact S.orderEmbOfFin_mem rfl _
  · exact S.max'_mem hS

theorem nth_mono {i j : Fin 64} (h : i ≤ j) : nth S hS i ≤ nth S hS j := by
  by_cases hj : j.val < S.card
  · have hi : i.val < S.card := lt_of_le_of_lt h hj
    unfold nth
    rw [dif_pos hi, dif_pos hj]
    exact (S.orderEmbOfFin rfl).monotone (Fin.le_def.mpr h)
  · have e : nth S hS j = S.max' hS := dif_neg hj
    rw [e]
    exact S.le_max' _ (nth_mem S hS i)

theorem card_le : S.card ≤ 64 := (Finset.card_le_univ S).trans (by simp)

theorem nth_complete {e : Fin 64} (he : e ∈ S) : ∃ j, nth S hS j = e := by
  have : e ∈ Set.range (S.orderEmbOfFin rfl) := by rw [Finset.range_orderEmbOfFin]; exact he
  obtain ⟨i, hi⟩ := this
  refine ⟨⟨i.val, lt_of_lt_of_le i.isLt (card_le S)⟩, ?_⟩
  unfold nth
  rw [dif_pos (show (⟨i.val, lt_of_lt_of_le i.isLt (card_le S)⟩ : Fin 64).val < S.card from i.isLt)]
  exact hi

theorem rank_nth {j : Fin 64} (h : j.val < S.card) : rank S (nth S hS j) = j.val + 1 := by
  have e : nth S hS j = S.orderEmbOfFin rfl ⟨j.val, h⟩ := dif_pos h
  have : S.filter (· ≤ nth S hS j) = (Finset.Iic (⟨j.val, h⟩ : Fin S.card)).map (S.orderEmbOfFin rfl).toEmbedding := by
    ext x
    rw [Finset.mem_filter, Finset.mem_map, e]
    constructor
    · rintro ⟨hx, hle⟩
      have : x ∈ Set.range (S.orderEmbOfFin rfl) := by rw [Finset.range_orderEmbOfFin]; exact hx
      obtain ⟨i, rfl⟩ := this
      exact ⟨i, Finset.mem_Iic.mpr ((S.orderEmbOfFin rfl).le_iff_le.mp hle), rfl⟩
    · rintro ⟨i, hi, rfl⟩
      exact ⟨S.orderEmbOfFin_mem rfl i, (S.orderEmbOfFin rfl).monotone (Finset.mem_Iic.mp hi)⟩
  unfold rank
  rw [this, Finset.card_map, Fin.card_Iic]

theorem rank_lt {e e' : Fin 64} (he' : e' ∈ S) (h : e < e') : rank S e < rank S e' := by
  refine Finset.card_lt_card (Finset.ssubset_iff_of_subset (fun x hx => ?_) |>.mpr ⟨e', ?_, ?_⟩)
  · rw [Finset.mem_filter] at hx ⊢
    exact ⟨hx.1, hx.2.trans h.le⟩
  · exact Finset.mem_filter.mpr ⟨he', le_rfl⟩
  · rw [Finset.mem_filter]
    exact fun hx => absurd h (not_lt.mpr hx.2)

theorem rank_inj {e e' : Fin 64} (he : e ∈ S) (he' : e' ∈ S) (h : rank S e = rank S e') : e = e' := by
  rcases lt_trichotomy e e' with hl | hl | hl
  · exact absurd h (rank_lt S he' hl).ne
  · exact hl
  · exact absurd h (rank_lt S he hl).ne'

/-! The same, computed as sums over the extended reals. -/

theorem sum_ones (T : Finset (Fin 64)) (p : Fin 64 → Prop) [DecidablePred p] :
    (∑ e ∈ T, if p e then (1 : EReal) else 0) = (((T.filter p).card : ℝ) : EReal) := by
  induction T using Finset.induction_on with
  | empty => simp
  | insert a T ha ih =>
    rw [Finset.sum_insert ha, ih, Finset.filter_insert]
    by_cases h : p a
    · rw [if_pos h, if_pos h, Finset.card_insert_of_notMem (fun hm => ha (Finset.mem_filter.mp hm).1), Nat.cast_add, EReal.coe_add, add_comm,
        Nat.cast_one, EReal.coe_one]
    · rw [if_neg h, if_neg h, zero_add]

/-- One where the expert is kept, zero elsewhere. -/
def act (e : Fin 64) : EReal := if e ∈ S then 1 else 0

theorem act_pos (e : Fin 64) : 0 < act S e ↔ e ∈ S := by
  unfold act
  split
  · next h => exact ⟨fun _ => h, fun _ => zero_lt_one⟩
  · next h => exact ⟨fun h' => absurd h' (lt_irrefl _), fun h' => absurd h' h⟩

theorem sum_act : ∑ e, act S e = ((S.card : ℝ) : EReal) := by
  unfold act
  rw [sum_ones]
  congr 3
  ext x; simp

theorem sum_rank (e : Fin 64) : (∑ r, act S r * if r ≤ e then 1 else 0) = ((rank S e : ℝ) : EReal) := by
  have : ∀ r, (act S r * if r ≤ e then (1 : EReal) else 0) = if r ∈ S ∧ r ≤ e then 1 else 0 := fun r => by
    unfold act
    by_cases h : r ∈ S <;> by_cases h' : r ≤ e <;> simp [h, h']
  rw [Finset.sum_congr rfl fun r _ => this r, sum_ones]
  unfold rank
  congr 3
  ext x; simp

theorem sum_slot {j : Fin 64} (h : j.val < S.card) :
    (∑ e : Fin 64, if ((rank S e : ℝ) : EReal) - 1 = ((j.val : ℝ) : EReal) ∧ e ∈ S then ((e.val : ℝ) : EReal) else 0)
      = (((nth S hS j).val : ℝ) : EReal) := by
  have hr : ∀ e, ((rank S e : ℝ) : EReal) - 1 = ((j.val : ℝ) : EReal) ↔ rank S e = j.val + 1 := fun e => by
    rw [← EReal.coe_one, ← EReal.coe_sub, EReal.coe_eq_coe_iff, sub_eq_iff_eq_add]
    exact_mod_cast Iff.rfl
  rw [Finset.sum_eq_single (nth S hS j) (fun e _ hne => if_neg fun hc => hne (rank_inj S hc.2 (nth_mem S hS j)
    (((hr e).mp hc.1).trans (rank_nth S hS h).symm))) (fun hn => absurd (Finset.mem_univ _) hn)]
  exact if_pos ⟨(hr _).mpr (rank_nth S hS h), nth_mem S hS j⟩

theorem sup_last : (Finset.univ.sup fun e : Fin 64 => if e ∈ S then ((e.val : ℝ) : EReal) else ((-1 : ℝ) : EReal)) = (((S.max' hS).val : ℝ) : EReal) := by
  refine le_antisymm (Finset.sup_le fun e _ => ?_) ?_
  · split
    · next h => exact EReal.coe_le_coe_iff.mpr (by exact_mod_cast Fin.le_def.mp (S.le_max' e h))
    · refine EReal.coe_le_coe_iff.mpr ?_
      have : (0 : ℝ) ≤ ((S.max' hS).val : ℝ) := Nat.cast_nonneg _
      linarith
  · refine le_of_eq_of_le ?_ (Finset.le_sup (f := fun e : Fin 64 => if e ∈ S then ((e.val : ℝ) : EReal) else ((-1 : ℝ) : EReal)) (Finset.mem_univ (S.max' hS)))
    exact (if_pos (S.max'_mem hS)).symm

/-- The list's entry as the program selects it. -/
theorem select_nth (j : Fin 64) :
    (if ((j.val : ℝ) : EReal) < ((S.card : ℝ) : EReal) then
        ∑ e : Fin 64, if ((rank S e : ℝ) : EReal) - 1 = ((j.val : ℝ) : EReal) ∧ e ∈ S then ((e.val : ℝ) : EReal) else 0
      else Finset.univ.sup fun e : Fin 64 => if e ∈ S then ((e.val : ℝ) : EReal) else ((-1 : ℝ) : EReal))
      = (((nth S hS j).val : ℝ) : EReal) := by
  by_cases h : j.val < S.card
  · rw [if_pos (EReal.coe_lt_coe_iff.mpr (by exact_mod_cast h)), sum_slot S hS h]
  · rw [if_neg (fun hc => h (by exact_mod_cast EReal.coe_lt_coe_iff.mp hc)), sup_last S hS]
    unfold nth
    rw [dif_neg h]

end Listing

/-- A small natural, read off its extended real. -/
theorem fptosi_nat (n : ℕ) (hn : n < 64) : (Ideal.fptosi 32 ((n : ℝ) : EReal)).toNat = n := by
  have e : Ideal.fptosi 32 ((n : ℝ) : EReal) = BitVec.ofNat 32 n := by
    show BitVec.ofInt 32 (max _ (min _ (if (0 : ℝ) ≤ (n : ℝ) then ⌊(n : ℝ)⌋ else ⌈(n : ℝ)⌉))) = _
    rw [if_pos (Nat.cast_nonneg n), Int.floor_natCast]
    have : max (-((2 ^ (32 - 1) : ℕ) : ℤ)) (min (((2 ^ (32 - 1) : ℕ) : ℤ) - 1) (n : ℤ)) = (n : ℤ) := by
      norm_num; omega
    rw [this]; exact BitVec.ofInt_natCast ..
  rw [e, BitVec.toNat_ofNat]
  exact Nat.mod_eq_of_lt (by omega)

end Cert.Layer.Router

end
-- ==== Proof.Layer.Gates.lean ====
/-
  What the gate kernel stores, over the extended reals: the logits, the gates of the router, and the list of the experts
  some row keeps.
-/
module

public import proofs.«01_k».proof.Proof.Gen.LayerIdeal.Skeleton
public import proofs.«01_k».proof.Proof.Layer.Router

@[expose] public section

set_option maxRecDepth 16384

noncomputable section

namespace Cert.Layer.Gates

open Cert.LayerIdeal hiding ix2
open Cert.LayerIdeal.Gen
open Idealize.ShloMosaic Cert.Softmax Cert.Layer.Router

variable (x : FVec Ideal S64x1024 .f32) (Wg : FVec Ideal S1024x64 .f32) (bg : FVec Ideal S64 .f32)

/-- Row `b` of the logits. -/
def row (b : Fin 64) : Fin 64 → EReal := logit x Wg bg b

theorem pay2_apply (b e : Fin 64) : k0_pay2 (F := Ideal) x Wg bg (ix2 b e) = row x Wg bg b e := by
  pointwise [k0_pay2]
  rfl

theorem fold_sup {I : Type} (s : Finset I) (f : I → EReal) : s.fold max (Ideal.ofBits .f32 0xFF800000#32) f = s.sup f := by
  rw [ofBits_bot]; rfl

/-- A bit as a number. -/
theorem bit_apply (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℝ)) : EReal) = _
  by_cases h : p
  · rw [if_pos h, decide_eq_true h, show (BitVec.setWidth 32 (BitVec.ofBool true)).toInt = 1 from by decide, Int.cast_one, EReal.coe_one]
  · rw [if_neg h, decide_eq_false h, show (BitVec.setWidth 32 (BitVec.ofBool false)).toInt = 0 from by decide, Int.cast_zero, EReal.coe_zero]

/-- A small word as a number. -/
theorem word_apply (j : Fin 64) : (FloatOps.sitofp (F := Ideal) .f32 (BitVec.ofNat 32 j.val) : EReal) = ((j.val : ℝ) : EReal) := by
  have e : ∀ j : Fin 64, (BitVec.ofNat 32 j.val).toInt = (j.val : ℤ) := by decide
  show ((((BitVec.ofNat 32 j.val).toInt : ℝ)) : EReal) = _
  rw [e j, Int.cast_natCast]

theorem ofBits_two : Ideal.ofBits .f32 0x40000000#32 = 2 := by
  simp [Ideal.ofBits, Ideal.ieee]
  rw [← EReal.coe_mul, show (2 : EReal) = ((2 : ℝ) : EReal) from rfl]
  congr 1; norm_num
theorem ofBits_neg_one : Ideal.ofBits .f32 0xBF800000#32 = ((-1 : ℝ) : EReal) := by
  simp [Ideal.ofBits, Ideal.ieee]
  rw [← EReal.coe_mul, ← EReal.coe_one]
  congr 1; norm_num

theorem pay3_apply (b : Fin 64) : k0_pay3 (F := Ideal) x Wg bg (ix2 b 0) = top (row x Wg bg b) := by
  pointwise [k0_pay3]
  rw [fold_sup]
  exact congrArg _ (funext fun e => pay2_apply x Wg bg b e)

/-- The mask: what reaches its row's threshold. -/
theorem pay4_apply (b e : Fin 64) : k0_pay4 (F := Ideal) x Wg bg (ix2 b e)
    = BitVec.ofBool (decide (kth (row x Wg bg b) ≤ row x Wg bg b e)) := by
  pointwise [k0_pay4]
  simp only [pay2_apply, pay3_apply, bit_apply, fold_sup, ofBits_bot, ofBits_two]
  have h2 : (2 : EReal) ≤ (∑ e, if row x Wg bg b e = top (row x Wg bg b) then (1 : EReal) else 0) ↔ 2 ≤ (ties (row x Wg bg b)).card := by
    rw [sum_ones, show (2 : EReal) = ((2 : ℝ) : EReal) from rfl, EReal.coe_le_coe_iff]
    exact_mod_cast Iff.rfl
  congr 2
  unfold kth rest
  simp only [h2]

theorem pay5_apply (b e : Fin 64) : k0_pay5 (F := Ideal) x Wg bg (ix2 b e) = gate (row x Wg bg b) e := by
  have hs : ∀ (p : Prop) [Decidable p] (u : EReal), Scalar.select (BitVec.ofBool (decide p)) u 0 = if p then u else 0 := fun p _ u => by
    by_cases h : p
    · rw [if_pos h, decide_eq_true h]; rfl
    · rw [if_neg h, decide_eq_false h]; rfl
  pointwise [k0_pay5]
  simp only [pay2_apply, pay3_apply, pay4_apply]
  rw [gate_eq]
  exact congrArg₂ Ideal.div (hs _ _) (Finset.sum_congr rfl fun k _ => hs _ _)

/-! ## The list -/

/-- The experts some row keeps. -/
def keptBy : Finset (Fin 64) := Finset.univ.filter fun e => ∃ b, kth (row x Wg bg b) ≤ row x Wg bg b e

theorem keptBy_nonempty : (keptBy x Wg bg).Nonempty := by
  obtain ⟨e, he⟩ := attained (row x Wg bg 0)
  exact ⟨e, Finset.mem_filter.mpr ⟨Finset.mem_univ _, 0, he ▸ kth_le _⟩⟩

theorem pay6_apply (e : Fin 64) : k0_pay6 (F := Ideal) x Wg bg (ix2 0 e) = act (keptBy x Wg bg) e := by
  pointwise [k0_pay6]
  simp only [pay4_apply, bit_apply, fold_sup]
  unfold act
  split
  case isTrue h =>
    obtain ⟨b, hb⟩ := (Finset.mem_filter.mp h).2
    refine le_antisymm (Finset.sup_le fun b _ => ?_) ?_
    · split
      · exact le_rfl
      · exact zero_le_one
    · refine le_of_eq_of_le ?_ (Finset.le_sup (f := fun b => if kth (row x Wg bg b) ≤ row x Wg bg b e then (1 : EReal) else 0) (Finset.mem_univ b))
      exact (if_pos hb).symm
  case isFalse h =>
    have hn : ∀ b, ¬ kth (row x Wg bg b) ≤ row x Wg bg b e := fun b hb => h (Finset.mem_filter.mpr ⟨Finset.mem_univ _, b, hb⟩)
    refine le_antisymm (Finset.sup_le fun b _ => (if_neg (hn b)).le) ?_
    refine le_of_eq_of_le ?_ (Finset.le_sup (f := fun b => if kth (row x Wg bg b) ≤ row x Wg bg b e then (1 : EReal) else 0) (Finset.mem_univ 0))
    exact (if_neg (hn 0)).symm

theorem upto_apply (r e : Fin 64) :
    (FloatOps.sitofp (F := Ideal) .f32 (BitVec.setWidth 32 (IntOp.cmpi CmpIPredicate.sle (BitVec.ofNat 32 r.val) (BitVec.ofNat 32 e.val))) : EReal)
      = if r ≤ e then 1 else 0 := by
  have h : ∀ r e : Fin 64, IntOp.cmpi CmpIPredicate.sle (BitVec.ofNat 32 r.val) (BitVec.ofNat 32 e.val) = BitVec.ofBool (decide (r ≤ e)) := by decide +kernel
  rw [h, bit_apply]

theorem fold_pair (f : Fin 64 → EReal) {s : Finset (Fin 1 × Fin 64)} (hs : s = Finset.univ) : s.sup (fun x => f x.2) = Finset.univ.sup f := by
  subst hs
  refine le_antisymm (Finset.sup_le fun x _ => Finset.le_sup (f := f) (Finset.mem_univ _)) (Finset.sup_le fun e _ => ?_)
  exact Finset.le_sup (f := fun x : Fin 1 × Fin 64 => f x.2) (Finset.mem_univ (0, e))

/-- The list's entry, of any row of flags. -/
theorem pay1_apply (S : Finset (Fin 64)) (hS : S.Nonempty) (v : FVec Ideal S1x64 .f32) (hv : ∀ e, v (ix2 0 e) = act S e) (j : Fin 64) :
    (k0_pay1 (F := Ideal) v (ix2 j 0)).toNat = (nth S hS j).val := by
  have e : k0_pay1 (F := Ideal) v (ix2 j 0) = Ideal.fptosi 32 (((nth S hS j).val : ℝ) : EReal) := by
    rw [← select_nth S hS j]
    pointwise [k0_pay1]
    simp only [hv, upto_apply, word_apply, fold_sup, ofBits_neg_one, sum_rank, act_pos]
    have ha : ∀ (p q : Prop) [Decidable p] [Decidable q] (u : EReal),
        Scalar.select (IntOp.andi (BitVec.ofBool (decide p)) (BitVec.ofBool (decide q))) u 0 = if p ∧ q then u else 0 := fun p q _ _ u => by
      by_cases hp : p <;> by_cases hq : q <;> simp [hp, hq] <;> rfl
    rw [Finset.sum_congr rfl fun x _ => ha (((rank S x : ℝ) : EReal) - 1 = ((j.val : ℝ) : EReal)) (x ∈ S) ((x.val : ℝ) : EReal),
      fold_pair (fun e => if e ∈ S then ((e.val : ℝ) : EReal) else ((-1 : ℝ) : EReal)) rfl, sum_act]
    simp only [Finset.univ_unique, Finset.sum_singleton]
    rfl
  rw [e]
  exact fptosi_nat _ (nth S hS j).isLt

end Cert.Layer.Gates

end
-- ==== Proof.Layer.Sum.lean ====
/-
  What the expert kernel of the layer accumulates, over the extended reals: the running sum of Moe.lean along its table; and,
  where the table lists the experts of nonzero gate, the layer's output.
-/
module

public import proofs.«01_k».proof.Proof.Layer.Experts
public import proofs.«01_k».proof.Proof.Expert.Value

@[expose] public section

set_option maxRecDepth 16384

noncomputable section

namespace Cert.Layer.Sum

open Cert.LayerIdeal hiding ix2
open Cert.LayerIdeal.Gen Cert.Layer.Step Cert.Layer.Experts
open Cert.ExpertIdeal.Value (walk entry Listed)
open Idealize.ShloMosaic Idealize.ShloMosaic.TcCoe Idealize.SL.Sem

variable (A : Entry Ideal) (h : InRange A) (c : Dev nD)

/-- The operands at the region's entry. -/
abbrev aX : Moe.Rows := A c main_v0
abbrev aG : Moe.Gates := A c main_v1_1
abbrev aW1 : Moe.Stack := A c main_arg3
abbrev aB1 : Moe.Rows := A c main_arg4
abbrev aW2 : Moe.Stack := A c main_arg5
abbrev aB2 : Moe.Rows := A c main_arg6
abbrev aWf : Moe.Square := A c main_arg7
abbrev aBf : Moe.Column := A c main_arg8

/-- An expert's gated output, at row `b` and column `k`. -/
abbrev term (b : Fin 64) (k : Fin 1024) (e : Fin 64) : EReal :=
  aG A c (ix2 b e) * Moe.expertOut (aX A c) (aW1 A c) (aB1 A c) (aW2 A c) (aB2 A c) b e k

theorem at_coord (t : Fin grid2.N) : grid2.coords t 0 = Fin.ofNat 64 t.val := Fin.ext (by
  rw [coord]; exact (Nat.mod_eq_of_lt (Nat.lt_of_lt_of_eq t.isLt N_2)).symm)

include h in
/-- The point's word is its expert. -/
theorem word_at (t : Fin grid2.N) :
    word (F := Ideal) c (grid2.coords t) (list A) = BitVec.ofNat 32 (walk (list A) t.val).val := by
  rw [word_eq (F := Ideal) c (grid2.coords t) (list A), at_coord]
  apply BitVec.eq_of_toNat_eq
  have := h (Fin.ofNat 64 t.val)
  show _ = (BitVec.ofNat 32 ((entry (list A) (Fin.ofNat 64 t.val)).toNat % 64)).toNat
  rw [BitVec.toNat_ofNat]
  show (list A (ix2 (Fin.ofNat 64 t.val) 0)).toNat = _
  have e : entry (list A) (Fin.ofNat 64 t.val) = list A (ix2 (Fin.ofNat 64 t.val) 0) := rfl
  rw [e]
  omega

include h in
/-- The word before it is the expert of the point before. -/
theorem before_at (n : ℕ) (hn : n + 1 < grid2.N) :
    wordBefore (F := Ideal) c (grid2.coords ⟨n + 1, hn⟩) (list A) = BitVec.ofNat 32 (walk (list A) n).val := by
  refine Eq.trans ?_ (word_at A h c ⟨n, Nat.lt_of_succ_lt hn⟩)
  refine Eq.trans ?_ (word_eq (F := Ideal) c (grid2.coords ⟨n, Nat.lt_of_succ_lt hn⟩) (list A)).symm
  refine (ExpertIdeal.Value.wordBefore_eq (F := Ideal) c (grid2.coords ⟨n + 1, hn⟩) (list A)).trans ?_
  refine congrArg (entry (list A)) (Fin.ext ?_)
  show (grid2.coords (⟨n + 1, hn⟩ : Fin grid2.N) 0).val - 1 = (grid2.coords (⟨n, Nat.lt_of_succ_lt hn⟩ : Fin grid2.N) 0).val
  rw [coord, coord]
  rfl

theorem fresh_iff (i : grid2.Coords) (v w : BitVec 32) : Fresh i v w ↔ (i 0).val = 0 ∨ v ≠ w :=
  ExpertIdeal.Value.cond1_iff i v w

include h in
theorem fresh_at (n : ℕ) (hn : n + 1 < grid2.N) :
    Fresh (grid2.coords ⟨n + 1, hn⟩) (word (F := Ideal) c (grid2.coords ⟨n + 1, hn⟩) (list A)) (wordBefore (F := Ideal) c (grid2.coords ⟨n + 1, hn⟩) (list A))
      ↔ walk (list A) (n + 1) ≠ walk (list A) n := by
  rw [fresh_iff, coord, word_at A h c, before_at A h c]
  constructor
  · rintro (hz | hne) he
    · exact absurd hz (Nat.succ_ne_zero n)
    · exact hne (by rw [he])
  · intro hne
    refine Or.inr fun hc => hne (Fin.ext ?_)
    have := congrArg BitVec.toNat hc
    simp only [BitVec.toNat_ofNat] at this
    omega

/-- The fetched blocks of the two stacks are the point's expert's matrices. -/
theorem iblk_2 (t : Fin grid2.N) (d k : Fin 1024) : iblk A h c 2 t (ix3 0 d k) = aW1 A c (ix3 (walk (list A) t.val) d k) := by
  show aW1 A c _ = aW1 A c _
  congr 1; funext a; apply Fin.ext; fin_cases a
  · show (word (F := Ideal) c (grid2.coords t) (list A)).toNat * 1 + 0 * 1 = (walk (list A) t.val).val
    rw [word_at A h c, BitVec.toNat_ofNat]
    omega
  · show 0 * 1024 + 1 * d.val = d.val; omega
  · show 0 * 1024 + 1 * k.val = k.val; omega

theorem iblk_4 (t : Fin grid2.N) (d k : Fin 1024) : iblk A h c 4 t (ix3 0 d k) = aW2 A c (ix3 (walk (list A) t.val) d k) := by
  show aW2 A c _ = aW2 A c _
  congr 1; funext a; apply Fin.ext; fin_cases a
  · show (word (F := Ideal) c (grid2.coords t) (list A)).toNat * 1 + 0 * 1 = (walk (list A) t.val).val
    rw [word_at A h c, BitVec.toNat_ofNat]
    omega
  · show 0 * 1024 + 1 * d.val = d.val; omega
  · show 0 * 1024 + 1 * k.val = k.val; omega

theorem row_apply (x : Vec Ideal S64x1024 .f32) (v : BitVec 32) (hv) (e : Fin 64) (he : v = BitVec.ofNat 32 e.val) (k : Fin 1024) :
    row x v hv (ix2 0 k) = x (ix2 e k) := by
  show x _ = x _
  congr 1; funext a; apply Fin.ext; fin_cases a
  · show (v.setWidth _).toNat + 0 * 1 = e.val
    subst he
    simp [BitVec.toNat_setWidth]
    omega
  · show 0 + 1 * k.val = k.val; omega

theorem narrowed (x : Vec Ideal S64x1024 .f32) (b : Fin 64) (k : Fin 1024) : k2_pay2 (F := Ideal) x (ix2 b k) = x (ix2 b k) := by
  pointwise [k2_pay2]

/-- One point's arithmetic. -/
theorem pay3_apply (v : BitVec 32) (e : Fin 64) (hv : v = BitVec.ofNat 32 e.val) (w1 : Vec Ideal S1x1024x1024 .f32)
    (xb : Vec Ideal S64x1024 .bf16) (r1 : Vec Ideal S1x1024 .f32) (w2 : Vec Ideal S1x1024x1024 .f32)
    (r2 : Vec Ideal S1x1024 .f32) (g : Vec Ideal S64x64 .f32) (a : Vec Ideal S64x1024 .f32) (b : Fin 64) (k : Fin 1024) :
    k2_pay3 (F := Ideal) v w1 xb r1 w2 r2 g a (ix2 b k) = a (ix2 b k) + g (ix2 b e) *
      ((∑ h : Fin 1024, max ((∑ d : Fin 1024, xb (ix2 b d) * w1 (ix3 0 d h)) + r1 (ix2 0 h)) 0 * w2 (ix3 0 h k)) + r2 (ix2 0 k)) := by
  pointwise [k2_pay3]
  rw [Cert.Moe.sum_select v e hv fun j => g (ix2 b j)]

/-- A computing point adds its expert's gated output. -/
theorem step (e : Fin 64) (v : BitVec 32) (hw : v = BitVec.ofNat 32 e.val)
    (x2 x4 : Vec Ideal S1x1024x1024 .f32) (a : Vec Ideal S64x1024 .f32) (hv hv')
    (h2 : ∀ d k, x2 (ix3 0 d k) = aW1 A c (ix3 e d k)) (h4 : ∀ d k, x4 (ix3 0 d k) = aW2 A c (ix3 e d k)) (b : Fin 64) (k : Fin 1024) :
    k2_pay3 (F := Ideal) v x2 (k2_pay2 (F := Ideal) (aX A c)) (row (aB1 A c) v hv) x4 (row (aB2 A c) v hv') (aG A c) a (ix2 b k)
      = a (ix2 b k) + term A c b k e := by
  have r1 := row_apply (aB1 A c) v hv e hw
  have r2 := row_apply (aB2 A c) v hv' e hw
  have hb := narrowed (aX A c)
  generalize row (F := Ideal) (aB1 A c) v hv = q1 at r1 ⊢
  generalize row (F := Ideal) (aB2 A c) v hv' = q2 at r2 ⊢
  generalize k2_pay2 (F := Ideal) (aX A c) = q3 at hb ⊢
  rw [pay3_apply v e hw]
  simp only [h2, h4, r1, r2, hb]
  rfl

/-- After each point the accumulator holds the running sum. -/
theorem acc_val : ∀ (n : ℕ), n < grid2.N → ∀ (b : Fin 64) (k : Fin 1024),
    accAt A h c (n + 1) (ix2 b k) = Moe.runningSum (walk (list A)) (term A c b k) n
  | 0, hn, b, k => by
    have hf := (fresh_iff (grid2.coords ⟨0, hn⟩) (word (F := Ideal) c (grid2.coords ⟨0, hn⟩) (list A)) (wordBefore (F := Ideal) c (grid2.coords ⟨0, hn⟩) (list A))).mpr
      (Or.inl (coord ⟨0, hn⟩))
    refine (congrFun (accAt_fresh A h c ⟨0, hn⟩ hf) (ix2 b k)).trans ?_
    refine (step A c (walk (list A) 0) _ (word_at A h c ⟨0, hn⟩) _ _ _ _ _ (iblk_2 A h c ⟨0, hn⟩) (iblk_4 A h c ⟨0, hn⟩) b k).trans ?_
    exact congrArg (· + term A c b k (walk (list A) 0)) (ExpertIdeal.Value.pay1_apply b k)
  | n + 1, hn, b, k => by
    have ih := acc_val n (Nat.lt_of_succ_lt hn) b k
    by_cases h1 : walk (list A) (n + 1) = walk (list A) n
    · refine (congrFun (accAt_same A h c ⟨n + 1, hn⟩ fun hc => (fresh_at A h c n hn).mp hc h1) (ix2 b k)).trans ?_
      exact ih.trans (if_pos h1).symm
    · refine (congrFun (accAt_fresh A h c ⟨n + 1, hn⟩ ((fresh_at A h c n hn).mpr h1)) (ix2 b k)).trans ?_
      refine (step A c (walk (list A) (n + 1)) _ (word_at A h c ⟨n + 1, hn⟩) _ _ _ _ _ (iblk_2 A h c ⟨n + 1, hn⟩) (iblk_4 A h c ⟨n + 1, hn⟩) b k).trans ?_
      exact (congrArg (· + term A c b k (walk (list A) (n + 1))) ih).trans (if_neg h1).symm

/-- Where the table lists the experts of nonzero gate, the result is the layer's output. -/
theorem final_eq (hL : Listed (list A) (aG A c)) :
    final A h c = Moe.output (aX A c) (aG A c) (aW1 A c) (aB1 A c) (aW2 A c) (aB2 A c) (aWf A c) (aBf A c) := by
  refine funext fun (j : S64x1024.Idx) => ?_
  obtain ⟨b, k, rfl⟩ : ∃ (b : Fin 64) (k : Fin 1024), j = ix2 b k := ⟨j 0, j 1, eq_ix2 j⟩
  unfold final
  refine (ExpertIdeal.Value.pay4_apply (accAt A h c 64) (aWf A c) (aBf A c) b k).trans ?_
  refine congrArg (· + _) (Finset.sum_congr rfl fun j _ => congrArg (· * _) ?_)
  refine (acc_val A h c 63 (by rw [N_2]; decide) b j).trans ?_
  exact ExpertIdeal.Value.listed_sum (list A) (aG A c) hL _ b

end Cert.Layer.Sum

end
-- ==== Proof.Layer.Finite.lean ====
/-
  What the precondition `finite` says of its arguments over the extended reals: every token, every gate weight and every gate
  bias is a real number; hence so is every logit.
-/
module

public import proofs.«01_k».proof.Proof.Gen.Pre_finite
public import proofs.«01_k».proof.Proof.Probs.Softmax
public import Idealize.ShloMosaic.Lib.ReduceAll
public import Idealize.ShloMosaic.Lib.Pointwise
public import Idealize.ShloMosaic.Lib.Routing.OpsOrder

@[expose] public section

set_option maxRecDepth 16384

noncomputable section

namespace Cert.Layer.Finite

open Cert.Pre_finite Cert.Pre_finite.Gen Idealize.ShloMosaic

theorem bit (p : Bool) : (BitVec.ofBool p = 1#1) ↔ p = true := by cases p <;> decide
theorem andi_bit (a b : BitVec 1) : IntOp.andi a b = 1#1 ↔ a = 1#1 ∧ b = 1#1 := IntOp.andi_eq_one

instance : Subsingleton S_.Idx := ⟨fun a b => funext fun i => i.elim0⟩

/-- A number whose absolute value is below infinity is real. -/
theorem real_of (x : EReal) (h : FloatOps.cmpf (F := Ideal) (φ := .f32) .olt (FloatOps.absf (F := Ideal) (φ := .f32) x) (Ideal.ofBits .f32 0x7F800000#32) = 1#1) :
    ∃ r : ℝ, x = r := by
  have e : Ideal.ofBits .f32 0x7F800000#32 = ⊤ := by simp [Ideal.ofBits, Ideal.ieee]
  rw [e] at h
  induction x with
  | bot => exfalso; revert h; simp [FloatOps.cmpf, FloatOps.absf, Ideal.cmp]
  | top => exfalso; revert h; simp [FloatOps.cmpf, FloatOps.absf, Ideal.cmp]
  | coe r => exact ⟨r, rfl⟩

section
variable {a0 : FVec Ideal S1x64x1024 .f32} {a1 : FVec Ideal S1024x64 .f32} {a2 : FVec Ideal S64 .f32} {a3 : FVec Ideal S64x1024x1024 .f32}
  {a4 : FVec Ideal S64x1024 .f32} {a5 : FVec Ideal S64x1024x1024 .f32} {a6 : FVec Ideal S64x1024 .f32} {a7 : FVec Ideal S1024x1024 .f32}
  {a8 : FVec Ideal S1024 .f32} (h : fn (F := Ideal) a0 a1 a2 a3 a4 a5 a6 a7 a8 = fun _ => 1#1)

include h

theorem tokens (j : S1x64x1024.Idx) : ∃ r : ℝ, a0 j = r := by
  have e := congrFun h (fun i => i.elim0)
  unfold fn at e
  dsimp only at e
  exact real_of _ (Host.reduce_andi_all _ _ _ _ _ ((andi_bit _ _).1 ((andi_bit _ _).1 e).1).1 j)

theorem weights (j : S1024x64.Idx) : ∃ r : ℝ, a1 j = r := by
  have e := congrFun h (fun i => i.elim0)
  unfold fn at e
  dsimp only at e
  exact real_of _ (Host.reduce_andi_all _ _ _ _ _ ((andi_bit _ _).1 ((andi_bit _ _).1 e).1).2 j)

theorem biases (j : S64.Idx) : ∃ r : ℝ, a2 j = r := by
  have e := congrFun h (fun i => i.elim0)
  unfold fn at e
  dsimp only at e
  exact real_of _ (Host.reduce_andi_all _ _ _ _ _ ((andi_bit _ _).1 e).2 j)

end

/-- A logit of real numbers is real. -/
theorem logit_real (x : FVec Ideal ⟨2, ![64, 1024]⟩ .f32) (Wg : FVec Ideal ⟨2, ![1024, 64]⟩ .f32) (bg : FVec Ideal ⟨1, ![64]⟩ .f32)
    (hx : ∀ j, ∃ r : ℝ, x j = r) (hW : ∀ j, ∃ r : ℝ, Wg j = r) (hb : ∀ j, ∃ r : ℝ, bg j = r) (b e : Fin 64) :
    ∃ r : ℝ, Cert.Softmax.logit x Wg bg b e = r := by
  choose x' hx using hx
  choose W' hW using hW
  choose b' hb using hb
  refine ⟨(∑ d : Fin 1024, x' (ix2 b d) * W' (ix2 d e)) + b' (ix1 e), ?_⟩
  unfold Cert.Softmax.logit
  rw [EReal.coe_add, hb]
  congr 1
  rw [Finset.sum_congr rfl fun d _ => show x (ix2 b d) * Wg (ix2 d e) = ((x' (ix2 b d) * W' (ix2 d e) : ℝ) : EReal) by rw [hx, hW, EReal.coe_mul]]
  exact (map_sum (⟨⟨Real.toEReal, EReal.coe_zero⟩, EReal.coe_add⟩ : ℝ →+ EReal) _ _).symm

end Cert.Layer.Finite

end
-- ==== Proof.Layer.Ref.lean ====
/-
  The whole layer's reference over the extended reals: its two terms are the layer's output, with the gates of the router, and
  the softmax of the logits.
-/
module

public import proofs.«01_k».proof.Proof.Gen.LayerReferenceIdeal.Run
public import proofs.«01_k».proof.Proof.Layer.Router
public import proofs.«01_k».proof.Proof.Expert.Pay
public import proofs.«01_k».proof.Proof.Probs.Value

@[expose] public section

set_option maxRecDepth 16384

noncomputable section

namespace Cert.Layer.Ref

open Cert.LayerReferenceIdeal Cert.LayerReferenceIdeal.Gen Cert.Layer.Router Cert.Softmax
open Idealize.ShloMosaic Idealize.ShloMosaic.TcCoe Idealize.SL.Sem

/-- The logits, as the reference computes them. -/
def logits (x : FVec Ideal S64x1024 .f32) (Wg : FVec Ideal S1024x64 .f32) (bg : FVec Ideal S64 .f32) : FVec Ideal S64x64 .f32 :=
  addf (Host.dotGeneral dot_S64x1024_S1024x64_S64x64_1_0_0_1_n_n none x Wg) (broadcastInDim S64x64 ![0, 1] bcast_S1x64_S64x64_0_1 (broadcastInDim S1x64 ![1] bcast_S64_S1x64_1 bg))

/-- The logits, those below their row's second greatest put at minus infinity. -/
def masked (H : FVec Ideal S64x64 .f32) : FVec Ideal S64x64 .f32 :=
  select (cmpf .oge H (broadcastInDim S64x64 ![0, 1] bcast_S64x1_S64x64_0_1 (extractStridedSlice S64x1 ![0, 1] ((Host.topK S64x2 1 (FloatOps.cmpfTotal .gt) H sliceFits_S64x64_S64x2).1) slices_S64x2_S64x1_0_1))) H (broadcastInDim S64x64 ![] bcast_S_S64x64 (id (constant S_ .f32 0xFF800000#32)))

/-- The softmax of every row. -/
def softmax (H : FVec Ideal S64x64 .f32) : FVec Ideal S64x64 .f32 :=
  Host.divf (Host.exp (subf H (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf H (constant S_ .f32 0xFF800000#32) reducesTo_S64x64_S64_d1 h_S_)))))) (broadcastInDim S64x64 ![0, 1] bcast_S64x1_S64x64_0_1 (broadcastInDim S64x1 ![0] bcast_S64_S64x1_0 (Host.reduceAdd (Host.exp (subf H (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf H (constant S_ .f32 0xFF800000#32) reducesTo_S64x64_S64_d1 h_S_)))))) (constant S_ .f32 0x00000000#32) reducesTo_S64x64_S64_d1 h_S_)))

/-- The router's gates. -/
def gates (x : FVec Ideal S64x1024 .f32) (Wg : FVec Ideal S1024x64 .f32) (bg : FVec Ideal S64 .f32) : Moe.Gates :=
  fun j => gate (logit x Wg bg (j 0)) (j 1)

theorem logits_apply (x : FVec Ideal S64x1024 .f32) (Wg : FVec Ideal S1024x64 .f32) (bg : FVec Ideal S64 .f32) (b e : Fin 64) :
    logits x Wg bg (ix2 b e) = logit x Wg bg b e := by
  unfold logit
  pointwise [logits]

theorem softmax_apply (H : FVec Ideal S64x64 .f32) (b e : Fin 64) : softmax H (ix2 b e) = soft (fun k => H (ix2 b k)) e :=
  ProbsReferenceIdeal.Value.soft_eq H b e

/-- The second of a row's entries in descending order. -/
theorem second_apply (H : FVec Ideal S64x64 .f32) (b : Fin 64) :
    (Host.topK S64x2 1 (FloatOps.cmpfTotal .gt) H sliceFits_S64x64_S64x2).1 (ix2 b 1) = kth fun e => H (ix2 b e) := by
  rw [← second_eq]
  have hal : ∀ (j : S64x64.Idx) (k : Fin 64), j.along (1 : Fin 2) k = (ix2 (j 0) k : S64x64.Idx) := fun j k => by
    funext a; fin_cases a <;> rfl
  have key : ∀ j : S64x64.Idx, j 0 = b → j 1 = (1 : Fin 64) → H (j.along (1 : Fin 2) (sortedFrom (fun k k' =>
      FloatOps.cmpfTotal (F := Ideal) (φ := .f32) .gt (H (j.along (1 : Fin 2) k)) (H (j.along (1 : Fin 2) k')) == 1#1) (j 1))) = H (ix2 b (order (fun e => H (ix2 b e)) 1)) := by
    intro j h0 h1
    have hc : (fun k k' : Fin 64 => FloatOps.cmpfTotal (F := Ideal) (φ := .f32) .gt (H (j.along (1 : Fin 2) k)) (H (j.along (1 : Fin 2) k')) == 1#1)
        = fun k k' => decide (H (ix2 b k') < H (ix2 b k)) := by
      funext k k'
      rw [hal, hal, h0]
      show (BitVec.ofBool (decide (H (ix2 b k') < H (ix2 b k))) == 1#1) = _
      cases decide (H (ix2 b k') < H (ix2 b k)) <;> rfl
    refine (congrArg H (hal j _)).trans ?_
    rw [h0]
    refine congrArg (fun k => H (ix2 b k)) ?_
    unfold order
    exact (congrArg (fun q => sortedFrom q (j 1)) hc).trans (congrArg (sortedFrom _) h1)
  unfold Host.topK Host.sort2
  dsimp only
  rw [dif_pos (show 1 < S64x64.rank by decide)]
  exact key _ (Fin.ext (Nat.zero_add _)) rfl

theorem masked_apply (H : FVec Ideal S64x64 .f32) (b e : Fin 64) : masked H (ix2 b e) = kept (fun k => H (ix2 b k)) e := by
  unfold kept
  rw [← second_apply]
  unfold masked
  generalize (Host.topK S64x2 1 (FloatOps.cmpfTotal .gt) H sliceFits_S64x64_S64x2).1 = K
  pointwise
  exact congrArg (fun z => if K (ix2 b 1) ≤ H (ix2 b e) then H (ix2 b e) else z) ofBits_bot

theorem gates_eq (x : FVec Ideal S64x1024 .f32) (Wg : FVec Ideal S1024x64 .f32) (bg : FVec Ideal S64 .f32) :
    softmax (masked (logits x Wg bg)) = gates x Wg bg := by
  refine funext fun (j : S64x64.Idx) => ?_
  obtain ⟨b, e, rfl⟩ : ∃ b e : Fin 64, j = ix2 b e := ⟨j 0, j 1, eq_ix2 j⟩
  rw [softmax_apply]
  simp only [masked_apply, logits_apply]
  rfl

theorem tail_eq (x : Moe.Rows) (G : Moe.Gates) (W1 : Moe.Stack) (b1 : Moe.Rows) (W2 : Moe.Stack) (b2 : Moe.Rows) (Wf : Moe.Square) (bf : Moe.Column) :
    addf (Host.dotGeneral dot_S64x1024_S1024x1024_S64x1024_1_0_0_1_n_n none (Host.divf (Host.reduceAdd (mulf (broadcastInDim S64x64x1024 ![0, 1, 2] bcast_S64x64x1_S64x64x1024_0_1_2 (broadcastInDim S64x64x1 ![0, 1] bcast_S64x64_S64x64x1_0_1 G)) (addf (transpose S64x64x1024 [2, 0, 1] (Host.dotGeneral dot_S64x1024x1024_S64x64x1024_S64x1024x64_1_2_2_0_0_1 none W2 (maximumf (addf (Host.dotGeneral dot_S64x1024_S64x1024x1024_S64x64x1024_1_1_0_02_n_n none x W1) (broadcastInDim S64x64x1024 ![0, 1, 2] bcast_S1x64x1024_S64x64x1024_0_1_2 (broadcastInDim S1x64x1024 ![1, 2] bcast_S64x1024_S1x64x1024_1_2 b1))) (broadcastInDim S64x64x1024 ![] bcast_S_S64x64x1024 (constant S_ .f32 0x00000000#32)))) transposes_S64x1024x64_S64x64x1024_2_0_1) (broadcastInDim S64x64x1024 ![0, 1, 2] bcast_S1x64x1024_S64x64x1024_0_1_2 (broadcastInDim S1x64x1024 ![1, 2] bcast_S64x1024_S1x64x1024_1_2 b2)))) (constant S_ .f32 0x00000000#32) reducesTo_S64x64x1024_S64x1024_d1 h_S_) (broadcastInDim S64x1024 ![] bcast_S_S64x1024 (constant S_ .f32 0x3F800000#32))) Wf) (broadcastInDim S64x1024 ![0, 1] bcast_S1x1024_S64x1024_0_1 (broadcastInDim S1x1024 ![1] bcast_S1024_S1x1024_1 bf))
      = Moe.output x G W1 b1 W2 b2 Wf bf :=
  ReferenceIdeal.Value.ref_eq x G W1 b1 W2 b2 Wf bf

variable (m : (ℓ : Loc nD τ sig) → Buf (Elt Ideal) ℓ) (c : Dev nD)

/-- The tokens without their leading axis of one. -/
abbrev tokens : FVec Ideal S64x1024 .f32 := shapeCast S64x1024 (m ((c.tc : Thread nD τ).loc main_arg0)) shapeCasts_S1x64x1024_S64x1024

theorem out_eq : LayerReferenceIdeal.Value.res_main_v50 (F := Ideal) m c
    = Moe.output (tokens m c) (gates (tokens m c) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  rw [← gates_eq, ← tail_eq]
  rfl

end Cert.Layer.Ref

end
-- ==== Proof.Layer.Value.lean ====
/-
  The claims about the whole layer: its run leaves the arguments unchanged, whatever the numbers; and where the tokens, the gate
  weights and the gate biases are real numbers, its two results are the reference's.
-/
module

public import proofs.«01_k».proof.Defs
public import proofs.«01_k».proof.Proof.Layer.Launch
public import proofs.«01_k».proof.Proof.Layer.Gates
public import proofs.«01_k».proof.Proof.Layer.Sum
public import proofs.«01_k».proof.Proof.Layer.Finite
public import proofs.«01_k».proof.Proof.Layer.Ref

@[expose] public section

set_option maxRecDepth 16384

noncomputable section

namespace Cert.Layer.Value

open Cert.LayerIdeal hiding ix2
open Cert.LayerIdeal.Gen Cert.Layer.Tile Cert.Layer.Gate Cert.Layer.Experts Cert.Layer.Regions Cert.Layer.Launch
open Cert.Layer.Router Cert.Layer.Gates
open Idealize.ShloMosaic Idealize.ShloMosaic.TcCoe Idealize.SL.Sem
open Idealize.ShloMosaic.SparseCore (S V T)
open Cert.ExpertIdeal.Value (walk entry Listed)

section
variable {F : FTy → Type} [FloatOps F]

theorem ld0 (f0 : Vec F S64x1024 .f32) : View.readAt (Elt F) (Memref.whole cc0_stg0_0).view (Rect.unit ![0, 0] S64x1024.size inb_S64x1024_S64x1024_0_0).toLoadRect f0 = f0 :=
  Memref.readAt_unit_zero (Elt F) cc0_stg0_0 (by funext a; fin_cases a <;> rfl) _ _
theorem ld1 (f1 : Vec F S1024x64 .f32) : View.readAt (Elt F) (Memref.whole cc0_stg1_0).view (Rect.unit ![0, 0] S1024x64.size inb_S1024x64_S1024x64_0_0).toLoadRect f1 = f1 :=
  Memref.readAt_unit_zero (Elt F) cc0_stg1_0 (by funext a; fin_cases a <;> rfl) _ _
theorem ld2 (f2 : Vec F S64 .f32) : View.readAt (Elt F) (Memref.whole cc0_stg2_0).view (Rect.unit ![0] S64.size inb_S64_S64_0).toLoadRect f2 = f2 :=
  Memref.readAt_unit_zero (Elt F) cc0_stg2_0 (by funext a; fin_cases a; rfl) _ _

/-- The three staging buffers hold the payloads of the stores to them. -/
theorem gateRun_1 (c : Dev nD) (f0 f1 f2) : (gateRun (F := F) c f0 f1 f2).1.1 = k0_pay2 f0 f1 f2 := by
  unfold gateRun
  dsimp only
  unfold gateRun.sl.H3_1
  rw [ld0, ld1, ld2]
  refine funext fun (j : S64x64.Idx) => ?_
  exact View.read_writes_cons_unit_of_mem (Val := Elt F) (View.whole cc0_stg3_0) _ inb_S64x64_S64x64_0_0 (k0_pay2 f0 f1 f2) [] j j rfl
    (fun a => by fin_cases a <;> exact (Nat.zero_add _).symm)

theorem gateRun_2 (c : Dev nD) (f0 f1 f2) : (gateRun (F := F) c f0 f1 f2).1.2.1 = k0_pay5 f0 f1 f2 := by
  unfold gateRun
  dsimp only
  unfold gateRun.sl.H4_1
  rw [ld0, ld1, ld2]
  refine funext fun (j : S64x64.Idx) => ?_
  exact View.read_writes_cons_unit_of_mem (Val := Elt F) (View.whole cc0_stg4_0) _ inb_S64x64_S64x64_0_0 (k0_pay5 f0 f1 f2) [] j j rfl
    (fun a => by fin_cases a <;> exact (Nat.zero_add _).symm)

theorem gateRun_3 (c : Dev nD) (f0 f1 f2) : (gateRun (F := F) c f0 f1 f2).1.2.2 = k0_pay1 (k0_pay6 f0 f1 f2) := by
  unfold gateRun
  dsimp only
  unfold gateRun.sl.H5_1
  rw [ld0, ld1, ld2]
  refine funext fun (j : S64x1.Idx) => ?_
  exact View.read_writes_cons_unit_of_mem (Val := Elt F) (View.whole cc0_stg5_0) _ inb_S64x1_S64x1_0_0 (k0_pay1 (k0_pay6 f0 f1 f2)) [] j j rfl
    (fun a => by fin_cases a <;> exact (Nat.zero_add _).symm)

variable (m : (ℓ : Loc nD τ sig) → Buf (Elt F) ℓ) (c : Dev nD)

/-- The tokens without their leading axis of one, the gate weights and the gate biases. -/
abbrev tokens : Vec F S64x1024 .f32 := shapeCast S64x1024 (m ((T c : Thread nD τ).loc main_arg0)) shapeCasts_S1x64x1024_S64x1024
abbrev weights : Vec F S1024x64 .f32 := m ((T c : Thread nD τ).loc main_arg1)
abbrev biases : Vec F S64 .f32 := m ((T c : Thread nD τ).loc main_arg2)

theorem V₁_v0 : V₁ m c (Proc.devRef .tc main_v0) = tokens m c := rfl

theorem arg0v_eq : arg0v m c = tokens m c := by
  refine funext fun (j : S64x1024.Idx) => ?_
  rw [← V₁_v0]
  show V₁ m c main_v0 _ = V₁ m c main_v0 _
  congr 1; funext a; apply Fin.ext; fin_cases a
  · show 0 * 64 + 1 * (j 0).val = (j 0).val; omega
  · show 0 * 1024 + 1 * (j 1).val = (j 1).val; omega

theorem arg1v_eq : arg1v m c = weights m c := by
  have e : V₁ m c (Proc.devRef .tc main_arg1) = weights m c := V₁_keep m c (Proc.devRef .tc main_arg1) (by decide)
  refine funext fun (j : S1024x64.Idx) => ?_
  rw [← e]
  show V₁ m c main_arg1 _ = V₁ m c main_arg1 _
  congr 1; funext a; apply Fin.ext; fin_cases a
  · show 0 * 1024 + 1 * (j 0).val = (j 0).val; omega
  · show 0 * 64 + 1 * (j 1).val = (j 1).val; omega

theorem arg2v_eq : arg2v m c = biases m c := by
  have e : V₁ m c (Proc.devRef .tc main_arg2) = biases m c := V₁_keep m c (Proc.devRef .tc main_arg2) (by decide)
  refine funext fun (j : S64.Idx) => ?_
  rw [← e]
  show V₁ m c main_arg2 _ = V₁ m c main_arg2 _
  congr 1; funext a; apply Fin.ext; fin_cases a
  show 0 * 64 + 1 * (j 0).val = (j 0).val; omega

/-- The three results' arrays at the end of the region: each the one store's payload. -/
theorem hv_eq : hv m c = k0_pay2 (tokens m c) (weights m c) (biases m c) := by
  rw [← arg0v_eq m c, ← arg1v_eq m c, ← arg2v_eq m c, ← gateRun_1 c]
  refine (dat0 m c).arrAt_eq_of_cover 3 _ (fun t ht => ?_) (fun i => ⟨t0_0, rfl, ?_⟩)
  · obtain rfl := fin_N0 t
    refine funext fun (j : S64x64.Idx) => ?_
    refine congrArg (run m c).1.1 (funext fun (a : Fin 2) => Fin.ext ?_)
    fin_cases a
    · show (j 0).val = 0 * 64 + 1 * (j 0).val; omega
    · show (j 1).val = 0 * 64 + 1 * (j 1).val; omega
  · show i ∈ ((View.whole main_v1_0).slice ((cfg0.win 3).rect t0_0)).set
    erw [View.set_slice_whole]
    refine (Pipeline.Window.mem_rect_iff (cfg0.win 3) t0_0 i (by rfl)).mpr fun a => ?_
    have e : (cfg0.win 3).index t0_0 a * (cfg0.win 3).size a = 0
        ∧ (cfg0.win 3).xsize (grid0.coords t0_0) a = S64x64.size a := by
      fin_cases a <;> exact ⟨rfl, rfl⟩
    rw [e.1, e.2, Nat.zero_add]
    exact ⟨Nat.zero_le _, (i a).isLt⟩

theorem gv_eq : gv m c = k0_pay5 (tokens m c) (weights m c) (biases m c) := by
  rw [← arg0v_eq m c, ← arg1v_eq m c, ← arg2v_eq m c, ← gateRun_2 c]
  refine (dat0 m c).arrAt_eq_of_cover 4 _ (fun t ht => ?_) (fun i => ⟨t0_0, rfl, ?_⟩)
  · obtain rfl := fin_N0 t
    refine funext fun (j : S64x64.Idx) => ?_
    refine congrArg (run m c).1.2.1 (funext fun (a : Fin 2) => Fin.ext ?_)
    fin_cases a
    · show (j 0).val = 0 * 64 + 1 * (j 0).val; omega
    · show (j 1).val = 0 * 64 + 1 * (j 1).val; omega
  · show i ∈ ((View.whole main_v1_1).slice ((cfg0.win 4).rect t0_0)).set
    erw [View.set_slice_whole]
    refine (Pipeline.Window.mem_rect_iff (cfg0.win 4) t0_0 i (by rfl)).mpr fun a => ?_
    have e : (cfg0.win 4).index t0_0 a * (cfg0.win 4).size a = 0
        ∧ (cfg0.win 4).xsize (grid0.coords t0_0) a = S64x64.size a := by
      fin_cases a <;> exact ⟨rfl, rfl⟩
    rw [e.1, e.2, Nat.zero_add]
    exact ⟨Nat.zero_le _, (i a).isLt⟩

theorem iv_eq : iv m c = k0_pay1 (k0_pay6 (tokens m c) (weights m c) (biases m c)) := by
  rw [← arg0v_eq m c, ← arg1v_eq m c, ← arg2v_eq m c, ← gateRun_3 c]
  refine (dat0 m c).arrAt_eq_of_cover 5 _ (fun t ht => ?_) (fun i => ⟨t0_0, rfl, ?_⟩)
  · obtain rfl := fin_N0 t
    refine funext fun (j : S64x1.Idx) => ?_
    refine congrArg (run m c).1.2.2 (funext fun (a : Fin 2) => Fin.ext ?_)
    fin_cases a
    · show (j 0).val = 0 * 64 + 1 * (j 0).val; omega
    · show (j 1).val = 0 * 1 + 1 * (j 1).val; omega
  · show i ∈ ((View.whole main_v1_2).slice ((cfg0.win 5).rect t0_0)).set
    erw [View.set_slice_whole]
    refine (Pipeline.Window.mem_rect_iff (cfg0.win 5) t0_0 i (by rfl)).mpr fun a => ?_
    have e : (cfg0.win 5).index t0_0 a * (cfg0.win 5).size a = 0
        ∧ (cfg0.win 5).xsize (grid0.coords t0_0) a = S64x1.size a := by
      fin_cases a <;> exact ⟨rfl, rfl⟩
    rw [e.1, e.2, Nat.zero_add]
    exact ⟨Nat.zero_le _, (i a).isLt⟩

/-- The table's words are the list's: the reshape to a row and back moves none. -/
theorem tab_apply (n : Fin 64) : tab m c (ix2 n 0) = iv m c (ix2 n 0) := by
  unfold tab
  pointwise

end

variable (m : (ℓ : Loc nD τ sig) → Buf (Elt Ideal) ℓ) (c : Dev nD)

/-- The experts some row keeps. -/
abbrev active : Finset (Fin 64) := keptBy (tokens m c) (weights m c) (biases m c)
theorem active_nonempty : (active m c).Nonempty := keptBy_nonempty _ _ _

/-- The table lists them in ascending order, the greatest repeated to the end. -/
theorem tab_val (n : Fin 64) : (tab m c (ix2 n 0)).toNat = (nth (active m c) (active_nonempty m c) n).val := by
  rw [tab_apply, iv_eq]
  exact pay1_apply (active m c) (active_nonempty m c) _ (pay6_apply (tokens m c) (weights m c) (biases m c)) n

theorem inRange : InRange (A₂ m) := fun n => by
  show ((A₂ m 0 main_v4 : IVec S64x1 32) (ix2 n 0)).toNat < 64
  rw [A₂_v4, tab_val]
  exact (nth _ _ n).isLt

theorem gv_apply (b e : Fin 64) : gv m c (ix2 b e) = gate (row (tokens m c) (weights m c) (biases m c) b) e := by
  rw [gv_eq]
  exact pay5_apply _ _ _ b e

/-- Of real logits, an expert the table does not list has a zero gate. -/
theorem listed (hr : ∀ b e, ∃ r : ℝ, row (tokens m c) (weights m c) (biases m c) b e = r) : Listed (tab m c) (gv m c) where
  range n := by
    show (tab m c (ix2 n 0)).toNat < 64
    rw [tab_val]
    exact (nth _ _ n).isLt
  ascends n := by
    show (tab m c (ix2 n.castSucc 0)).toNat ≤ (tab m c (ix2 n.succ 0)).toNat
    rw [tab_val, tab_val]
    exact nth_mono _ _ (Fin.castSucc_lt_succ).le
  complete x hx b := by
    rw [gv_apply]
    refine gate_zero _ (hr b) x fun hk => ?_
    obtain ⟨j, hj⟩ := nth_complete (active m c) (active_nonempty m c) (e := x) (Finset.mem_filter.mpr ⟨Finset.mem_univ x, b, hk⟩)
    refine hx j ?_
    show (tab m c (ix2 j 0)).toNat = x.val
    rw [tab_val, hj]

theorem rows_real (h : Cert.Pre_LayerIdeal_finite m) (b e : Fin 64) : ∃ r : ℝ, row (tokens m c) (weights m c) (biases m c) b e = r := by
  have hf := h c
  exact Finite.logit_real _ _ _ (fun j => Finite.tokens hf _) (fun j => Finite.weights hf j) (fun j => Finite.biases hf j) b e

/-- What the two results are shown to hold. -/
abbrev out : Moe.Rows :=
  Moe.output (tokens m c) (Ref.gates (tokens m c) (weights m c) (biases m c)) (m ((T c : Thread nD τ).loc main_arg3)) (m ((T c : Thread nD τ).loc main_arg4))
    (m ((T c : Thread nD τ).loc main_arg5)) (m ((T c : Thread nD τ).loc main_arg6)) (m ((T c : Thread nD τ).loc main_arg7)) (m ((T c : Thread nD τ).loc main_arg8))

theorem gv_gates : gv m c = Ref.gates (tokens m c) (weights m c) (biases m c) := by
  refine funext fun (j : S64x64.Idx) => ?_
  obtain ⟨b, e, rfl⟩ : ∃ b e : Fin 64, j = ix2 b e := ⟨j 0, j 1, eq_ix2 j⟩
  exact gv_apply m c b e

theorem final_out (h : Cert.Pre_LayerIdeal_finite m) : final (A₂ m) (inRange m) c = out m c := by
  have hL : Listed (list (A₂ m)) (Sum.aG (A₂ m) c) := by
    have e1 : list (A₂ m) = tab m c := by
      obtain rfl : c = 0 := Subsingleton.elim _ _
      exact A₂_v4 m 0
    have e2 : Sum.aG (A₂ m) c = gv m c := A₂_v1_1 m c
    rw [e1, e2]
    exact listed m c (rows_real m c h)
  refine (Sum.final_eq (A₂ m) (inRange m) c hL).trans ?_
  have e0 : Sum.aX (A₂ m) c = tokens m c := (A₂_keep m c (Proc.devRef .tc main_v0) (by decide) (by decide)).trans (V₁_v0 m c)
  have e1 : Sum.aG (A₂ m) c = Ref.gates (tokens m c) (weights m c) (biases m c) := (A₂_v1_1 m c).trans (gv_gates m c)
  have e3 : Sum.aW1 (A₂ m) c = m ((T c : Thread nD τ).loc main_arg3) := A₂_arg m c (Proc.devRef .tc main_arg3) (by decide) (by decide) (by decide)
  have e4 : Sum.aB1 (A₂ m) c = m ((T c : Thread nD τ).loc main_arg4) := A₂_arg m c (Proc.devRef .tc main_arg4) (by decide) (by decide) (by decide)
  have e5 : Sum.aW2 (A₂ m) c = m ((T c : Thread nD τ).loc main_arg5) := A₂_arg m c (Proc.devRef .tc main_arg5) (by decide) (by decide) (by decide)
  have e6 : Sum.aB2 (A₂ m) c = m ((T c : Thread nD τ).loc main_arg6) := A₂_arg m c (Proc.devRef .tc main_arg6) (by decide) (by decide) (by decide)
  have e7 : Sum.aWf (A₂ m) c = m ((T c : Thread nD τ).loc main_arg7) := A₂_arg m c (Proc.devRef .tc main_arg7) (by decide) (by decide) (by decide)
  have e8 : Sum.aBf (A₂ m) c = m ((T c : Thread nD τ).loc main_arg8) := A₂_arg m c (Proc.devRef .tc main_arg8) (by decide) (by decide) (by decide)
  rw [e0, e1, e3, e4, e5, e6, e7, e8]

/-- The probabilities, with a leading axis of one. -/
abbrev probs : FVec Ideal S1x64x64 .f32 := shapeCast S1x64x64 (Cert.ProbsReferenceIdeal.Value.probs (m ((T c : Thread nD τ).loc main_arg0)) (weights m c) (biases m c) : FVec Ideal S64x64 .f32) shapeCasts_S64x64_S1x64x64

theorem lanes_same (op : EReal → EReal → EReal) (v : FVec Ideal S16 .f32) : Rows.lanes (F := Ideal) op v = ProbsIdeal.Rows.lanes (F := Ideal) op v := rfl

theorem top_same (a b c d : FVec Ideal S16 .f32) : Rows.top (F := Ideal) a b c d = ProbsIdeal.Rows.top (F := Ideal) a b c d := by
  unfold Rows.top ProbsIdeal.Rows.top
  rfl

theorem expOf_same (x : EReal) (v : FVec Ideal S16 .f32) : Rows.expOf (F := Ideal) x v = ProbsIdeal.Rows.expOf (F := Ideal) x v := rfl

theorem total_same (a b c d : FVec Ideal S16 .f32) : Rows.total (F := Ideal) a b c d = ProbsIdeal.Rows.total (F := Ideal) a b c d := by
  unfold Rows.total ProbsIdeal.Rows.total
  rfl

theorem denom_same (a b c d : FVec Ideal S16 .f32) : Rows.denom (F := Ideal) a b c d = ProbsIdeal.Rows.denom (F := Ideal) a b c d := by
  unfold Rows.denom ProbsIdeal.Rows.denom
  rw [total_same, top_same, expOf_same, expOf_same, expOf_same, expOf_same]

/-- The SparseCore kernel of the layer computes of a row what the one of the probabilities does. -/
theorem prob_same (g : Fin 64 → EReal) (e : Fin 64) : Rows.prob (F := Ideal) g e = ProbsIdeal.Rows.prob (F := Ideal) g e := by
  have h1 : Rows.rowTop (F := Ideal) g = ProbsIdeal.Rows.rowTop (F := Ideal) g := top_same _ _ _ _
  have h2 : Rows.rowDenom (F := Ideal) g = ProbsIdeal.Rows.rowDenom (F := Ideal) g := denom_same _ _ _ _
  unfold Rows.prob ProbsIdeal.Rows.prob
  rw [h1, h2]
  rfl

theorem probsOf_hv : probsOf (hv m c) = Cert.ProbsReferenceIdeal.Value.probs (m ((T c : Thread nD τ).loc main_arg0)) (weights m c) (biases m c) := by
  refine funext fun (j : S64x64.Idx) => ?_
  obtain ⟨b, e, rfl⟩ : ∃ b e : Fin 64, j = ix2 b e := ⟨j 0, j 1, eq_ix2 j⟩
  show Rows.prob (F := Ideal) (fun k => hv m c (ix2 b k)) e = Cert.Softmax.soft (row (tokens m c) (weights m c) (biases m c) b) e
  rw [hv_eq, prob_same]
  refine (Cert.Softmax.prob_eq _ e).trans ?_
  congr 1; funext k
  exact pay2_apply _ _ _ b k

theorem probs_res : probsRes m c = probs m c := by
  unfold probsRes
  rw [probsOf_hv]

theorem cast_eq (p : FVec Ideal S64x64 .f32) :
    broadcastInDim LayerReferenceIdeal.S1x64x64 ![1, 2] LayerReferenceIdeal.Gen.bcast_S64x64_S1x64x64_1_2 p = shapeCast S1x64x64 p shapeCasts_S64x64_S1x64x64 := by
  refine funext fun (j : S1x64x64.Idx) => ?_
  obtain ⟨b, e, rfl⟩ : ∃ b e : Fin 64, j = ix3 0 b e := ⟨j 1, j 2, by
    refine (eq_ix3 j).trans ?_
    congr 1
    exact Subsingleton.elim (α := Fin 1) _ _⟩
  pointwise

/-- The reference's second result. -/
theorem probs_ref (x : FVec Ideal LayerReferenceIdeal.S1x64x1024 .f32) (W : FVec Ideal LayerReferenceIdeal.S1024x64 .f32) (b : FVec Ideal LayerReferenceIdeal.S64 .f32) :
    broadcastInDim LayerReferenceIdeal.S1x64x64 ![1, 2] LayerReferenceIdeal.Gen.bcast_S64x64_S1x64x64_1_2
        (Ref.softmax (Ref.logits (shapeCast LayerReferenceIdeal.S64x1024 x LayerReferenceIdeal.Gen.shapeCasts_S1x64x1024_S64x1024) W b))
      = shapeCast S1x64x64 (Cert.ProbsReferenceIdeal.Value.probs x W b : FVec Ideal S64x64 .f32) shapeCasts_S64x64_S1x64x64 := by
  have e : Ref.softmax (Ref.logits (shapeCast LayerReferenceIdeal.S64x1024 x LayerReferenceIdeal.Gen.shapeCasts_S1x64x1024_S64x1024) W b)
      = Cert.ProbsReferenceIdeal.Value.probs x W b := by
    refine funext fun (j : S64x64.Idx) => ?_
    obtain ⟨b', k, rfl⟩ : ∃ b' k : Fin 64, j = ix2 b' k := ⟨j 0, j 1, eq_ix2 j⟩
    rw [Ref.softmax_apply]
    simp only [Ref.logits_apply]
    rfl
  rw [e]
  exact cast_eq _

/-! ## The claims -/

theorem frame_layerIdeal : Cert.quiescent_LayerIdeal := fun m ρ _ =>
  (θ_run Cert.LayerIdeal.defs _ _).mono (fun r h => ⟨fun c => (h.1 c).1, h.2⟩) (run_main m ρ (inRange m))

theorem frame_layerIdeal_finite : Cert.quiescent_LayerIdeal_pre_finite := fun m ρ _ => frame_layerIdeal m ρ trivial

theorem frame_reference : Cert.quiescent_LayerReferenceIdeal := fun m ρ _ =>
  (θ_run Cert.LayerReferenceIdeal.defs _ _).mono (fun r h => ⟨fun c => (h c).2.2, Idealize.ShloMosaic.sem_eq_zero_of_no_sems (by decide) r.2⟩)
    (Cert.LayerReferenceIdeal.Value.run m ρ)

theorem frame_reference_finite : Cert.quiescent_LayerReferenceIdeal_pre_finite := fun m ρ _ => frame_reference m ρ trivial

/-- The kernel's run, read. -/
theorem run_kernel (ρ : Dev nD → PrngReg) (h : Cert.Pre_LayerIdeal_finite m) :
    θ_run (defs (F := Ideal)) (threads (F := Ideal)) ⟨m, fun _ => 0, ρ⟩ fun r => ∀ c : Dev nD,
      r.2.mem ((T c : Thread nD τ).loc main_v5) = out m c
      ∧ r.2.mem ((T c : Thread nD τ).loc main_v6) = probs m c
      ∧ r.2.mem ((T c : Thread nD τ).loc main_arg0) = m ((T c : Thread nD τ).loc main_arg0)
      ∧ r.2.mem ((T c : Thread nD τ).loc main_arg1) = m ((T c : Thread nD τ).loc main_arg1)
      ∧ r.2.mem ((T c : Thread nD τ).loc main_arg2) = m ((T c : Thread nD τ).loc main_arg2)
      ∧ r.2.mem ((T c : Thread nD τ).loc main_arg3) = m ((T c : Thread nD τ).loc main_arg3)
      ∧ r.2.mem ((T c : Thread nD τ).loc main_arg4) = m ((T c : Thread nD τ).loc main_arg4)
      ∧ r.2.mem ((T c : Thread nD τ).loc main_arg5) = m ((T c : Thread nD τ).loc main_arg5)
      ∧ r.2.mem ((T c : Thread nD τ).loc main_arg6) = m ((T c : Thread nD τ).loc main_arg6)
      ∧ r.2.mem ((T c : Thread nD τ).loc main_arg7) = m ((T c : Thread nD τ).loc main_arg7)
      ∧ r.2.mem ((T c : Thread nD τ).loc main_arg8) = m ((T c : Thread nD τ).loc main_arg8) := by
  refine (θ_run defs _ _).mono (fun r hr c => ?_) (run_main m ρ (inRange m))
  obtain ⟨h1, h2, h3⟩ := hr.1 c
  exact ⟨h2.trans (final_out m c h), h3.trans (probs_res m c), h1⟩

theorem algebraic : Cert.algebraic_LayerIdeal_LayerReferenceIdeal_pre_finite := by
  intro m ρ m' ρ' hpre hagree
  refine ⟨fun c => out m c, fun c => probs m c, run_kernel m ρ hpre, ?_⟩
  refine (θ_run Cert.LayerReferenceIdeal.defs _ _).mono (fun _ h c => ⟨(h c).1.trans ?_, (h c).2.1.trans ?_, (h c).2.2⟩) (Cert.LayerReferenceIdeal.Value.run m' ρ')
  · obtain ⟨h0, h1, h2, h3, h4, h5, h6, h7, h8⟩ := hagree c
    refine (Ref.out_eq m' c).trans ?_
    unfold Ref.tokens
    rw [h0, h1, h2, h3, h4, h5, h6, h7, h8]
  · obtain ⟨h0, h1, h2, -⟩ := hagree c
    rw [h0, h1, h2]
    exact probs_ref (m ((T c : Thread nD τ).loc main_arg0)) (weights m c) (biases m c)

end Cert.Layer.Value

end
-- ==== Proof.lean ====
/- The claims, assembled (hand-written, untrusted): the expert call's, the probabilities' and the whole layer's, each from
   its module under proof/Proof/. -/
module

public import proofs.«01_k».proof.Defs
public import proofs.«01_k».proof.Proof.Gen.Expert
public import proofs.«01_k».proof.Proof.Gen.Pre_listed
public import proofs.«01_k».proof.Proof.Expert.Value
public import proofs.«01_k».proof.Proof.Gen.Probs
public import proofs.«01_k».proof.Proof.Gen.ProbsIdeal
public import proofs.«01_k».proof.Proof.Gen.ProbsReferenceIdeal
public import proofs.«01_k».proof.Proof.Probs.Value
public import proofs.«01_k».proof.Proof.Gen.LayerIdeal
public import proofs.«01_k».proof.Proof.Gen.LayerIdeal.Skeleton
public import proofs.«01_k».proof.Proof.Gen.LayerIdeal.Launch
public import proofs.«01_k».proof.Proof.Gen.LayerIdeal.Points
public import proofs.«01_k».proof.Proof.Gen.LayerReferenceIdeal
public import proofs.«01_k».proof.Proof.Gen.LayerReferenceIdeal.Run
public import proofs.«01_k».proof.Proof.Gen.Pre_finite
public import proofs.«01_k».proof.Proof.Layer.Value

@[expose] public section

noncomputable section

namespace Cert.Proof

open Idealize.ShloMosaic Idealize.SL.Sem Cert.Expert

theorem claim : Cert.Claim :=
  ⟨Cert.Expert.Gen.facts, Cert.ExpertIdeal.Gen.facts, Cert.ReferenceIdeal.Gen.facts,
    Cert.Probs.Gen.facts, Cert.ProbsIdeal.Gen.facts, Cert.ProbsReferenceIdeal.Gen.facts,
    Cert.LayerIdeal.Gen.facts, Cert.LayerReferenceIdeal.Gen.facts, Cert.Pre_listed.Gen.facts, Cert.Pre_finite.Gen.facts,
    Cert.ExpertIdeal.Value.frame_expert, Cert.ExpertIdeal.Value.frame_expertIdeal, Cert.ExpertIdeal.Value.frame_reference,
    Cert.ExpertIdeal.Value.frame_reference_listed,
    Cert.ProbsIdeal.Value.frame_probs, Cert.ProbsIdeal.Value.frame_probsIdeal, Cert.ProbsIdeal.Value.frame_reference,
    Cert.Layer.Value.frame_layerIdeal, Cert.Layer.Value.frame_layerIdeal_finite,
    Cert.Layer.Value.frame_reference, Cert.Layer.Value.frame_reference_finite,
    trivial, Cert.ExpertIdeal.Value.algebraic, trivial, Cert.ProbsIdeal.Value.algebraic, Cert.Layer.Value.algebraic⟩

end Cert.Proof

end
